-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16384x4352 : Shape := ⟨2, ![16384, 4352]⟩
abbrev S32x16 : Shape := ⟨2, ![32, 16]⟩
abbrev S16 : Shape := ⟨1, ![16]⟩
abbrev S1024 : Shape := ⟨1, ![1024]⟩
abbrev S1x4352 : Shape := ⟨2, ![1, 4352]⟩
abbrev S256x128 : Shape := ⟨2, ![256, 128]⟩
abbrev S256x256 : Shape := ⟨2, ![256, 256]⟩
abbrev S1x1024 : Shape := ⟨2, ![1, 1024]⟩
abbrev S16384x2048 : Shape := ⟨2, ![16384, 2048]⟩
abbrev S128x1024 : Shape := ⟨2, ![128, 1024]⟩
abbrev S128x128 : Shape := ⟨2, ![128, 128]⟩
abbrev S128x2048 : Shape := ⟨2, ![128, 2048]⟩
abbrev S2x8x256x256 : Shape := ⟨4, ![2, 8, 256, 256]⟩
abbrev S1024x128 : Shape := ⟨2, ![1024, 128]⟩
abbrev S8x256x128 : Shape := ⟨3, ![8, 256, 128]⟩
abbrev S8x128x128 : Shape := ⟨3, ![8, 128, 128]⟩
abbrev S8 : Shape := ⟨1, ![8]⟩
abbrev S2 : Shape := ⟨1, ![2]⟩
abbrev S1x1 : Shape := ⟨2, ![1, 1]⟩
abbrev S1x1x256x128 : Shape := ⟨4, ![1, 1, 256, 128]⟩
abbrev S1x256x128 : Shape := ⟨3, ![1, 256, 128]⟩
abbrev S1x128x128 : Shape := ⟨3, ![1, 128, 128]⟩
abbrev S1x256 : Shape := ⟨2, ![1, 256]⟩
abbrev S256x64 : Shape := ⟨2, ![256, 64]⟩
abbrev S128x256 : Shape := ⟨2, ![128, 256]⟩
abbrev S1x1x256x256 : Shape := ⟨4, ![1, 1, 256, 256]⟩
abbrev S1 : Shape := ⟨1, ![1]⟩
abbrev S256 : Shape := ⟨1, ![256]⟩
abbrev S64x128 : Shape := ⟨2, ![64, 128]⟩
abbrev S128 : Shape := ⟨1, ![128]⟩
abbrev S1x128 : Shape := ⟨2, ![1, 128]⟩
abbrev S1x1x1 : Shape := ⟨3, ![1, 1, 1]⟩
abbrev S_ : Shape := ⟨0, ![]⟩
abbrev S128x1 : Shape := ⟨2, ![128, 1]⟩

abbrev nBuf : Space → Nat
  | .hbm => 14
  | .vmem => 37
  | .smem => 3
  | _ => 0

abbrev bufTy : (tb : Table) → Fin (tcTables nBuf tb) → BufTy
  | .hbm, ⟨0, _⟩ => ⟨S16384x4352, .f32⟩
  | .hbm, ⟨1, _⟩ => ⟨S32x16, .f32⟩
  | .hbm, ⟨2, _⟩ => ⟨S16, .f32⟩
  | .hbm, ⟨3, _⟩ => ⟨S1024, .f32⟩
  | .hbm, ⟨4, _⟩ => ⟨S1024, .f32⟩
  | .hbm, ⟨5, _⟩ => ⟨S1x4352, .f32⟩
  | .hbm, ⟨6, _⟩ => ⟨S256x128, .i32⟩
  | .hbm, ⟨7, _⟩ => ⟨S256x256, .bf16⟩
  | .hbm, ⟨8, _⟩ => ⟨S16384x4352, .f32⟩
  | .hbm, ⟨9, _⟩ => ⟨S16384x4352, .f32⟩
  | .hbm, ⟨10, _⟩ => ⟨S16384x4352, .bf16⟩
  | .hbm, ⟨11, _⟩ => ⟨S1x1024, .f32⟩
  | .hbm, ⟨12, _⟩ => ⟨S1x1024, .f32⟩
  | .hbm, ⟨13, _⟩ => ⟨S16384x2048, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x128, .i32⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S256x256, .bf16⟩
  | .local _ .vmem, ⟨27, _⟩ => ⟨S1x1024, .f32⟩
  | .local _ .vmem, ⟨28, _⟩ => ⟨S128x2048, .bf16⟩
  | .local _ .vmem, ⟨29, _⟩ => ⟨S128x2048, .bf16⟩
  | .local _ .vmem, ⟨30, _⟩ => ⟨S2x8x256x256, .f32⟩
  | .local _ .vmem, ⟨31, _⟩ => ⟨S1024x128, .f32⟩
  | .local _ .vmem, ⟨32, _⟩ => ⟨S8x256x128, .bf16⟩
  | .local _ .vmem, ⟨33, _⟩ => ⟨S8x128x128, .bf16⟩
  | .local _ .vmem, ⟨34, _⟩ => ⟨S8x128x128, .bf16⟩
  | .local _ .vmem, ⟨35, _⟩ => ⟨S8x256x128, .f32⟩
  | .local _ .vmem, ⟨36, _⟩ => ⟨S8x256x128, .f32⟩
  | .local _ .smem, ⟨0, _⟩ => ⟨S32x16, .f32⟩
  | .local _ .smem, ⟨1, _⟩ => ⟨S16, .f32⟩
  | .local _ .smem, ⟨2, _⟩ => ⟨S8, .i32⟩
  | _, _ => ⟨S16384x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_stg6_0 : Ref sig .tc := ⟨.smem, 0, rfl⟩
abbrev cc0_stg7_0 : Ref sig .tc := ⟨.smem, 1, rfl⟩
abbrev cc0_scratch7 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_10 : BitVec 32 := 0#32
  let c8_i32 : BitVec 32 := 8#32
  let v32 : BitVec 32 := Scalar.addi c0_i32_10 c8_i32
  let c1_i32_11 : BitVec 32 := 1#32
  ⟨c0_i32_10, v32, c1_i32_11⟩
def k0_off1 (k0_t1 : Fin k0_t1_loop.trips) : Fin 1 → Nat :=
  let c0_i32_10 : BitVec 32 := 0#32
  let c1_i32_11 : BitVec 32 := 1#32
  let arg30 : BitVec 32 := Scf.iv c0_i32_10 c1_i32_11 k0_t1
  let v160 : Index := Scalar.indexCast arg30
  ![v160.toNat]
def k0_mult1 (arg31 : BitVec 32) : BitVec 32 :=
  let c128_i32_102 : BitVec 32 := 128#32
  let v231 : BitVec 32 := Scalar.muli arg31 c128_i32_102
  v231
def k0_cond4 (i : grid0.Coords) (arg31 : BitVec 32) : BitVec 1 :=
  let arg0 : BitVec 32 := BitVec.ofNat 32 (i 0).val
  let c2_i32_73 : BitVec 32 := 2#32
  let v163 : BitVec 32 := Scalar.subi arg0 c2_i32_73
  let v164 : BitVec 1 := Scalar.cmpi .slt arg31 v163
  let v165 : BitVec 32 := Scalar.extui v164
  let c0_i32_74 : BitVec 32 := 0#32
  let v166 : BitVec 1 := Scalar.cmpi .ne v165 c0_i32_74
  v166

def k0_mult2 (k0_t1 : Fin k0_t1_loop.trips) : BitVec 32 :=
  let c2304_i32 : BitVec 32 := 2304#32
  let c0_i32_10 : BitVec 32 := 0#32
  let c1_i32_11 : BitVec 32 := 1#32
  let arg30 : BitVec 32 := Scf.iv c0_i32_10 c1_i32_11 k0_t1
  let c128_i32_103 : BitVec 32 := 128#32
  let v233 : BitVec 32 := Scalar.muli arg30 c128_i32_103
  let v234 : BitVec 32 := Scalar.addi c2304_i32 v233
  v234
def k0_mult3 (arg31 : BitVec 32) : BitVec 32 :=
  let c128_i32_104 : BitVec 32 := 128#32
  let v236 : BitVec 32 := Scalar.muli arg31 c128_i32_104
  v236
def k0_mult4 (k0_t1 : Fin k0_t1_loop.trips) : BitVec 32 :=
  let c3328_i32 : BitVec 32 := 3328#32
  let c0_i32_10 : BitVec 32 := 0#32
  let c1_i32_11 : BitVec 32 := 1#32
  let arg30 : BitVec 32 := Scf.iv c0_i32_10 c1_i32_11 k0_t1
  let c128_i32_105 : BitVec 32 := 128#32
  let v238 : BitVec 32 := Scalar.muli arg30 c128_i32_105
  let v239 : BitVec 32 := Scalar.addi c3328_i32 v238
  v239
def k0_off2 (k0_t1 : Fin k0_t1_loop.trips) : Fin 3 → Nat :=
  let c0_i32_10 : BitVec 32 := 0#32
  let c1_i32_11 : BitVec 32 := 1#32
  let arg30 : BitVec 32 := Scf.iv c0_i32_10 c1_i32_11 k0_t1
  let c0_i32_107 : BitVec 32 := 0#32
  let c0_i32_108 : BitVec 32 := 0#32
  ![arg30.toNat, 0, 0]
def k0_off3 (k0_t1 : Fin k0_t1_loop.trips) (arg31 : BitVec 32) (c2304_i32 : BitVec 32) : Fin 2 → Nat :=
  let c128_i32_102 : BitVec 32 := 128#32
  let v231 : BitVec 32 := Scalar.muli arg31 c128_i32_102
  let v232 : BitVec 32 := v231
  let c0_i32_10 : BitVec 32 := 0#32
  let c1_i32_11 : BitVec 32 := 1#32
  let arg30 : BitVec 32 := Scf.iv c0_i32_10 c1_i32_11 k0_t1
  let c128_i32_103 : BitVec 32 := 128#32
  let v233 : BitVec 32 := Scalar.muli arg30 c128_i32_103
  let v234 : BitVec 32 := Scalar.addi c2304_i32 v233
  let v235 : BitVec 32 := v234
  ![v232.toNat, v235.toNat]

def k0_chk1 (i : grid0.Coords) (k0_t1 : Fin k0_t1_loop.trips) (arg31 : BitVec 32) : Prop :=
  (∀ (k0_h4 : k0_cond4 i arg31 = 1#1), 128 ∣ (k0_mult1 arg31).toNat) ∧
  (∀ (k0_h4 : k0_cond4 i arg31 = 1#1), 128 ∣ (k0_mult3 arg31).toNat) ∧
  (∀ (k0_h4 : k0_cond4 i arg31 = 1#1), ∀ (r : Fin 2), ∀ a, (k0_off3 k0_t1 arg31 (BitVec.ofNat 32 (2304 + 1024 * r.val))) a + S128x128.size a ≤ S16384x4352.size a) ∧
  (∀ (k0_h4 : k0_cond4 i arg31 = 1#1), ∀ (r : Fin 2), ∀ (hinb : ∀ a, (k0_off3 k0_t1 arg31 (BitVec.ofNat 32 (2304 + 1024 * r.val))) a + S128x128.size a ≤ S16384x4352.size a), (Rect.unit (s := S16384x4352) (k0_off3 k0_t1 arg31 (BitVec.ofNat 32 (2304 + 1024 * r.val))) S128x128.size hinb).WholeWords (EltTy.packing .bf16))
theorem k0_mult1_dvd : ∀ (i : grid0.Coords) (k0_t1 : Fin k0_t1_loop.trips) (arg31 : BitVec 32) (k0_hw1 : k0_chk1 i k0_t1 arg31), ∀ (k0_h4 : k0_cond4 i arg31 = 1#1), 128 ∣ (k0_mult1 arg31).toNat := fun i k0_t1 arg31 k0_hw1 k0_h4 => k0_hw1.1 k0_h4
theorem k0_mult3_dvd : ∀ (i : grid0.Coords) (k0_t1 : Fin k0_t1_loop.trips) (arg31 : BitVec 32) (k0_hw1 : k0_chk1 i k0_t1 arg31), ∀ (k0_h4 : k0_cond4 i arg31 = 1#1), 128 ∣ (k0_mult3 arg31).toNat := fun i k0_t1 arg31 k0_hw1 k0_h4 => k0_hw1.2.1 k0_h4
theorem k0_off3_inb : ∀ (i : grid0.Coords) (k0_t1 : Fin k0_t1_loop.trips) (arg31 : BitVec 32) (k0_hw1 : k0_chk1 i k0_t1 arg31), ∀ (k0_h4 : k0_cond4 i arg31 = 1#1), ∀ (r : Fin 2), ∀ a, (k0_off3 k0_t1 arg31 (BitVec.ofNat 32 (2304 + 1024 * r.val))) a + S128x128.size a ≤ S16384x4352.size a := fun i k0_t1 arg31 k0_hw1 k0_h4 r => k0_hw1.2.2.1 k0_h4 r
theorem k0_off3_wordsbf16 : ∀ (i : grid0.Coords) (k0_t1 : Fin k0_t1_loop.trips) (arg31 : BitVec 32) (k0_hw1 : k0_chk1 i k0_t1 arg31), ∀ (k0_h4 : k0_cond4 i arg31 = 1#1), ∀ (r : Fin 2), (Rect.unit (s := S16384x4352) (k0_off3 k0_t1 arg31 (BitVec.ofNat 32 (2304 + 1024 * r.val))) S128x128.size (k0_off3_inb i k0_t1 arg31 k0_hw1 k0_h4 r)).WholeWords (EltTy.packing .bf16) := fun i k0_t1 arg31 k0_hw1 k0_h4 r => k0_hw1.2.2.2 k0_h4 r (k0_off3_inb i k0_t1 arg31 k0_hw1 k0_h4 r)

def k0_off4 (k0_t1 : Fin k0_t1_loop.trips) : Fin 3 → Nat :=
  let c0_i32_10 : BitVec 32 := 0#32
  let c1_i32_11 : BitVec 32 := 1#32
  let arg30 : BitVec 32 := Scf.iv c0_i32_10 c1_i32_11 k0_t1
  let v167 : Index := Scalar.indexCast arg30
  let c0_75 : Index := 0#32
  let c0_76 : Index := 0#32
  ![v167.toNat, 0, 0]
def k0_off5 (k0_t1 : Fin k0_t1_loop.trips) : Fin 3 → Nat :=
  let c0_i32_10 : BitVec 32 := 0#32
  let c1_i32_11 : BitVec 32 := 1#32
  let arg30 : BitVec 32 := Scf.iv c0_i32_10 c1_i32_11 k0_t1
  let v170 : Index := Scalar.indexCast arg30
  let c0_77 : Index := 0#32
  let c0_78 : Index := 0#32
  ![v170.toNat, 0, 0]
def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c128_i32 : BitVec 32 := 128#32
  let v2 : BitVec 32 := Scalar.muli v1 c128_i32
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c8_i32 : BitVec 32 := 8#32
  let c0_i32_1 : BitVec 32 := 0#32
  ![v1.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c9_i32 : BitVec 32 := 9#32
  let c0_i32_1 : BitVec 32 := 0#32
  ![v1.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c128_i32 : BitVec 32 := 128#32
  let v2 : BitVec 32 := Scalar.muli v1 c128_i32
  let c1280_i32 : BitVec 32 := 1280#32
  let c0_i32_1 : BitVec 32 := 0#32
  ![v2.toNat, c1280_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c128_i32 : BitVec 32 := 128#32
  let v2 : BitVec 32 := Scalar.muli v1 c128_i32
  let c2304_i32 : BitVec 32 := 2304#32
  let c0_i32_0 : BitVec 32 := 0#32
  ![v2.toNat, c2304_i32.toNat]

def cc0_transform_11 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c128_i32 : BitVec 32 := 128#32
  let v2 : BitVec 32 := Scalar.muli v1 c128_i32
  let c2304_i32 : BitVec 32 := 2304#32
  let c0_i32_1 : BitVec 32 := 0#32
  ![v2.toNat, c2304_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c128_i32 : BitVec 32 := 128#32
  let v2 : BitVec 32 := Scalar.muli v1 c128_i32
  let c3328_i32 : BitVec 32 := 3328#32
  let c0_i32_0 : BitVec 32 := 0#32
  ![v2.toNat, c3328_i32.toNat]

def cc0_transform_13 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c128_i32 : BitVec 32 := 128#32
  let v2 : BitVec 32 := Scalar.muli v1 c128_i32
  let c3328_i32 : BitVec 32 := 3328#32
  let c0_i32_1 : BitVec 32 := 0#32
  ![v2.toNat, c3328_i32.toNat]

def cc0_transform_14 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c128_i32 : BitVec 32 := 128#32
  let v2 : BitVec 32 := Scalar.muli v1 c128_i32
  let c2304_i32 : BitVec 32 := 2304#32
  let c0_i32_0 : BitVec 32 := 0#32
  ![v2.toNat, c2304_i32.toNat]

def cc0_transform_15 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c128_i32 : BitVec 32 := 128#32
  let v2 : BitVec 32 := Scalar.muli v1 c128_i32
  let c3328_i32 : BitVec 32 := 3328#32
  let c0_i32_0 : BitVec 32 := 0#32
  ![v2.toNat, c3328_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S128x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel2.lean ====
abbrev S16384x2048 : Shape := ⟨2, ![16384, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S2048x2x11x512 : Shape := ⟨4, ![2048, 2, 11, 512]⟩
abbrev S11x2048x2x512 : Shape := ⟨4, ![11, 2048, 2, 512]⟩
abbrev S11x2048x1024 : Shape := ⟨3, ![11, 2048, 1024]⟩
abbrev S1x5632 : Shape := ⟨2, ![1, 5632]⟩
abbrev S1x2048 : Shape := ⟨2, ![1, 2048]⟩
abbrev S1024x2048 : Shape := ⟨2, ![1024, 2048]⟩
abbrev S1x2048x1024 : Shape := ⟨3, ![1, 2048, 1024]⟩
abbrev S3x512 : Shape := ⟨2, ![3, 512]⟩
abbrev S1x512 : Shape := ⟨2, ![1, 512]⟩
abbrev S512x2048 : Shape := ⟨2, ![512, 2048]⟩
abbrev S1032x512 : Shape := ⟨2, ![1032, 512]⟩
abbrev S11x8x512 : Shape := ⟨3, ![11, 8, 512]⟩
abbrev S8x512 : Shape := ⟨2, ![8, 512]⟩
abbrev S1x8x512 : Shape := ⟨3, ![1, 8, 512]⟩
abbrev S2048x1024 : Shape := ⟨2, ![2048, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 16
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048, .f32⟩
  | .hbm, ⟨7, _⟩ => ⟨S2048x11264, .bf16⟩
  | .hbm, ⟨8, _⟩ => ⟨S2048x2x11x512, .bf16⟩
  | .hbm, ⟨9, _⟩ => ⟨S11x2048x2x512, .bf16⟩
  | .hbm, ⟨10, _⟩ => ⟨S11x2048x1024, .bf16⟩
  | .hbm, ⟨11, _⟩ => ⟨S16384x2048, .bf16⟩
  | .hbm, ⟨12, _⟩ => ⟨S1x5632, .f32⟩
  | .hbm, ⟨13, _⟩ => ⟨S5632x2048, .bf16⟩
  | .hbm, ⟨14, _⟩ => ⟨S1x2048, .f32⟩
  | .hbm, ⟨15, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S512x2048, .bf16⟩
  | .local _ .vmem, ⟨10, _⟩ => ⟨S1024x2048, .f32⟩
  | .local _ .vmem, ⟨11, _⟩ => ⟨S1024x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S1032x512, .f32⟩
  | .local _ .vmem, ⟨16, _⟩ => ⟨S11x8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v66 : Index := Scalar.indexCast arg1
  let c0_37 : Index := 0#32
  let c0_38 : Index := 0#32
  ![v66.toNat, 0, 0]
def k0_off2 (i : grid0.Coords) : Fin 3 → Nat :=
  let arg1 : BitVec 32 := BitVec.ofNat 32 (i 1).val
  let v11 : Index := Scalar.indexCast arg1
  let c0_7 : Index := 0#32
  let c0_8 : Index := 0#32
  ![v11.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x2048 : Shape := ⟨2, ![16384, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S16384x11264 : Shape := ⟨2, ![16384, 11264]⟩
abbrev S16384x5632 : Shape := ⟨2, ![16384, 5632]⟩
abbrev S_ : Shape := ⟨0, ![]⟩
abbrev S16386x5632 : Shape := ⟨2, ![16386, 5632]⟩
abbrev S1x5632 : Shape := ⟨2, ![1, 5632]⟩
abbrev S16384 : Shape := ⟨1, ![16384]⟩
abbrev S16384x1 : Shape := ⟨2, ![16384, 1]⟩
abbrev S1x2048 : Shape := ⟨2, ![1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2048, .f32⟩
  | .hbm, ⟨7, _⟩ => ⟨S16384x11264, .f32⟩
  | .hbm, ⟨8, _⟩ => ⟨S16384x5632, .f32⟩
  | .hbm, ⟨9, _⟩ => ⟨S16384x5632, .f32⟩
  | .hbm, ⟨10, _⟩ => ⟨S_, .i32⟩
  | .hbm, ⟨11, _⟩ => ⟨S_, .f32⟩
  | .hbm, ⟨12, _⟩ => ⟨S16386x5632, .f32⟩
  | .hbm, ⟨13, _⟩ => ⟨S16384x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S16384x5632, .f32⟩
  | .hbm, ⟨18, _⟩ => ⟨S16384x5632, .f32⟩
  | .hbm, ⟨19, _⟩ => ⟨S1x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S1x5632, .f32⟩
  | .hbm, ⟨31, _⟩ => ⟨S5632, .f32⟩
  | .hbm, ⟨32, _⟩ => ⟨S1x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S_, .f32⟩
  | .hbm, ⟨39, _⟩ => ⟨S16384x5632, .f32⟩
  | .hbm, ⟨40, _⟩ => ⟨S16384x5632, .f32⟩
  | .hbm, ⟨41, _⟩ => ⟨S_, .f32⟩
  | .hbm, ⟨42, _⟩ => ⟨S16384x5632, .f32⟩
  | .hbm, ⟨43, _⟩ => ⟨S16384x5632, .f32⟩
  | .hbm, ⟨44, _⟩ => ⟨S16384x5632, .f32⟩
  | .hbm, ⟨45, _⟩ => ⟨S16384x5632, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x2048, .f32⟩
  | .hbm, ⟨60, _⟩ => ⟨S16384x2048, .f32⟩
  | .hbm, ⟨61, _⟩ => ⟨S1x2048, .f32⟩
  | .hbm, ⟨62, _⟩ => ⟨S16384x2048, .f32⟩
  | .hbm, ⟨63, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_v32 : Ref sig .tc := ⟨.hbm, 50, rfl⟩
abbrev main_v33 : Ref sig .tc := ⟨.hbm, 51, rfl⟩
abbrev main_cst_0 : Ref sig .tc := ⟨.hbm, 52, rfl⟩
abbrev main_v34 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048x2048, .f32⟩
  | .hbm, ⟨4, _⟩ => ⟨S16384x2048, .bf16⟩
  | .hbm, ⟨5, _⟩ => ⟨S1x2048, .f32⟩
  | .hbm, ⟨6, _⟩ => ⟨S2048x2048, .bf16⟩
  | .hbm, ⟨7, _⟩ => ⟨S16384x2048, .f32⟩
  | .hbm, ⟨8, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S16384x2048 : Shape := ⟨2, ![16384, 2048]⟩
abbrev S2048x4352 : Shape := ⟨2, ![2048, 4352]⟩
abbrev S2048 : Shape := ⟨1, ![2048]⟩
abbrev S2048x2048 : Shape := ⟨2, ![2048, 2048]⟩
abbrev S2048x11264 : Shape := ⟨2, ![2048, 11264]⟩
abbrev S5632x2048 : Shape := ⟨2, ![5632, 2048]⟩
abbrev S1x2048 : Shape := ⟨2, ![1, 2048]⟩
abbrev S16384x4352 : Shape := ⟨2, ![16384, 4352]⟩
abbrev S11x2048x1024 : Shape := ⟨3, ![11, 2048, 1024]⟩
abbrev S512x2048 : Shape := ⟨2, ![512, 2048]⟩
abbrev S64x2048 : Shape := ⟨2, ![64, 2048]⟩
abbrev S64x11264 : Shape := ⟨2, ![64, 11264]⟩
abbrev S176x2048 : Shape := ⟨2, ![176, 2048]⟩
abbrev S512x4352 : Shape := ⟨2, ![512, 4352]⟩
abbrev S11x64x1024 : Shape := ⟨3, ![11, 64, 1024]⟩
abbrev S512 : Shape := ⟨1, ![512]⟩
abbrev S512x1 : Shape := ⟨2, ![512, 1]⟩
abbrev S64x512 : Shape := ⟨2, ![64, 512]⟩
abbrev S1x64x512 : Shape := ⟨3, ![1, 64, 512]⟩

abbrev nBuf : Space → Nat
  | .hbm => 12
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048x4352, .f32⟩
  | .hbm, ⟨2, _⟩ => ⟨S2048, .f32⟩
  | .hbm, ⟨3, _⟩ => ⟨S2048x2048, .f32⟩
  | .hbm, ⟨4, _⟩ => ⟨S2048x11264, .f32⟩
  | .hbm, ⟨5, _⟩ => ⟨S5632x2048, .f32⟩
  | .hbm, ⟨6, _⟩ => ⟨S1x2048, .f32⟩
  | .hbm, ⟨7, _⟩ => ⟨S2048x4352, .bf16⟩
  | .hbm, ⟨8, _⟩ => ⟨S16384x4352, .bf16⟩
  | .hbm, ⟨9, _⟩ => ⟨S2048x2048, .bf16⟩
  | .hbm, ⟨10, _⟩ => ⟨S11x2048x1024, .bf16⟩
  | .hbm, ⟨11, _⟩ => ⟨S5632x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4352, .bf16⟩
  | .local _ .vmem, ⟨4, _⟩ => ⟨S64x2048, .f32⟩
  | .local _ .vmem, ⟨5, _⟩ => ⟨S64x2048, .f32⟩
  | .local _ .vmem, ⟨6, _⟩ => ⟨S64x11264, .f32⟩
  | .local _ .vmem, ⟨7, _⟩ => ⟨S64x11264, .f32⟩
  | .local _ .vmem, ⟨8, _⟩ => ⟨S176x2048, .f32⟩
  | .local _ .vmem, ⟨9, _⟩ => ⟨S176x2048, .f32⟩
  | .local _ .vmem, ⟨10, _⟩ => ⟨S512x4352, .bf16⟩
  | .local _ .vmem, ⟨11, _⟩ => ⟨S512x4352, .bf16⟩
  | .local _ .vmem, ⟨12, _⟩ => ⟨S64x2048, .bf16⟩
  | .local _ .vmem, ⟨13, _⟩ => ⟨S64x2048, .bf16⟩
  | .local _ .vmem, ⟨14, _⟩ => ⟨S11x64x1024, .bf16⟩
  | .local _ .vmem, ⟨15, _⟩ => ⟨S11x64x1024, .bf16⟩
  | .local _ .vmem, ⟨16, _⟩ => ⟨S176x2048, .bf16⟩
  | .local _ .vmem, ⟨17, _⟩ => ⟨S176x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x11264 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4352 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S11x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x2048 : Shape := ⟨2, ![16384, 2048]⟩
abbrev S2048x4352 : Shape := ⟨2, ![2048, 4352]⟩
abbrev S2048 : Shape := ⟨1, ![2048]⟩
abbrev S2048x2048 : Shape := ⟨2, ![2048, 2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x2x11x512 : Shape := ⟨4, ![2048, 2, 11, 512]⟩
abbrev S11x2048x2x512 : Shape := ⟨4, ![11, 2048, 2, 512]⟩
abbrev S11x2048x1024 : Shape := ⟨3, ![11, 2048, 1024]⟩
abbrev S16384x4352 : Shape := ⟨2, ![16384, 4352]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x4352, .f32⟩
  | .hbm, ⟨2, _⟩ => ⟨S2048, .f32⟩
  | .hbm, ⟨3, _⟩ => ⟨S2048x2048, .f32⟩
  | .hbm, ⟨4, _⟩ => ⟨S2048x11264, .f32⟩
  | .hbm, ⟨5, _⟩ => ⟨S5632x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x2x11x512, .f32⟩
  | .hbm, ⟨23, _⟩ => ⟨S11x2048x2x512, .f32⟩
  | .hbm, ⟨24, _⟩ => ⟨S11x2048x1024, .f32⟩
  | .hbm, ⟨25, _⟩ => ⟨S16384x4352, .f32⟩
  | .hbm, ⟨26, _⟩ => ⟨S16384x4352, .bf16⟩
  | .hbm, ⟨27, _⟩ => ⟨S2048x2048, .bf16⟩
  | .hbm, ⟨28, _⟩ => ⟨S11x2048x1024, .bf16⟩
  | .hbm, ⟨29, _⟩ => ⟨S5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Safe.lean ====
/-
  Hand-written. What the frame of the attention kernel asks of its body: that every memory operation finds the
  buffer it touches held, at contents nothing names, and gives it back. `Safe c bd O p` says that `p`, run on core `c`
  while `O` is held, ends with `O` held; the lemmas below are its rules, one per operation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
abbrev MM (F : FTy → Type) := MT nD τ sig Unit (Elt F) ℕ (Pipeline.UD sig nD τ) ℕ

/-- The while loop's label is answered at the number of trips it may still make. -/
abbrev 𝒱₀ : Variants := Variants.nat

/-- A memref's elements held in full, at contents nothing names. -/
abbrev Held (c : Dev nD) {sp : Space} {S : Shape} {e : EltTy} (M : Memref sig .tc sp S e) : sProp (MM F) :=
  iprop(∃ f : Buf (Elt F) (M.view.loc (c : Thread nD τ)), (M.view.loc (c : Thread nD τ) ↦[M.view.set]{fullShare} f))

/-- `O` lends the memref `M` out: it can be taken from `O` and put back. -/
class Has (c : Dev nD) (O : sProp (MM F)) {sp : Space} {S : Shape} {e : EltTy} (M : Memref sig .tc sp S e) : Prop where
  acc : O ⊢ iprop(Held c M ∗ (Held c M -∗ O))

/-- `p` runs on core `c` from `O` to `O`. -/
structure Safe (c : Dev nD) (bd : Option ℕ) (O : sProp (MM F)) {α : Type} (p : Prog (TpuEff nD τ sig (Elt F) (Λ₀ F) .tc) α) : Prop where
  run : O ⊢ wp frame (wpE (defs₀ (F := F)) 𝒱₀ (c : Thread nD τ) bd) Set.univ p (fun _ => O)

variable {c : Dev nD} {bd : Option ℕ} {O : sProp (MM F)}

theorem Safe.ret {α : Type} {a : α} : Safe c bd O (pure a) :=
  ⟨by rw [Prog.pure_eq_ret, wp_ret]; exact fupd_intro⟩

theorem Safe.bind {α β : Type} {p : Prog (TpuEff nD τ sig (Elt F) (Λ₀ F) .tc) α} {k : α → Prog (TpuEff nD τ sig (Elt F) (Λ₀ F) .tc) β}
    (hp : Safe c bd O p) (hk : ∀ a, Safe c bd O (k a)) : Safe c bd O (p >>= k) :=
  ⟨by
    rw [wp_bind]
    exact hp.run.trans (wp_mono frame _ _ fun a => (hk a).run)⟩

theorem Safe.ite {α : Type} {P : Prop} [Decidable P] {p q : Prog (TpuEff nD τ sig (Elt F) (Λ₀ F) .tc) α}
    (hp : Safe c bd O p) (hq : Safe c bd O q) : Safe c bd O (if P then p else q) := by
  by_cases h : P
  · rwa [if_pos h]
  · rwa [if_neg h]

theorem Safe.dite {α : Type} {P : Prop} [Decidable P] {p : P → Prog (TpuEff nD τ sig (Elt F) (Λ₀ F) .tc) α}
    {q : ¬ P → Prog (TpuEff nD τ sig (Elt F) (Λ₀ F) .tc) α}
    (hp : ∀ h, Safe c bd O (p h)) (hq : ∀ h, Safe c bd O (q h)) : Safe c bd O (dite P p q) := by
  by_cases h : P
  · rw [dif_pos h]; exact hp h
  · rw [dif_neg h]; exact hq h

theorem Safe.loadThen {α : Type} {sp : CoreSpace} {S : Shape} {e : EltTy} {M : Memref sig .tc sp S e} (H : Has c O M) {r : LoadRect S}
    {hl : M.view.LoadsAt r} {k : (r.shape.Idx → Elt F e) → Prog (TpuEff nD τ sig (Elt F) (Λ₀ F) .tc) α}
    (hk : ∀ v, Safe c bd O (k v)) : Safe c bd O (.op (.load M r hl) k) :=
  ⟨by
    refine H.acc.trans ?_
    iintro ⟨⟨%f, Hf⟩, Hb⟩
    iapply (wp_load 𝒱₀ (c : Thread nD τ) bd Set.univ (m := M) (q := fullShare) (f := f) (View.setOn_subset_set _ _)) $$ Hf
    iintro Hf
    iapply (hk _).run
    iapply Hb; iexists f; iexact Hf⟩

theorem Safe.load {sp : CoreSpace} {S : Shape} {e : EltTy} {M : Memref sig .tc sp S e} [H : Has c O M] {r : LoadRect S}
    {hl : M.view.LoadsAt r} : Safe c bd O (Prog.lift (.load M r hl)) :=
  Safe.loadThen H fun v => Safe.ret

theorem access_setOn_subset {sp : Space} {S : Shape} {e : EltTy} (M : Memref sig .tc sp S e) (r : Rect S) (Mk : Finset r.shape.Idx) :
    (M.access r).setOn Mk ⊆ M.view.set :=
  (View.setOn_subset_set _ _).trans (View.set_slice_subset _ _)

theorem Safe.store {sp : CoreSpace} {S : Shape} {e : EltTy} {M : Memref sig .tc sp S e} [H : Has c O M] {r : Rect S}
    {w : r.shape.Idx → Elt F e} {Mk : Finset r.shape.Idx} {hx : (M.access r).Stores Mk} {hm} :
    Safe c bd O (Prog.lift (.store M r w Mk hx hm)) :=
  ⟨by
    refine H.acc.trans ?_
    iintro ⟨⟨%f, Hf⟩, Hb⟩
    iapply (wp_store (Val := Elt F) 𝒱₀ (c : Thread nD τ) bd Set.univ (m := M) (r := r) (Mk := Mk)
      (access_setOn_subset M r Mk)) $$ Hf
    iintro Hf
    rw [wp_ret]; imodintro
    iapply Hb; iexists _; iexact Hf⟩

theorem Safe.smemLoad {S : Shape} {e : EltTy} {M : Memref sig .tc .smem S e} [H : Has c O M] {r : Rect S}
    {h1 : r.shape.numel = 1} {hp : e.packing = 1} : Safe c bd O (smemLoad M r h1 hp) :=
  Safe.loadThen H fun v => Safe.ret

/-- A counted loop is safe when each of its trips is. -/
theorem Safe.loop {w : ℕ} {σ : Type} {l : Scf.Loop w} {hok : l.OK} {init : σ}
    {body : Fin l.trips → σ → Prog (TpuEff nD τ sig (Elt F) (Λ₀ F) .tc) σ}
    (h : ∀ k a, Safe c bd O (body k a)) : Safe c bd O (Scf.Loop.for l hok init body) :=
  ⟨by
    unfold Scf.Loop.for
    iintro HO
    iapply (Scf.wp_for frame (wpE (defs₀ (F := F)) 𝒱₀ (c : Thread nD τ) bd) Set.univ l.lb l.ub l.st hok init body
      (fun _ _ => O) (fun k a => (h k a).run))
    isplitl [HO]; · iexact HO
    iintro %a HO; iexact HO⟩

/-- A continuation named before a conditional. -/
theorem Safe.jp {α β : Type} {f : β → Prog (TpuEff nD τ sig (Elt F) (Λ₀ F) .tc) α}
    {p : (β → Prog (TpuEff nD τ sig (Elt F) (Λ₀ F) .tc) α) → Prog (TpuEff nD τ sig (Elt F) (Λ₀ F) .tc) α}
    (hf : ∀ x, Safe c bd O (f x)) (h : ∀ jp, (∀ x, Safe c bd O (jp x)) → Safe c bd O (p jp)) : Safe c bd O (p f) :=
  h f hf

end Cert.KernelIdeal.Hand

end
-- ==== Proof.While.lean ====
/-
  Hand-written. The while loop over key blocks: its trip fetches a key and a value block by two local transfers and waits
  for both, so what it holds is the two scratch buffers, two shares of the projected array, the two semaphores' counters
  at zero and the record of waits. The word it counts down starts below the grid's bound and ends below zero.
-/
module

public import proofs.«01_k».proof.Proof.Safe
public import Idealize.ShloMosaic.Lib.Transfers
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ### The side condition the trip assumes -/

theorem off3_val : ∀ (k : Fin k0_t1_loop.trips) (j : Fin 126) (r : Fin 2),
    k0_off3 k (BitVec.ofNat 32 j.val) (BitVec.ofNat 32 (2304 + 1024 * r.val)) 0 = 128 * j.val ∧
    k0_off3 k (BitVec.ofNat 32 j.val) (BitVec.ofNat 32 (2304 + 1024 * r.val)) 1 = 2304 + 1024 * r.val + 128 * k.val := by
  set_option maxRecDepth 100000 in decide +kernel

theorem cond4_lt (i : grid0.Coords) (x : BitVec 32) (h0 : x.toNat < 2 ^ 31) (h : k0_cond4 i x = 1#1) : x.toNat < 126 := by
  have hi : (i 0).val < 128 := (i 0).isLt
  unfold k0_cond4 at h
  by_contra hx
  have : Scalar.cmpi .slt x (Scalar.subi (BitVec.ofNat 32 (i 0).val) 2#32) = 0#1 := by
    show BitVec.ofBool (decide (x.toInt < (BitVec.ofNat 32 (i 0).val - 2#32).toInt)) = _
    have hx' : ¬ x.toInt < (BitVec.ofNat 32 (i 0).val - 2#32).toInt := by
      have e : ∀ n : Fin 128, (BitVec.ofNat 32 n.val - 2#32).toInt ≤ 125 := by decide +kernel
      have e' : (BitVec.ofNat 32 (i 0).val - 2#32).toInt ≤ 125 := e ⟨(i 0).val, hi⟩
      have hxi : x.toInt = x.toNat := by rw [BitVec.toInt_eq_toNat_of_lt]; omega
      omega
    rw [decide_eq_false hx']; rfl
  revert h
  dsimp only
  rw [this]; decide

theorem chk1_of (i : grid0.Coords) (k : Fin k0_t1_loop.trips) (x : BitVec 32) (h0 : x.toNat < 2 ^ 31) : k0_chk1 i k x := by
  have key : k0_cond4 i x = 1#1 → ∃ j : Fin 126, x = BitVec.ofNat 32 j.val := fun h =>
    ⟨⟨x.toNat, cond4_lt i x h0 h⟩, by simp⟩
  have hdvd : ∀ j : Fin 126, 128 ∣ (k0_mult1 (BitVec.ofNat 32 j.val)).toNat := by decide +kernel
  refine ⟨fun h => ?_, fun h => ?_, fun h r a => ?_, fun h r hinb => ?_⟩
  · obtain ⟨j, rfl⟩ := key h; exact hdvd j
  · obtain ⟨j, rfl⟩ := key h; exact hdvd j
  · obtain ⟨j, rfl⟩ := key h
    have hk : k.val < 8 := k.isLt
    have hr := r.isLt
    have hj := j.isLt
    obtain ⟨e0, e1⟩ := off3_val k j r
    match a with
    | ⟨0, _⟩ => exact (congrArg (· + 128) e0).le.trans (show 128 * j.val + 128 ≤ 16384 by omega)
    | ⟨1, _⟩ => exact (congrArg (· + 128) e1).le.trans (show 2304 + 1024 * r.val + 128 * k.val + 128 ≤ 4352 by omega)
  · obtain ⟨j, rfl⟩ := key h
    obtain ⟨e0, e1⟩ := off3_val k j r
    refine .inl (.inr ⟨by decide, rfl, .inl ⟨?_, ⟨64, rfl⟩⟩⟩)
    show 2 ∣ k0_off3 k (BitVec.ofNat 32 j.val) (BitVec.ofNat 32 (2304 + 1024 * r.val)) 0
    rw [e0]; omega

/-! ### The trip's two transfers -/

/-- The first and the second of two semaphores, as the trip names them. -/
abbrev semA (S : DmaSems sig S2) : DmaSem sig :=
  ((S.slice (Rect.unit (s := S2) ![0] S1.size inb_S2_S1_0)).squeeze S_ squeezes_S1_S_).sem
abbrev semB (S : DmaSems sig S2) : DmaSem sig :=
  ((S.slice (Rect.unit (s := S2) ![1] S1.size inb_S2_S1_1)).squeeze S_ squeezes_S1_S_).sem

/-- Elements of a memref held at a share, at the contents named. -/
abbrev At (c : Dev nD) {sp : Space} {S : Shape} {e : EltTy} (M : Memref sig .tc sp S e) (q : PosShare TreeShare)
    (f : Buf (Elt F) (M.view.loc (c : Thread nD τ))) : sProp (MM F) :=
  (M.view.loc (c : Thread nD τ) ↦[M.view.set]{q} f)

/-- What the two transfers need: two shares of the source, both destinations, both counters at zero, the waits' record. -/
abbrev Pack (c : Dev nD) (src : Memref sig .tc .hbm S16384x4352 .bf16) (kd vd : Memref sig .tc .vmem S8x128x128 .bf16)
    (S : DmaSems sig S2) (q₁ q₂ : PosShare TreeShare) (f₁ f₂ : Buf (Elt F) (src.view.loc (c : Thread nD τ))) : sProp (MM F) :=
  iprop(At c src q₁ f₁ ∗ At c src q₂ f₂ ∗ Held c kd ∗ Held c vd ∗ semVal ((c : Thread nD τ), .dma (semA S)) 0
    ∗ semVal ((c : Thread nD τ), .dma (semB S)) 0 ∗ (∃ W, owes (c : Thread nD τ) 0 W))

/-- `O` lends that out. -/
class Lend (c : Dev nD) (O : sProp (MM F)) (src : Memref sig .tc .hbm S16384x4352 .bf16)
    (kd vd : Memref sig .tc .vmem S8x128x128 .bf16) (S : DmaSems sig S2) : Prop where
  acc : O ⊢ iprop(∃ q₁ q₂ f₁ f₂, Pack c src kd vd S q₁ q₂ f₁ f₂ ∗ (Pack c src kd vd S q₁ q₂ f₁ f₂ -∗ O))

variable {c : Dev nD} {bd : Option ℕ} {O : sProp (MM F)}
section Loop

variable {arg19 : Memref sig .tc .hbm S16384x4352 .bf16} {arg24 arg25 : Memref sig .tc .vmem S8x128x128 .bf16} {arg29 : DmaSems sig S2}

abbrev EC : UEmb Counters (MM F) := countersEmb (U := Pipeline.UD sig nD τ)

/-- A block of the source, and a plane of a destination squeezed to a matrix. -/
abbrev srcAt (M : Memref sig .tc .hbm S16384x4352 .bf16) (off : Fin 2 → ℕ)
    (h : ∀ a, off a + S128x128.size a ≤ S16384x4352.size a) : Memref sig .tc .hbm S128x128 .bf16 :=
  M.slice (Rect.unit (s := S16384x4352) off S128x128.size h) (fun _ => rfl)
abbrev dstAt (M : Memref sig .tc .vmem S8x128x128 .bf16) (off : Fin 3 → ℕ)
    (h : ∀ a, off a + S1x128x128.size a ≤ S8x128x128.size a) : Memref sig .tc .vmem S128x128 .bf16 :=
  (M.slice (Rect.unit (s := S8x128x128) off S1x128x128.size h) (fun _ => rfl)).squeeze S128x128 squeezes_S1x128x128_S128x128

theorem srcAt_sub (M : Memref sig .tc .hbm S16384x4352 .bf16) (off h) : (srcAt M off h).view.set ⊆ M.view.set :=
  View.set_slice_subset _ _
theorem dstAt_sub (M : Memref sig .tc .vmem S8x128x128 .bf16) (off h) : (dstAt M off h).view.set ⊆ M.view.set :=
  (Memref.set_view_squeeze _ _).subset.trans (View.set_slice_subset _ _)
theorem dstAt_pos (M : Memref sig .tc .vmem S8x128x128 .bf16) (off h) : 0 < (dstAt M off h).view.dmaCredit :=
  View.dmaCredit_pos _ (by decide)

theorem Safe.twoTransfers [H : Lend c O arg19 arg24 arg25 arg29] {α : Type} {o₁ o₂ : Fin 2 → ℕ} {o₃ o₄ : Fin 3 → ℕ}
    {h₁ h₂ h₃ h₄} {w₁ w₂ w₃ w₄ w₅ w₆ w₇ w₈ w₉ w₁₀}
    {k : PUnit → Prog (TpuEff nD τ sig (Elt F) (Λ₀ F) .tc) α} (hk : Safe c bd O (k ⟨⟩)) :
    Safe c bd O (.op (.enqueueDma (srcAt arg19 o₁ h₁) (.here (dstAt arg24 o₃ h₃)) (.dma (semA arg29)) w₁ w₂ w₃) fun _ =>
      .op (.enqueueDma (srcAt arg19 o₂ h₂) (.here (dstAt arg25 o₄ h₄)) (.dma (semB arg29)) w₄ w₅ w₆) fun _ =>
      .op (.waitDma2 (semA arg29) (srcAt arg19 o₁ h₁) (dstAt arg24 o₃ h₃) w₇ w₈) fun _ =>
      .op (.waitDma2 (semB arg29) (srcAt arg19 o₂ h₂) (dstAt arg25 o₄ h₄) w₉ w₁₀) k) :=
  ⟨by
    refine H.acc.trans ?_
    iintro ⟨%q₁, %q₂, %f₁, %f₂, ⟨Hs1, Hs2, ⟨%g₁, Hd1⟩, ⟨%g₂, Hd2⟩, HA, HB, ⟨%W, HW⟩⟩, Hb⟩
    ihave ⟨Hs1, Hr1⟩ := (pointsTo_split_subset (srcAt_sub arg19 o₁ h₁)).1 $$ Hs1
    ihave ⟨Hs2, Hr2⟩ := (pointsTo_split_subset (srcAt_sub arg19 o₂ h₂)).1 $$ Hs2
    iapply (Transfers.wp_dmaLocal EC 𝒱₀ (c : Thread nD τ) bd (src := srcAt arg19 o₁ h₁) (dst := dstAt arg24 o₃ h₃)
      (Sd := arg24.view.set) () (dstAt arg24 o₃ h₃).view.dmaCredit rfl (dstAt_pos arg24 o₃ h₃) (dstAt_sub arg24 o₃ h₃)) $$ [Hs1 Hd1 HA]
    · isplitl [Hs1]; · iexact Hs1
      isplitl [Hd1]; · iexact Hd1
      iexact HA
    iintro Hf1
    iapply (Transfers.wp_dmaLocal EC 𝒱₀ (c : Thread nD τ) bd (src := srcAt arg19 o₂ h₂) (dst := dstAt arg25 o₄ h₄)
      (Sd := arg25.view.set) () (dstAt arg25 o₄ h₄).view.dmaCredit rfl (dstAt_pos arg25 o₄ h₄) (dstAt_sub arg25 o₄ h₄)) $$ [Hs2 Hd2 HB]
    · isplitl [Hs2]; · iexact Hs2
      isplitl [Hd2]; · iexact Hd2
      iexact HB
    iintro Hf2
    iapply (Transfers.wp_waitLocal EC 𝒱₀ (c : Thread nD τ) bd () rfl) $$ [Hf1 HW]
    · isplitl [Hf1]; · iexact Hf1
      iexact HW
    iintro ⟨⟨Hd1, Hs1⟩, HA, HW⟩
    iapply (Transfers.wp_waitLocal EC 𝒱₀ (c : Thread nD τ) bd () rfl) $$ [Hf2 HW]
    · isplitl [Hf2]; · iexact Hf2
      iexact HW
    iintro ⟨⟨Hd2, Hs2⟩, HB, HW⟩
    iapply hk.run
    iapply Hb
    isplitl [Hs1 Hr1]
    · iapply (pointsTo_split_subset (srcAt_sub arg19 o₁ h₁)).2
      isplitl [Hs1]; · iexact Hs1
      iexact Hr1
    isplitl [Hs2 Hr2]
    · iapply (pointsTo_split_subset (srcAt_sub arg19 o₂ h₂)).2
      isplitl [Hs2]; · iexact Hs2
      iexact Hr2
    isplitl [Hd1]; · iexists _; iexact Hd1
    isplitl [Hd2]; · iexists _; iexact Hd2
    isplitl [HA]; · iexact HA
    isplitl [HB]; · iexact HB
    iexists _; iexact HW⟩

theorem Safe.assume {α : Type} {P : Prop} {d : Decidable P} (h : P) {k : PLift P → Prog (TpuEff nD τ sig (Elt F) (Λ₀ F) .tc) α}
    (hk : Safe c bd O (k ⟨h⟩)) : Safe c bd O (.op (.assume P d) k) :=
  ⟨hk.run.trans (wp_assume 𝒱₀ (c : Thread nD τ) bd Set.univ h)⟩

/-- A call is safe when the label's body is, entered at a variant below the bound. -/
theorem Safe.call {ℓ : (Λ₀ F).Label} {a : (Λ₀ F).Args ℓ} (v : ℕ) (hv : ∀ u ∈ bd, v < u)
    (h : Safe c (some v) O (defs₀ (F := F) .tc ℓ a)) : Safe c bd O (Prog.lift (.call ℓ a)) :=
  ⟨(h.run.trans (wp_mono frame _ _ fun x => by rw [wp_ret]; exact fupd_intro)).trans
    (wp_call 𝒱₀ (c : Thread nD τ) bd Set.univ v hv)⟩

/-! ### The trip and the loop -/

variable {i : grid0.Coords} {k0_t1 : Fin k0_t1_loop.trips} {harg24 : arg24.IsWhole} {harg19 : arg19.IsWhole} {harg25 : arg25.IsWhole}
  {arg23 : Memref sig .tc .vmem S8x256x128 .bf16} {harg23 : arg23.IsWhole} {arg26 : Memref sig .tc .vmem S8x256x128 .f32}
  {harg26 : arg26.IsWhole} {v6 : Vec F S256x256 .bf16} {arg27 : Memref sig .tc .vmem S8x256x128 .f32} {harg27 : arg27.IsWhole}
variable [Has c O arg23] [Has c O arg24] [Has c O arg25] [Has c O arg26] [Has c O arg27] [H : Lend c O arg19 arg24 arg25 arg29]

theorem safe_k0_part134 {arg31 arg32 arg0 arg30 : BitVec 32} (h0 : arg31.toNat < 2 ^ 31) :
    Safe c bd O (k0_part134 (F := F) i k0_t1 arg29 arg24 harg24 arg19 harg19 arg25 harg25 arg23 harg23 arg26 harg26 v6 arg27 harg27 arg31 arg32 arg0 arg30) := by
  rw [k0_part134_eq_skeleton]; unfold k0_part134_skel
  refine Safe.assume (chk1_of i k0_t1 arg31 h0) ?_
  extract_lets; rename_i jp _ _ _ _ _ _ _ _
  have hjp : ∀ x, Safe c bd O (jp x) := by
    intro _
    refine Safe.bind Safe.load fun _ => ?_
    refine Safe.bind Safe.load fun _ => ?_
    refine Safe.bind Safe.load fun _ => ?_
    refine Safe.bind Safe.load fun _ => ?_
    exact Safe.ret
  refine Safe.dite (fun h => ?_) (fun h => ?_)
  · exact Safe.twoTransfers (hjp ⟨⟩)
  · exact hjp ⟨⟩

/-- The trips the loop may still make from the word `x`. -/
def left (x : BitVec 32) : ℕ := if x.toNat < 2 ^ 31 then x.toNat + 1 else 0

theorem left_sub (x : BitVec 32) (h : x.toNat < 2 ^ 31) : left (Scalar.subi x 1#32) < left x := by
  have e : Scalar.subi x 1#32 = x - 1#32 := rfl
  unfold left
  rw [e, if_pos h]
  rcases Nat.eq_zero_or_pos x.toNat with hz | hz
  · have : x = 0#32 := BitVec.eq_of_toNat_eq hz
    subst this; decide
  · have : (x - 1#32).toNat = x.toNat - 1 := by rw [BitVec.toNat_sub]; simp; omega
    rw [this]; split <;> omega

theorem safe_while : ∀ (n : ℕ) (arg31 arg32 : BitVec 32), left arg31 = n → Safe c (some n) O
    (defs₀ (F := F) .tc 1 ⟨i, k0_t1, arg29, arg24, harg24, arg19, harg19, arg25, harg25, arg23, harg23, arg26, harg26, v6, arg27, harg27, arg31, arg32⟩) := by
  intro n
  induction n using Nat.strong_induction_on with
  | _ n ih =>
    intro arg31 arg32 hn
    show Safe c (some n) O (cc0_while1 (F := F) i k0_t1 arg29 arg24 harg24 arg19 harg19 arg25 harg25 arg23 harg23 arg26 harg26 v6 arg27 harg27 arg31 arg32)
    rw [cc0_while1_eq_skeleton]; unfold cc0_while1_skel
    by_cases h : Scalar.andi (Scalar.cmpi .sge arg31 0#32) (Scalar.cmpi .sgt arg32 0#32) = 1#1
    · have h0 : arg31.toNat < 2 ^ 31 := by
        by_contra hc
        have e : Scalar.cmpi .sge arg31 0#32 = 0#1 := by
          show IntOp.cmpi .sge arg31 0#32 = 0#1
          rw [WordCmp.cmpi_sge_zero, decide_eq_false hc]; rfl
        rw [e] at h
        revert h
        generalize Scalar.cmpi .sgt arg32 0#32 = y
        revert y; decide
      refine (if_pos h : _ = _) ▸ ?_
      refine Safe.bind (safe_k0_part134 h0) ?_
      rintro ⟨_, _, _, _⟩
      refine Safe.bind Safe.load fun _ => ?_
      refine Safe.bind Safe.store fun _ => ?_
      refine Safe.bind Safe.load fun _ => ?_
      refine Safe.bind Safe.load fun _ => ?_
      refine Safe.bind Safe.store fun _ => ?_
      refine Safe.bind Safe.load fun _ => ?_
      refine Safe.call (left (Scalar.subi arg31 1#32)) (fun u hu => ?_) (ih _ ?_ _ _ rfl)
      · cases hu; exact hn ▸ left_sub arg31 h0
      · exact hn ▸ left_sub arg31 h0
    · refine (if_neg h : _ = _) ▸ ?_
      exact Safe.ret

end Loop

section Trip

variable {i : grid0.Coords} {arg1 : Memref sig .tc .vmem S128x1024 .bf16} {harg1 : arg1.IsWhole} {arg2 : Memref sig .tc .vmem S128x128 .bf16} {harg2 : arg2.IsWhole} {arg3 : Memref sig .tc .vmem S128x128 .bf16} {harg3 : arg3.IsWhole} {arg4 : Memref sig .tc .vmem S128x128 .bf16} {harg4 : arg4.IsWhole} {arg5 : Memref sig .tc .vmem S128x128 .bf16} {harg5 : arg5.IsWhole} {arg6 : Memref sig .tc .vmem S256x128 .i32} {harg6 : arg6.IsWhole} {arg7 : Memref sig .tc .smem S32x16 .f32} {harg7 : arg7.IsWhole} {arg8 : Memref sig .tc .smem S16 .f32} {harg8 : arg8.IsWhole} {arg9 : Memref sig .tc .vmem S1x1024 .f32} {harg9 : arg9.IsWhole} {arg10 : Memref sig .tc .vmem S128x1024 .bf16} {harg10 : arg10.IsWhole} {arg11 : Memref sig .tc .vmem S128x1024 .bf16} {harg11 : arg11.IsWhole} {arg12 : Memref sig .tc .vmem S128x1024 .bf16} {harg12 : arg12.IsWhole} {arg13 : Memref sig .tc .vmem S128x1024 .bf16} {harg13 : arg13.IsWhole} {arg14 : Memref sig .tc .vmem S128x1024 .bf16} {harg14 : arg14.IsWhole} {arg15 : Memref sig .tc .vmem S128x1024 .bf16} {harg15 : arg15.IsWhole} {arg16 : Memref sig .tc .vmem S128x1024 .bf16} {harg16 : arg16.IsWhole} {arg17 : Memref sig .tc .vmem S256x256 .bf16} {harg17 : arg17.IsWhole} {arg18 : Memref sig .tc .vmem S1x1024 .f32} {harg18 : arg18.IsWhole} {arg19 : Memref sig .tc .hbm S16384x4352 .bf16} {harg19 : arg19.IsWhole} {arg20 : Memref sig .tc .vmem S128x2048 .bf16} {harg20 : arg20.IsWhole} {arg21 : Memref sig .tc .vmem S2x8x256x256 .f32} {harg21 : arg21.IsWhole} {arg22 : Memref sig .tc .vmem S1024x128 .f32} {harg22 : arg22.IsWhole} {arg23 : Memref sig .tc .vmem S8x256x128 .bf16} {harg23 : arg23.IsWhole} {arg24 : Memref sig .tc .vmem S8x128x128 .bf16} {harg24 : arg24.IsWhole} {arg25 : Memref sig .tc .vmem S8x128x128 .bf16} {harg25 : arg25.IsWhole} {arg26 : Memref sig .tc .vmem S8x256x128 .f32} {harg26 : arg26.IsWhole} {arg27 : Memref sig .tc .vmem S8x256x128 .f32} {harg27 : arg27.IsWhole} {arg28 : Memref sig .tc .smem S8 .i32} {harg28 : arg28.IsWhole} {arg29 : DmaSems sig S2}
theorem safe_trip [Has c O arg23] [Has c O arg24] [Has c O arg25] [Has c O arg26] [Has c O arg27] [Has c O arg28]
    [Lend c O arg19 arg24 arg25 arg29] : ∀ v6 k a, Safe c none O (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 (BitVec.ofNat 32 (i 0).val) v6 k a) := by
  intro v6 k a
  unfold k0_t1_body
  refine Safe.bind Safe.smemLoad fun _ => ?_
  refine Safe.bind (Safe.call (left _) (fun u hu => nomatch hu) (safe_while _ _ _ rfl)) ?_
  rintro ⟨_, _⟩
  exact Safe.ret

end Trip

end Cert.KernelIdeal.Hand

end
-- ==== Proof.SafeA.lean ====
module

public import proofs.«01_k».proof.Proof.Safe

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {c : Dev nD} {bd : Option ℕ} {O : sProp (MM F)}
variable {i : grid0.Coords} {arg1 : Memref sig .tc .vmem S128x1024 .bf16} {harg1 : arg1.IsWhole} {arg2 : Memref sig .tc .vmem S128x128 .bf16} {harg2 : arg2.IsWhole} {arg3 : Memref sig .tc .vmem S128x128 .bf16} {harg3 : arg3.IsWhole} {arg4 : Memref sig .tc .vmem S128x128 .bf16} {harg4 : arg4.IsWhole} {arg5 : Memref sig .tc .vmem S128x128 .bf16} {harg5 : arg5.IsWhole} {arg6 : Memref sig .tc .vmem S256x128 .i32} {harg6 : arg6.IsWhole} {arg7 : Memref sig .tc .smem S32x16 .f32} {harg7 : arg7.IsWhole} {arg8 : Memref sig .tc .smem S16 .f32} {harg8 : arg8.IsWhole} {arg9 : Memref sig .tc .vmem S1x1024 .f32} {harg9 : arg9.IsWhole} {arg10 : Memref sig .tc .vmem S128x1024 .bf16} {harg10 : arg10.IsWhole} {arg11 : Memref sig .tc .vmem S128x1024 .bf16} {harg11 : arg11.IsWhole} {arg12 : Memref sig .tc .vmem S128x1024 .bf16} {harg12 : arg12.IsWhole} {arg13 : Memref sig .tc .vmem S128x1024 .bf16} {harg13 : arg13.IsWhole} {arg14 : Memref sig .tc .vmem S128x1024 .bf16} {harg14 : arg14.IsWhole} {arg15 : Memref sig .tc .vmem S128x1024 .bf16} {harg15 : arg15.IsWhole} {arg16 : Memref sig .tc .vmem S128x1024 .bf16} {harg16 : arg16.IsWhole} {arg17 : Memref sig .tc .vmem S256x256 .bf16} {harg17 : arg17.IsWhole} {arg18 : Memref sig .tc .vmem S1x1024 .f32} {harg18 : arg18.IsWhole} {arg19 : Memref sig .tc .hbm S16384x4352 .bf16} {harg19 : arg19.IsWhole} {arg20 : Memref sig .tc .vmem S128x2048 .bf16} {harg20 : arg20.IsWhole} {arg21 : Memref sig .tc .vmem S2x8x256x256 .f32} {harg21 : arg21.IsWhole} {arg22 : Memref sig .tc .vmem S1024x128 .f32} {harg22 : arg22.IsWhole} {arg23 : Memref sig .tc .vmem S8x256x128 .bf16} {harg23 : arg23.IsWhole} {arg24 : Memref sig .tc .vmem S8x128x128 .bf16} {harg24 : arg24.IsWhole} {arg25 : Memref sig .tc .vmem S8x128x128 .bf16} {harg25 : arg25.IsWhole} {arg26 : Memref sig .tc .vmem S8x256x128 .f32} {harg26 : arg26.IsWhole} {arg27 : Memref sig .tc .vmem S8x256x128 .f32} {harg27 : arg27.IsWhole} {arg28 : Memref sig .tc .smem S8 .i32} {harg28 : arg28.IsWhole} {arg29 : DmaSems sig S2}
variable [Has c O arg1] [Has c O arg2] [Has c O arg3] [Has c O arg4] [Has c O arg5] [Has c O arg6] [Has c O arg7] [Has c O arg8] [Has c O arg9] [Has c O arg10] [Has c O arg11] [Has c O arg12] [Has c O arg13] [Has c O arg14] [Has c O arg15] [Has c O arg16] [Has c O arg17] [Has c O arg18] [Has c O arg20] [Has c O arg21] [Has c O arg22] [Has c O arg23] [Has c O arg24] [Has c O arg25] [Has c O arg26] [Has c O arg27] [Has c O arg28]

theorem safe_k0_part1  :
    Safe c bd O (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 ) := by
  rw [k0_part1_eq_skeleton]; unfold k0_part1_skel
  refine Safe.bind Safe.load fun _ => ?_
  iterate 7 refine Safe.bind Safe.smemLoad fun _ => ?_
  exact Safe.ret

theorem safe_k0_part2 (v159 : Vec F S256x128 .i32) (v191 : FVec F S256x128 .f32) (v193 : IVec S256x128 1) (v194 : Elt F .f32) :
    Safe c bd O (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v191 v193 v194) := by
  rw [k0_part2_eq_skeleton]; unfold k0_part2_skel
  iterate 7 refine Safe.bind Safe.smemLoad fun _ => ?_
  exact Safe.ret

theorem safe_k0_part3 (v159 : Vec F S256x128 .i32) (v231 : FVec F S256x128 .f32) (v232 : IVec S256x128 32) :
    Safe c bd O (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v231 v232) := by
  rw [k0_part3_eq_skeleton]; unfold k0_part3_skel
  iterate 8 refine Safe.bind Safe.smemLoad fun _ => ?_
  exact Safe.ret

theorem safe_k0_part4 (v159 : Vec F S256x128 .i32) (v266 : FVec F S256x128 .f32) (v268 : IVec S256x128 1) (v269 : Elt F .f32) :
    Safe c bd O (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v266 v268 v269) := by
  rw [k0_part4_eq_skeleton]; unfold k0_part4_skel
  iterate 7 refine Safe.bind Safe.smemLoad fun _ => ?_
  exact Safe.ret

theorem safe_k0_part5 (v159 : Vec F S256x128 .i32) (v160 : IVec S256x128 32) (v306 : FVec F S256x128 .f32) (v307 : IVec S256x128 32) :
    Safe c bd O (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v306 v307) := by
  rw [k0_part5_eq_skeleton]; unfold k0_part5_skel
  iterate 3 refine Safe.bind Safe.smemLoad fun _ => ?_
  refine Safe.bind Safe.load fun _ => ?_
  refine Safe.bind Safe.store fun _ => ?_
  refine Safe.bind Safe.load fun _ => ?_
  refine Safe.bind Safe.store fun _ => ?_
  iterate 2 refine Safe.bind Safe.smemLoad fun _ => ?_
  exact Safe.ret

theorem safe_k0_part6 (v159 : Vec F S256x128 .i32) (v337 : FVec F S256x128 .f32) (v339 : IVec S256x128 1) (v340 : Elt F .f32) :
    Safe c bd O (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v337 v339 v340) := by
  rw [k0_part6_eq_skeleton]; unfold k0_part6_skel
  iterate 7 refine Safe.bind Safe.smemLoad fun _ => ?_
  exact Safe.ret

theorem safe_k0_part7 (v159 : Vec F S256x128 .i32) (v377 : FVec F S256x128 .f32) (v378 : IVec S256x128 32) :
    Safe c bd O (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v377 v378) := by
  rw [k0_part7_eq_skeleton]; unfold k0_part7_skel
  iterate 8 refine Safe.bind Safe.smemLoad fun _ => ?_
  exact Safe.ret

theorem safe_k0_part8 (v159 : Vec F S256x128 .i32) (v412 : FVec F S256x128 .f32) (v414 : IVec S256x128 1) (v415 : Elt F .f32) :
    Safe c bd O (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v412 v414 v415) := by
  rw [k0_part8_eq_skeleton]; unfold k0_part8_skel
  iterate 7 refine Safe.bind Safe.smemLoad fun _ => ?_
  exact Safe.ret

theorem safe_k0_part9 (v159 : Vec F S256x128 .i32) (v452 : FVec F S256x128 .f32) (v453 : IVec S256x128 32) :
    Safe c bd O (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v452 v453) := by
  rw [k0_part9_eq_skeleton]; unfold k0_part9_skel
  iterate 8 refine Safe.bind Safe.smemLoad fun _ => ?_
  exact Safe.ret

theorem safe_k0_part10 (v159 : Vec F S256x128 .i32) (v160 : IVec S256x128 32) (v487 : FVec F S256x128 .f32) (v489 : IVec S256x128 1) (v490 : Elt F .f32) :
    Safe c bd O (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v487 v489 v490) := by
  rw [k0_part10_eq_skeleton]; unfold k0_part10_skel
  refine Safe.bind Safe.load fun _ => ?_
  refine Safe.bind Safe.store fun _ => ?_
  refine Safe.bind Safe.load fun _ => ?_
  refine Safe.bind Safe.store fun _ => ?_
  iterate 4 refine Safe.bind Safe.smemLoad fun _ => ?_
  exact Safe.ret

theorem safe_k0_part11 (v159 : Vec F S256x128 .i32) (v523 : FVec F S256x128 .f32) (v524 : IVec S256x128 32) :
    Safe c bd O (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v523 v524) := by
  rw [k0_part11_eq_skeleton]; unfold k0_part11_skel
  iterate 8 refine Safe.bind Safe.smemLoad fun _ => ?_
  exact Safe.ret

theorem safe_k0_part12 (v159 : Vec F S256x128 .i32) (v558 : FVec F S256x128 .f32) (v560 : IVec S256x128 1) (v561 : Elt F .f32) :
    Safe c bd O (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v558 v560 v561) := by
  rw [k0_part12_eq_skeleton]; unfold k0_part12_skel
  iterate 7 refine Safe.bind Safe.smemLoad fun _ => ?_
  exact Safe.ret

theorem safe_k0_part13 (v159 : Vec F S256x128 .i32) (v598 : FVec F S256x128 .f32) (v599 : IVec S256x128 32) :
    Safe c bd O (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v598 v599) := by
  rw [k0_part13_eq_skeleton]; unfold k0_part13_skel
  iterate 8 refine Safe.bind Safe.smemLoad fun _ => ?_
  exact Safe.ret

theorem safe_k0_part14 (v159 : Vec F S256x128 .i32) (v160 : IVec S256x128 32) (v633 : FVec F S256x128 .f32) (v635 : IVec S256x128 1) (v636 : Elt F .f32) :
    Safe c bd O (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v633 v635 v636) := by
  rw [k0_part14_eq_skeleton]; unfold k0_part14_skel
  iterate 5 refine Safe.bind Safe.smemLoad fun _ => ?_
  refine Safe.bind Safe.load fun _ => ?_
  refine Safe.bind Safe.store fun _ => ?_
  exact Safe.ret

theorem safe_k0_part15 (v159 : Vec F S256x128 .i32) (v670 : FVec F S256x128 .f32) :
    Safe c bd O (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v670) := by
  rw [k0_part15_eq_skeleton]; unfold k0_part15_skel
  refine Safe.bind Safe.load fun _ => ?_
  refine Safe.bind Safe.store fun _ => ?_
  iterate 7 refine Safe.bind Safe.smemLoad fun _ => ?_
  exact Safe.ret

theorem safe_k0_part16 (v159 : Vec F S256x128 .i32) (v704 : FVec F S256x128 .f32) (v706 : IVec S256x128 1) (v707 : Elt F .f32) :
    Safe c bd O (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v704 v706 v707) := by
  rw [k0_part16_eq_skeleton]; unfold k0_part16_skel
  iterate 7 refine Safe.bind Safe.smemLoad fun _ => ?_
  exact Safe.ret

theorem safe_k0_part17 (v159 : Vec F S256x128 .i32) (v744 : FVec F S256x128 .f32) (v745 : IVec S256x128 32) :
    Safe c bd O (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v744 v745) := by
  rw [k0_part17_eq_skeleton]; unfold k0_part17_skel
  iterate 8 refine Safe.bind Safe.smemLoad fun _ => ?_
  exact Safe.ret

theorem safe_k0_part18 (v159 : Vec F S256x128 .i32) (v779 : FVec F S256x128 .f32) (v781 : IVec S256x128 1) (v782 : Elt F .f32) :
    Safe c bd O (k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v779 v781 v782) := by
  rw [k0_part18_eq_skeleton]; unfold k0_part18_skel
  iterate 7 refine Safe.bind Safe.smemLoad fun _ => ?_
  exact Safe.ret

theorem safe_k0_part19 (v159 : Vec F S256x128 .i32) (v160 : IVec S256x128 32) (v819 : FVec F S256x128 .f32) (v820 : IVec S256x128 32) :
    Safe c bd O (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v819 v820) := by
  rw [k0_part19_eq_skeleton]; unfold k0_part19_skel
  iterate 3 refine Safe.bind Safe.smemLoad fun _ => ?_
  refine Safe.bind Safe.load fun _ => ?_
  refine Safe.bind Safe.store fun _ => ?_
  refine Safe.bind Safe.load fun _ => ?_
  refine Safe.bind Safe.store fun _ => ?_
  iterate 2 refine Safe.bind Safe.smemLoad fun _ => ?_
  exact Safe.ret

theorem safe_k0_part20 (v159 : Vec F S256x128 .i32) (v850 : FVec F S256x128 .f32) (v852 : IVec S256x128 1) (v853 : Elt F .f32) :
    Safe c bd O (k0_part20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v850 v852 v853) := by
  rw [k0_part20_eq_skeleton]; unfold k0_part20_skel
  iterate 7 refine Safe.bind Safe.smemLoad fun _ => ?_
  exact Safe.ret

theorem safe_k0_part21 (v159 : Vec F S256x128 .i32) (v890 : FVec F S256x128 .f32) (v891 : IVec S256x128 32) :
    Safe c bd O (k0_part21 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v890 v891) := by
  rw [k0_part21_eq_skeleton]; unfold k0_part21_skel
  iterate 8 refine Safe.bind Safe.smemLoad fun _ => ?_
  exact Safe.ret

theorem safe_k0_part22 (v159 : Vec F S256x128 .i32) (v925 : FVec F S256x128 .f32) (v927 : IVec S256x128 1) (v928 : Elt F .f32) :
    Safe c bd O (k0_part22 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v925 v927 v928) := by
  rw [k0_part22_eq_skeleton]; unfold k0_part22_skel
  iterate 7 refine Safe.bind Safe.smemLoad fun _ => ?_
  exact Safe.ret

theorem safe_k0_part23 (v159 : Vec F S256x128 .i32) (v965 : FVec F S256x128 .f32) (v966 : IVec S256x128 32) :
    Safe c bd O (k0_part23 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v965 v966) := by
  rw [k0_part23_eq_skeleton]; unfold k0_part23_skel
  iterate 8 refine Safe.bind Safe.smemLoad fun _ => ?_
  exact Safe.ret

theorem safe_k0_part24 (v159 : Vec F S256x128 .i32) (v160 : IVec S256x128 32) (v1000 : FVec F S256x128 .f32) (v1002 : IVec S256x128 1) (v1003 : Elt F .f32) :
    Safe c bd O (k0_part24 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v1000 v1002 v1003) := by
  rw [k0_part24_eq_skeleton]; unfold k0_part24_skel
  refine Safe.bind Safe.load fun _ => ?_
  refine Safe.bind Safe.store fun _ => ?_
  refine Safe.bind Safe.load fun _ => ?_
  refine Safe.bind Safe.store fun _ => ?_
  iterate 4 refine Safe.bind Safe.smemLoad fun _ => ?_
  exact Safe.ret

theorem safe_k0_part25 (v159 : Vec F S256x128 .i32) (v1036 : FVec F S256x128 .f32) (v1037 : IVec S256x128 32) :
    Safe c bd O (k0_part25 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1036 v1037) := by
  rw [k0_part25_eq_skeleton]; unfold k0_part25_skel
  iterate 8 refine Safe.bind Safe.smemLoad fun _ => ?_
  exact Safe.ret

theorem safe_k0_part26 (v159 : Vec F S256x128 .i32) (v1071 : FVec F S256x128 .f32) (v1073 : IVec S256x128 1) (v1074 : Elt F .f32) :
    Safe c bd O (k0_part26 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1071 v1073 v1074) := by
  rw [k0_part26_eq_skeleton]; unfold k0_part26_skel
  iterate 7 refine Safe.bind Safe.smemLoad fun _ => ?_
  exact Safe.ret

theorem safe_k0_part27 (v159 : Vec F S256x128 .i32) (v1111 : FVec F S256x128 .f32) (v1112 : IVec S256x128 32) :
    Safe c bd O (k0_part27 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1111 v1112) := by
  rw [k0_part27_eq_skeleton]; unfold k0_part27_skel
  iterate 8 refine Safe.bind Safe.smemLoad fun _ => ?_
  exact Safe.ret

theorem safe_k0_part28 (v159 : Vec F S256x128 .i32) (v160 : IVec S256x128 32) (v1146 : FVec F S256x128 .f32) (v1148 : IVec S256x128 1) (v1149 : Elt F .f32) :
    Safe c bd O (k0_part28 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v1146 v1148 v1149) := by
  rw [k0_part28_eq_skeleton]; unfold k0_part28_skel
  iterate 5 refine Safe.bind Safe.smemLoad fun _ => ?_
  refine Safe.bind Safe.load fun _ => ?_
  refine Safe.bind Safe.store fun _ => ?_
  exact Safe.ret

theorem safe_k0_part29 (v159 : Vec F S256x128 .i32) (v1183 : FVec F S256x128 .f32) :
    Safe c bd O (k0_part29 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1183) := by
  rw [k0_part29_eq_skeleton]; unfold k0_part29_skel
  refine Safe.bind Safe.load fun _ => ?_
  refine Safe.bind Safe.store fun _ => ?_
  iterate 7 refine Safe.bind Safe.smemLoad fun _ => ?_
  exact Safe.ret

theorem safe_k0_part30 (v159 : Vec F S256x128 .i32) (v1217 : FVec F S256x128 .f32) (v1219 : IVec S256x128 1) (v1220 : Elt F .f32) :
    Safe c bd O (k0_part30 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1217 v1219 v1220) := by
  rw [k0_part30_eq_skeleton]; unfold k0_part30_skel
  iterate 7 refine Safe.bind Safe.smemLoad fun _ => ?_
  exact Safe.ret

theorem safe_k0_part31 (v159 : Vec F S256x128 .i32) (v1257 : FVec F S256x128 .f32) (v1258 : IVec S256x128 32) :
    Safe c bd O (k0_part31 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1257 v1258) := by
  rw [k0_part31_eq_skeleton]; unfold k0_part31_skel
  iterate 8 refine Safe.bind Safe.smemLoad fun _ => ?_
  exact Safe.ret

theorem safe_k0_part32 (v159 : Vec F S256x128 .i32) (v1292 : FVec F S256x128 .f32) (v1294 : IVec S256x128 1) (v1295 : Elt F .f32) :
    Safe c bd O (k0_part32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1292 v1294 v1295) := by
  rw [k0_part32_eq_skeleton]; unfold k0_part32_skel
  iterate 7 refine Safe.bind Safe.smemLoad fun _ => ?_
  exact Safe.ret

theorem safe_k0_part33 (v159 : Vec F S256x128 .i32) (v160 : IVec S256x128 32) (v1332 : FVec F S256x128 .f32) (v1333 : IVec S256x128 32) :
    Safe c bd O (k0_part33 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v1332 v1333) := by
  rw [k0_part33_eq_skeleton]; unfold k0_part33_skel
  iterate 3 refine Safe.bind Safe.smemLoad fun _ => ?_
  refine Safe.bind Safe.load fun _ => ?_
  refine Safe.bind Safe.store fun _ => ?_
  refine Safe.bind Safe.load fun _ => ?_
  refine Safe.bind Safe.store fun _ => ?_
  iterate 2 refine Safe.bind Safe.smemLoad fun _ => ?_
  exact Safe.ret

theorem safe_k0_part34 (v159 : Vec F S256x128 .i32) (v1363 : FVec F S256x128 .f32) (v1365 : IVec S256x128 1) (v1366 : Elt F .f32) :
    Safe c bd O (k0_part34 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1363 v1365 v1366) := by
  rw [k0_part34_eq_skeleton]; unfold k0_part34_skel
  iterate 7 refine Safe.bind Safe.smemLoad fun _ => ?_
  exact Safe.ret

theorem safe_k0_part35 (v159 : Vec F S256x128 .i32) (v1403 : FVec F S256x128 .f32) (v1404 : IVec S256x128 32) :
    Safe c bd O (k0_part35 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1403 v1404) := by
  rw [k0_part35_eq_skeleton]; unfold k0_part35_skel
  iterate 8 refine Safe.bind Safe.smemLoad fun _ => ?_
  exact Safe.ret

theorem safe_k0_part36 (v159 : Vec F S256x128 .i32) (v1438 : FVec F S256x128 .f32) (v1440 : IVec S256x128 1) (v1441 : Elt F .f32) :
    Safe c bd O (k0_part36 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1438 v1440 v1441) := by
  rw [k0_part36_eq_skeleton]; unfold k0_part36_skel
  iterate 7 refine Safe.bind Safe.smemLoad fun _ => ?_
  exact Safe.ret

theorem safe_k0_part37 (v159 : Vec F S256x128 .i32) (v1478 : FVec F S256x128 .f32) (v1479 : IVec S256x128 32) :
    Safe c bd O (k0_part37 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1478 v1479) := by
  rw [k0_part37_eq_skeleton]; unfold k0_part37_skel
  iterate 8 refine Safe.bind Safe.smemLoad fun _ => ?_
  exact Safe.ret

theorem safe_k0_part38 (v159 : Vec F S256x128 .i32) (v160 : IVec S256x128 32) (v1513 : FVec F S256x128 .f32) (v1515 : IVec S256x128 1) (v1516 : Elt F .f32) :
    Safe c bd O (k0_part38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v1513 v1515 v1516) := by
  rw [k0_part38_eq_skeleton]; unfold k0_part38_skel
  refine Safe.bind Safe.load fun _ => ?_
  refine Safe.bind Safe.store fun _ => ?_
  refine Safe.bind Safe.load fun _ => ?_
  refine Safe.bind Safe.store fun _ => ?_
  iterate 4 refine Safe.bind Safe.smemLoad fun _ => ?_
  exact Safe.ret

theorem safe_k0_part39 (v159 : Vec F S256x128 .i32) (v1549 : FVec F S256x128 .f32) (v1550 : IVec S256x128 32) :
    Safe c bd O (k0_part39 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1549 v1550) := by
  rw [k0_part39_eq_skeleton]; unfold k0_part39_skel
  iterate 8 refine Safe.bind Safe.smemLoad fun _ => ?_
  exact Safe.ret

theorem safe_k0_part40 (v159 : Vec F S256x128 .i32) (v1584 : FVec F S256x128 .f32) (v1586 : IVec S256x128 1) (v1587 : Elt F .f32) :
    Safe c bd O (k0_part40 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1584 v1586 v1587) := by
  rw [k0_part40_eq_skeleton]; unfold k0_part40_skel
  iterate 7 refine Safe.bind Safe.smemLoad fun _ => ?_
  exact Safe.ret

theorem safe_k0_part41 (v159 : Vec F S256x128 .i32) (v1624 : FVec F S256x128 .f32) (v1625 : IVec S256x128 32) :
    Safe c bd O (k0_part41 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1624 v1625) := by
  rw [k0_part41_eq_skeleton]; unfold k0_part41_skel
  iterate 8 refine Safe.bind Safe.smemLoad fun _ => ?_
  exact Safe.ret

theorem safe_k0_part42 (v159 : Vec F S256x128 .i32) (v160 : IVec S256x128 32) (v1659 : FVec F S256x128 .f32) (v1661 : IVec S256x128 1) (v1662 : Elt F .f32) :
    Safe c bd O (k0_part42 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v1659 v1661 v1662) := by
  rw [k0_part42_eq_skeleton]; unfold k0_part42_skel
  iterate 5 refine Safe.bind Safe.smemLoad fun _ => ?_
  refine Safe.bind Safe.load fun _ => ?_
  refine Safe.bind Safe.store fun _ => ?_
  exact Safe.ret

theorem safe_k0_part43 (v159 : Vec F S256x128 .i32) (v1696 : FVec F S256x128 .f32) :
    Safe c bd O (k0_part43 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1696) := by
  rw [k0_part43_eq_skeleton]; unfold k0_part43_skel
  refine Safe.bind Safe.load fun _ => ?_
  refine Safe.bind Safe.store fun _ => ?_
  iterate 7 refine Safe.bind Safe.smemLoad fun _ => ?_
  exact Safe.ret

theorem safe_k0_part44 (v159 : Vec F S256x128 .i32) (v1730 : FVec F S256x128 .f32) (v1732 : IVec S256x128 1) (v1733 : Elt F .f32) :
    Safe c bd O (k0_part44 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1730 v1732 v1733) := by
  rw [k0_part44_eq_skeleton]; unfold k0_part44_skel
  iterate 7 refine Safe.bind Safe.smemLoad fun _ => ?_
  exact Safe.ret

theorem safe_k0_part45 (v159 : Vec F S256x128 .i32) (v1770 : FVec F S256x128 .f32) (v1771 : IVec S256x128 32) :
    Safe c bd O (k0_part45 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1770 v1771) := by
  rw [k0_part45_eq_skeleton]; unfold k0_part45_skel
  iterate 8 refine Safe.bind Safe.smemLoad fun _ => ?_
  exact Safe.ret

theorem safe_k0_part46 (v159 : Vec F S256x128 .i32) (v1805 : FVec F S256x128 .f32) (v1807 : IVec S256x128 1) (v1808 : Elt F .f32) :
    Safe c bd O (k0_part46 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1805 v1807 v1808) := by
  rw [k0_part46_eq_skeleton]; unfold k0_part46_skel
  iterate 7 refine Safe.bind Safe.smemLoad fun _ => ?_
  exact Safe.ret

theorem safe_k0_part47 (v159 : Vec F S256x128 .i32) (v160 : IVec S256x128 32) (v1845 : FVec F S256x128 .f32) (v1846 : IVec S256x128 32) :
    Safe c bd O (k0_part47 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v1845 v1846) := by
  rw [k0_part47_eq_skeleton]; unfold k0_part47_skel
  iterate 3 refine Safe.bind Safe.smemLoad fun _ => ?_
  refine Safe.bind Safe.load fun _ => ?_
  refine Safe.bind Safe.store fun _ => ?_
  refine Safe.bind Safe.load fun _ => ?_
  refine Safe.bind Safe.store fun _ => ?_
  iterate 2 refine Safe.bind Safe.smemLoad fun _ => ?_
  exact Safe.ret

theorem safe_k0_part48 (v159 : Vec F S256x128 .i32) (v1876 : FVec F S256x128 .f32) (v1878 : IVec S256x128 1) (v1879 : Elt F .f32) :
    Safe c bd O (k0_part48 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1876 v1878 v1879) := by
  rw [k0_part48_eq_skeleton]; unfold k0_part48_skel
  iterate 7 refine Safe.bind Safe.smemLoad fun _ => ?_
  exact Safe.ret

theorem safe_k0_part49 (v159 : Vec F S256x128 .i32) (v1916 : FVec F S256x128 .f32) (v1917 : IVec S256x128 32) :
    Safe c bd O (k0_part49 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1916 v1917) := by
  rw [k0_part49_eq_skeleton]; unfold k0_part49_skel
  iterate 8 refine Safe.bind Safe.smemLoad fun _ => ?_
  exact Safe.ret

theorem safe_k0_part50 (v159 : Vec F S256x128 .i32) (v1951 : FVec F S256x128 .f32) (v1953 : IVec S256x128 1) (v1954 : Elt F .f32) :
    Safe c bd O (k0_part50 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1951 v1953 v1954) := by
  rw [k0_part50_eq_skeleton]; unfold k0_part50_skel
  iterate 7 refine Safe.bind Safe.smemLoad fun _ => ?_
  exact Safe.ret

theorem safe_k0_part51 (v159 : Vec F S256x128 .i32) (v1991 : FVec F S256x128 .f32) (v1992 : IVec S256x128 32) :
    Safe c bd O (k0_part51 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v1991 v1992) := by
  rw [k0_part51_eq_skeleton]; unfold k0_part51_skel
  iterate 8 refine Safe.bind Safe.smemLoad fun _ => ?_
  exact Safe.ret

theorem safe_k0_part52 (v159 : Vec F S256x128 .i32) (v160 : IVec S256x128 32) (v2026 : FVec F S256x128 .f32) (v2028 : IVec S256x128 1) (v2029 : Elt F .f32) :
    Safe c bd O (k0_part52 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v2026 v2028 v2029) := by
  rw [k0_part52_eq_skeleton]; unfold k0_part52_skel
  refine Safe.bind Safe.load fun _ => ?_
  refine Safe.bind Safe.store fun _ => ?_
  refine Safe.bind Safe.load fun _ => ?_
  refine Safe.bind Safe.store fun _ => ?_
  iterate 4 refine Safe.bind Safe.smemLoad fun _ => ?_
  exact Safe.ret

theorem safe_k0_part53 (v159 : Vec F S256x128 .i32) (v2062 : FVec F S256x128 .f32) (v2063 : IVec S256x128 32) :
    Safe c bd O (k0_part53 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2062 v2063) := by
  rw [k0_part53_eq_skeleton]; unfold k0_part53_skel
  iterate 8 refine Safe.bind Safe.smemLoad fun _ => ?_
  exact Safe.ret

theorem safe_k0_part54 (v159 : Vec F S256x128 .i32) (v2097 : FVec F S256x128 .f32) (v2099 : IVec S256x128 1) (v2100 : Elt F .f32) :
    Safe c bd O (k0_part54 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2097 v2099 v2100) := by
  rw [k0_part54_eq_skeleton]; unfold k0_part54_skel
  iterate 7 refine Safe.bind Safe.smemLoad fun _ => ?_
  exact Safe.ret

theorem safe_k0_part55 (v159 : Vec F S256x128 .i32) (v2137 : FVec F S256x128 .f32) (v2138 : IVec S256x128 32) :
    Safe c bd O (k0_part55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2137 v2138) := by
  rw [k0_part55_eq_skeleton]; unfold k0_part55_skel
  iterate 8 refine Safe.bind Safe.smemLoad fun _ => ?_
  exact Safe.ret

theorem safe_k0_part56 (v159 : Vec F S256x128 .i32) (v160 : IVec S256x128 32) (v2172 : FVec F S256x128 .f32) (v2174 : IVec S256x128 1) (v2175 : Elt F .f32) :
    Safe c bd O (k0_part56 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v2172 v2174 v2175) := by
  rw [k0_part56_eq_skeleton]; unfold k0_part56_skel
  iterate 5 refine Safe.bind Safe.smemLoad fun _ => ?_
  refine Safe.bind Safe.load fun _ => ?_
  refine Safe.bind Safe.store fun _ => ?_
  exact Safe.ret

theorem safe_k0_part57 (v159 : Vec F S256x128 .i32) (v2209 : FVec F S256x128 .f32) :
    Safe c bd O (k0_part57 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2209) := by
  rw [k0_part57_eq_skeleton]; unfold k0_part57_skel
  refine Safe.bind Safe.load fun _ => ?_
  refine Safe.bind Safe.store fun _ => ?_
  iterate 7 refine Safe.bind Safe.smemLoad fun _ => ?_
  exact Safe.ret

theorem safe_k0_part58 (v159 : Vec F S256x128 .i32) (v2243 : FVec F S256x128 .f32) (v2245 : IVec S256x128 1) (v2246 : Elt F .f32) :
    Safe c bd O (k0_part58 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2243 v2245 v2246) := by
  rw [k0_part58_eq_skeleton]; unfold k0_part58_skel
  iterate 7 refine Safe.bind Safe.smemLoad fun _ => ?_
  exact Safe.ret

theorem safe_k0_part59 (v159 : Vec F S256x128 .i32) (v2283 : FVec F S256x128 .f32) (v2284 : IVec S256x128 32) :
    Safe c bd O (k0_part59 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2283 v2284) := by
  rw [k0_part59_eq_skeleton]; unfold k0_part59_skel
  iterate 8 refine Safe.bind Safe.smemLoad fun _ => ?_
  exact Safe.ret

theorem safe_k0_part60 (v159 : Vec F S256x128 .i32) (v2318 : FVec F S256x128 .f32) (v2320 : IVec S256x128 1) (v2321 : Elt F .f32) :
    Safe c bd O (k0_part60 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2318 v2320 v2321) := by
  rw [k0_part60_eq_skeleton]; unfold k0_part60_skel
  iterate 7 refine Safe.bind Safe.smemLoad fun _ => ?_
  exact Safe.ret

theorem safe_k0_part61 (v159 : Vec F S256x128 .i32) (v160 : IVec S256x128 32) (v2358 : FVec F S256x128 .f32) (v2359 : IVec S256x128 32) :
    Safe c bd O (k0_part61 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v2358 v2359) := by
  rw [k0_part61_eq_skeleton]; unfold k0_part61_skel
  iterate 3 refine Safe.bind Safe.smemLoad fun _ => ?_
  refine Safe.bind Safe.load fun _ => ?_
  refine Safe.bind Safe.store fun _ => ?_
  refine Safe.bind Safe.load fun _ => ?_
  refine Safe.bind Safe.store fun _ => ?_
  iterate 2 refine Safe.bind Safe.smemLoad fun _ => ?_
  exact Safe.ret

theorem safe_k0_part62 (v159 : Vec F S256x128 .i32) (v2389 : FVec F S256x128 .f32) (v2391 : IVec S256x128 1) (v2392 : Elt F .f32) :
    Safe c bd O (k0_part62 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2389 v2391 v2392) := by
  rw [k0_part62_eq_skeleton]; unfold k0_part62_skel
  iterate 7 refine Safe.bind Safe.smemLoad fun _ => ?_
  exact Safe.ret

theorem safe_k0_part63 (v159 : Vec F S256x128 .i32) (v2429 : FVec F S256x128 .f32) (v2430 : IVec S256x128 32) :
    Safe c bd O (k0_part63 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2429 v2430) := by
  rw [k0_part63_eq_skeleton]; unfold k0_part63_skel
  iterate 8 refine Safe.bind Safe.smemLoad fun _ => ?_
  exact Safe.ret

theorem safe_k0_part64 (v159 : Vec F S256x128 .i32) (v2464 : FVec F S256x128 .f32) (v2466 : IVec S256x128 1) (v2467 : Elt F .f32) :
    Safe c bd O (k0_part64 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2464 v2466 v2467) := by
  rw [k0_part64_eq_skeleton]; unfold k0_part64_skel
  iterate 7 refine Safe.bind Safe.smemLoad fun _ => ?_
  exact Safe.ret

theorem safe_k0_part65 (v159 : Vec F S256x128 .i32) (v2504 : FVec F S256x128 .f32) (v2505 : IVec S256x128 32) :
    Safe c bd O (k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2504 v2505) := by
  rw [k0_part65_eq_skeleton]; unfold k0_part65_skel
  iterate 8 refine Safe.bind Safe.smemLoad fun _ => ?_
  exact Safe.ret

theorem safe_k0_part66 (v159 : Vec F S256x128 .i32) (v160 : IVec S256x128 32) (v2539 : FVec F S256x128 .f32) (v2541 : IVec S256x128 1) (v2542 : Elt F .f32) :
    Safe c bd O (k0_part66 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v2539 v2541 v2542) := by
  rw [k0_part66_eq_skeleton]; unfold k0_part66_skel
  refine Safe.bind Safe.load fun _ => ?_
  refine Safe.bind Safe.store fun _ => ?_
  refine Safe.bind Safe.load fun _ => ?_
  refine Safe.bind Safe.store fun _ => ?_
  iterate 4 refine Safe.bind Safe.smemLoad fun _ => ?_
  exact Safe.ret

theorem safe_k0_part67 (v159 : Vec F S256x128 .i32) (v2575 : FVec F S256x128 .f32) (v2576 : IVec S256x128 32) :
    Safe c bd O (k0_part67 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2575 v2576) := by
  rw [k0_part67_eq_skeleton]; unfold k0_part67_skel
  iterate 8 refine Safe.bind Safe.smemLoad fun _ => ?_
  exact Safe.ret

theorem safe_k0_part68 (v159 : Vec F S256x128 .i32) (v2610 : FVec F S256x128 .f32) (v2612 : IVec S256x128 1) (v2613 : Elt F .f32) :
    Safe c bd O (k0_part68 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2610 v2612 v2613) := by
  rw [k0_part68_eq_skeleton]; unfold k0_part68_skel
  iterate 7 refine Safe.bind Safe.smemLoad fun _ => ?_
  exact Safe.ret

theorem safe_k0_part69 (v159 : Vec F S256x128 .i32) (v2650 : FVec F S256x128 .f32) (v2651 : IVec S256x128 32) :
    Safe c bd O (k0_part69 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2650 v2651) := by
  rw [k0_part69_eq_skeleton]; unfold k0_part69_skel
  iterate 8 refine Safe.bind Safe.smemLoad fun _ => ?_
  exact Safe.ret

theorem safe_k0_part70 (v159 : Vec F S256x128 .i32) (v160 : IVec S256x128 32) (v2685 : FVec F S256x128 .f32) (v2687 : IVec S256x128 1) (v2688 : Elt F .f32) :
    Safe c bd O (k0_part70 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v160 v2685 v2687 v2688) := by
  rw [k0_part70_eq_skeleton]; unfold k0_part70_skel
  iterate 5 refine Safe.bind Safe.smemLoad fun _ => ?_
  refine Safe.bind Safe.load fun _ => ?_
  refine Safe.bind Safe.store fun _ => ?_
  exact Safe.ret

theorem safe_k0_part71 (v159 : Vec F S256x128 .i32) (v2722 : FVec F S256x128 .f32) :
    Safe c bd O (k0_part71 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2722) := by
  rw [k0_part71_eq_skeleton]; unfold k0_part71_skel
  refine Safe.bind Safe.load fun _ => ?_
  refine Safe.bind Safe.store fun _ => ?_
  iterate 7 refine Safe.bind Safe.smemLoad fun _ => ?_
  exact Safe.ret

theorem safe_k0_part72 (v159 : Vec F S256x128 .i32) (v2756 : FVec F S256x128 .f32) (v2758 : IVec S256x128 1) (v2759 : Elt F .f32) :
    Safe c bd O (k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2756 v2758 v2759) := by
  rw [k0_part72_eq_skeleton]; unfold k0_part72_skel
  iterate 7 refine Safe.bind Safe.smemLoad fun _ => ?_
  exact Safe.ret

theorem safe_k0_part73 (v159 : Vec F S256x128 .i32) (v2796 : FVec F S256x128 .f32) (v2797 : IVec S256x128 32) :
    Safe c bd O (k0_part73 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2796 v2797) := by
  rw [k0_part73_eq_skeleton]; unfold k0_part73_skel
  iterate 8 refine Safe.bind Safe.smemLoad fun _ => ?_
  exact Safe.ret

theorem safe_k0_part74 (v159 : Vec F S256x128 .i32) (v2831 : FVec F S256x128 .f32) (v2833 : IVec S256x128 1) (v2834 : Elt F .f32) :
    Safe c bd O (k0_part74 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v159 v2831 v2833 v2834) := by
  rw [k0_part74_eq_skeleton]; unfold k0_part74_skel
  iterate 7 refine Safe.bind Safe.smemLoad fun _ => ?_
  exact Safe.ret

theorem safe_k0_part75  :
    Safe c bd O (k0_part75 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 ) := by
  rw [k0_part75_eq_skeleton]; unfold k0_part75_skel
  refine Safe.bind (safe_k0_part1 ..) ?_
  rintro ⟨_, _, _, _, _⟩
  refine Safe.bind (safe_k0_part2 ..) ?_
  rintro ⟨_, _⟩
  refine Safe.bind (safe_k0_part3 ..) ?_
  rintro ⟨_, _, _⟩
  refine Safe.bind (safe_k0_part4 ..) ?_
  rintro ⟨_, _⟩
  refine Safe.bind (safe_k0_part5 ..) ?_
  rintro ⟨_, _, _⟩
  refine Safe.bind (safe_k0_part6 ..) ?_
  rintro ⟨_, _⟩
  refine Safe.bind (safe_k0_part7 ..) ?_
  rintro ⟨_, _, _⟩
  refine Safe.bind (safe_k0_part8 ..) ?_
  rintro ⟨_, _⟩
  refine Safe.bind (safe_k0_part9 ..) ?_
  rintro ⟨_, _, _⟩
  refine Safe.bind (safe_k0_part10 ..) ?_
  rintro ⟨_, _⟩
  refine Safe.bind (safe_k0_part11 ..) ?_
  rintro ⟨_, _, _⟩
  refine Safe.bind (safe_k0_part12 ..) ?_
  rintro ⟨_, _⟩
  refine Safe.bind (safe_k0_part13 ..) ?_
  rintro ⟨_, _, _⟩
  refine Safe.bind (safe_k0_part14 ..) ?_
  intro _
  refine Safe.bind (safe_k0_part15 ..) ?_
  rintro ⟨_, _, _⟩
  refine Safe.bind (safe_k0_part16 ..) ?_
  rintro ⟨_, _⟩
  refine Safe.bind (safe_k0_part17 ..) ?_
  rintro ⟨_, _, _⟩
  refine Safe.bind (safe_k0_part18 ..) ?_
  rintro ⟨_, _⟩
  refine Safe.bind (safe_k0_part19 ..) ?_
  rintro ⟨_, _, _⟩
  refine Safe.bind (safe_k0_part20 ..) ?_
  rintro ⟨_, _⟩
  refine Safe.bind (safe_k0_part21 ..) ?_
  rintro ⟨_, _, _⟩
  refine Safe.bind (safe_k0_part22 ..) ?_
  rintro ⟨_, _⟩
  refine Safe.bind (safe_k0_part23 ..) ?_
  rintro ⟨_, _, _⟩
  refine Safe.bind (safe_k0_part24 ..) ?_
  rintro ⟨_, _⟩
  refine Safe.bind (safe_k0_part25 ..) ?_
  rintro ⟨_, _, _⟩
  refine Safe.bind (safe_k0_part26 ..) ?_
  rintro ⟨_, _⟩
  refine Safe.bind (safe_k0_part27 ..) ?_
  rintro ⟨_, _, _⟩
  refine Safe.bind (safe_k0_part28 ..) ?_
  intro _
  refine Safe.bind (safe_k0_part29 ..) ?_
  rintro ⟨_, _, _⟩
  refine Safe.bind (safe_k0_part30 ..) ?_
  rintro ⟨_, _⟩
  refine Safe.bind (safe_k0_part31 ..) ?_
  rintro ⟨_, _, _⟩
  refine Safe.bind (safe_k0_part32 ..) ?_
  rintro ⟨_, _⟩
  refine Safe.bind (safe_k0_part33 ..) ?_
  rintro ⟨_, _, _⟩
  refine Safe.bind (safe_k0_part34 ..) ?_
  rintro ⟨_, _⟩
  refine Safe.bind (safe_k0_part35 ..) ?_
  rintro ⟨_, _, _⟩
  refine Safe.bind (safe_k0_part36 ..) ?_
  rintro ⟨_, _⟩
  refine Safe.bind (safe_k0_part37 ..) ?_
  rintro ⟨_, _, _⟩
  refine Safe.bind (safe_k0_part38 ..) ?_
  rintro ⟨_, _⟩
  refine Safe.bind (safe_k0_part39 ..) ?_
  rintro ⟨_, _, _⟩
  refine Safe.bind (safe_k0_part40 ..) ?_
  rintro ⟨_, _⟩
  refine Safe.bind (safe_k0_part41 ..) ?_
  rintro ⟨_, _, _⟩
  refine Safe.bind (safe_k0_part42 ..) ?_
  intro _
  refine Safe.bind (safe_k0_part43 ..) ?_
  rintro ⟨_, _, _⟩
  refine Safe.bind (safe_k0_part44 ..) ?_
  rintro ⟨_, _⟩
  refine Safe.bind (safe_k0_part45 ..) ?_
  rintro ⟨_, _, _⟩
  refine Safe.bind (safe_k0_part46 ..) ?_
  rintro ⟨_, _⟩
  refine Safe.bind (safe_k0_part47 ..) ?_
  rintro ⟨_, _, _⟩
  refine Safe.bind (safe_k0_part48 ..) ?_
  rintro ⟨_, _⟩
  refine Safe.bind (safe_k0_part49 ..) ?_
  rintro ⟨_, _, _⟩
  refine Safe.bind (safe_k0_part50 ..) ?_
  rintro ⟨_, _⟩
  refine Safe.bind (safe_k0_part51 ..) ?_
  rintro ⟨_, _, _⟩
  refine Safe.bind (safe_k0_part52 ..) ?_
  rintro ⟨_, _⟩
  refine Safe.bind (safe_k0_part53 ..) ?_
  rintro ⟨_, _, _⟩
  refine Safe.bind (safe_k0_part54 ..) ?_
  rintro ⟨_, _⟩
  refine Safe.bind (safe_k0_part55 ..) ?_
  rintro ⟨_, _, _⟩
  refine Safe.bind (safe_k0_part56 ..) ?_
  intro _
  refine Safe.bind (safe_k0_part57 ..) ?_
  rintro ⟨_, _, _⟩
  refine Safe.bind (safe_k0_part58 ..) ?_
  rintro ⟨_, _⟩
  refine Safe.bind (safe_k0_part59 ..) ?_
  rintro ⟨_, _, _⟩
  refine Safe.bind (safe_k0_part60 ..) ?_
  rintro ⟨_, _⟩
  exact Safe.ret

end Cert.KernelIdeal.Hand

end
-- ==== Proof.SafeB.lean ====
module

public import proofs.«01_k».proof.Proof.Safe

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {c : Dev nD} {bd : Option ℕ} {O : sProp (MM F)}
variable {i : grid0.Coords} {arg1 : Memref sig .tc .vmem S128x1024 .bf16} {harg1 : arg1.IsWhole} {arg2 : Memref sig .tc .vmem S128x128 .bf16} {harg2 : arg2.IsWhole} {arg3 : Memref sig .tc .vmem S128x128 .bf16} {harg3 : arg3.IsWhole} {arg4 : Memref sig .tc .vmem S128x128 .bf16} {harg4 : arg4.IsWhole} {arg5 : Memref sig .tc .vmem S128x128 .bf16} {harg5 : arg5.IsWhole} {arg6 : Memref sig .tc .vmem S256x128 .i32} {harg6 : arg6.IsWhole} {arg7 : Memref sig .tc .smem S32x16 .f32} {harg7 : arg7.IsWhole} {arg8 : Memref sig .tc .smem S16 .f32} {harg8 : arg8.IsWhole} {arg9 : Memref sig .tc .vmem S1x1024 .f32} {harg9 : arg9.IsWhole} {arg10 : Memref sig .tc .vmem S128x1024 .bf16} {harg10 : arg10.IsWhole} {arg11 : Memref sig .tc .vmem S128x1024 .bf16} {harg11 : arg11.IsWhole} {arg12 : Memref sig .tc .vmem S128x1024 .bf16} {harg12 : arg12.IsWhole} {arg13 : Memref sig .tc .vmem S128x1024 .bf16} {harg13 : arg13.IsWhole} {arg14 : Memref sig .tc .vmem S128x1024 .bf16} {harg14 : arg14.IsWhole} {arg15 : Memref sig .tc .vmem S128x1024 .bf16} {harg15 : arg15.IsWhole} {arg16 : Memref sig .tc .vmem S128x1024 .bf16} {harg16 : arg16.IsWhole} {arg17 : Memref sig .tc .vmem S256x256 .bf16} {harg17 : arg17.IsWhole} {arg18 : Memref sig .tc .vmem S1x1024 .f32} {harg18 : arg18.IsWhole} {arg19 : Memref sig .tc .hbm S16384x4352 .bf16} {harg19 : arg19.IsWhole} {arg20 : Memref sig .tc .vmem S128x2048 .bf16} {harg20 : arg20.IsWhole} {arg21 : Memref sig .tc .vmem S2x8x256x256 .f32} {harg21 : arg21.IsWhole} {arg22 : Memref sig .tc .vmem S1024x128 .f32} {harg22 : arg22.IsWhole} {arg23 : Memref sig .tc .vmem S8x256x128 .bf16} {harg23 : arg23.IsWhole} {arg24 : Memref sig .tc .vmem S8x128x128 .bf16} {harg24 : arg24.IsWhole} {arg25 : Memref sig .tc .vmem S8x128x128 .bf16} {harg25 : arg25.IsWhole} {arg26 : Memref sig .tc .vmem S8x256x128 .f32} {harg26 : arg26.IsWhole} {arg27 : Memref sig .tc .vmem S8x256x128 .f32} {harg27 : arg27.IsWhole} {arg28 : Memref sig .tc .smem S8 .i32} {harg28 : arg28.IsWhole} {arg29 : DmaSems sig S2}
variable [Has c O arg1] [Has c O arg2] [Has c O arg3] [Has c O arg4] [Has c O arg5] [Has c O arg6] [Has c O arg7] [Has c O arg8] [Has c O arg9] [Has c O arg10] [Has c O arg11] [Has c O arg12] [Has c O arg13] [Has c O arg14] [Has c O arg15] [Has c O arg16] [Has c O arg17] [Has c O arg18] [Has c O arg20] [Has c O arg21] [Has c O arg22] [Has c O arg23] [Has c O arg24] [Has c O arg25] [Has c O arg26] [Has c O arg27] [Has c O arg28]

theorem safe_k0_part76 (v5 : IVec S128x128 1) :
    Safe c bd O (k0_part76 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5) := by
  rw [k0_part76_eq_skeleton]; unfold k0_part76_skel
  iterate 2 refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 5 refine Safe.bind Safe.load fun _ => ?_
  exact Safe.ret

theorem safe_k0_part77 (v5 : IVec S128x128 1) (v189 : FVec F S128x128 .bf16) :
    Safe c bd O (k0_part77 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v189) := by
  rw [k0_part77_eq_skeleton]; unfold k0_part77_skel
  refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 5 refine Safe.bind Safe.load fun _ => ?_
  exact Safe.ret

theorem safe_k0_part78 (v5 : IVec S128x128 1) (v220 : FVec F S128x128 .bf16) (v221 : FVec F S128x128 .bf16) :
    Safe c bd O (k0_part78 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v220 v221) := by
  rw [k0_part78_eq_skeleton]; unfold k0_part78_skel
  refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 5 refine Safe.bind Safe.load fun _ => ?_
  exact Safe.ret

theorem safe_k0_part79 (v5 : IVec S128x128 1) (v251 : FVec F S256x128 .bf16) :
    Safe c bd O (k0_part79 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v251) := by
  rw [k0_part79_eq_skeleton]; unfold k0_part79_skel
  refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 6 refine Safe.bind Safe.load fun _ => ?_
  refine Safe.bind Safe.store fun _ => ?_
  exact Safe.ret

theorem safe_k0_part80 (v5 : IVec S128x128 1) :
    Safe c bd O (k0_part80 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5) := by
  rw [k0_part80_eq_skeleton]; unfold k0_part80_skel
  iterate 2 refine Safe.bind Safe.load fun _ => ?_
  refine Safe.bind Safe.store fun _ => ?_
  iterate 2 refine Safe.bind Safe.load fun _ => ?_
  refine Safe.bind Safe.store fun _ => ?_
  iterate 6 refine Safe.bind Safe.load fun _ => ?_
  refine Safe.bind Safe.store fun _ => ?_
  refine Safe.bind Safe.load fun _ => ?_
  exact Safe.ret

theorem safe_k0_part81 (v5 : IVec S128x128 1) (v314 : FVec F S128x128 .bf16) :
    Safe c bd O (k0_part81 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v314) := by
  rw [k0_part81_eq_skeleton]; unfold k0_part81_skel
  refine Safe.bind Safe.load fun _ => ?_
  refine Safe.bind Safe.store fun _ => ?_
  iterate 2 refine Safe.bind Safe.load fun _ => ?_
  refine Safe.bind Safe.store fun _ => ?_
  iterate 6 refine Safe.bind Safe.load fun _ => ?_
  refine Safe.bind Safe.store fun _ => ?_
  iterate 2 refine Safe.bind Safe.load fun _ => ?_
  exact Safe.ret

theorem safe_k0_part82 (v5 : IVec S128x128 1) (v343 : FVec F S128x128 .bf16) (v344 : Vec F S1x128x128 .bf16) :
    Safe c bd O (k0_part82 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v343 v344) := by
  rw [k0_part82_eq_skeleton]; unfold k0_part82_skel
  refine Safe.bind Safe.store fun _ => ?_
  iterate 2 refine Safe.bind Safe.load fun _ => ?_
  refine Safe.bind Safe.store fun _ => ?_
  iterate 6 refine Safe.bind Safe.load fun _ => ?_
  refine Safe.bind Safe.store fun _ => ?_
  iterate 2 refine Safe.bind Safe.load fun _ => ?_
  refine Safe.bind Safe.store fun _ => ?_
  exact Safe.ret

theorem safe_k0_part83  :
    Safe c bd O (k0_part83 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 ) := by
  rw [k0_part83_eq_skeleton]; unfold k0_part83_skel
  iterate 2 refine Safe.bind Safe.load fun _ => ?_
  refine Safe.bind Safe.store fun _ => ?_
  iterate 8 refine Safe.bind Safe.load fun _ => ?_
  exact Safe.ret

theorem safe_k0_part84 (v393 : IVec S128x128 1) (v396 : IVec S1x256 1) (v401 : FVec F S256x128 .bf16) :
    Safe c bd O (k0_part84 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v393 v396 v401) := by
  rw [k0_part84_eq_skeleton]; unfold k0_part84_skel
  iterate 3 refine Safe.bind Safe.load fun _ => ?_
  iterate 2 refine Safe.bind Safe.smemLoad fun _ => ?_
  iterate 3 refine Safe.bind Safe.load fun _ => ?_
  iterate 2 refine Safe.bind Safe.smemLoad fun _ => ?_
  exact Safe.ret

theorem safe_k0_part85 (v393 : IVec S128x128 1) (v396 : IVec S1x256 1) (v404 : FVec F S256x128 .bf16) :
    Safe c bd O (k0_part85 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v393 v396 v404) := by
  rw [k0_part85_eq_skeleton]; unfold k0_part85_skel
  iterate 3 refine Safe.bind Safe.load fun _ => ?_
  iterate 2 refine Safe.bind Safe.smemLoad fun _ => ?_
  iterate 2 refine Safe.bind Safe.load fun _ => ?_
  exact Safe.ret

theorem safe_k0_part86 (v393 : IVec S128x128 1) (v396 : IVec S1x256 1) (v404 : FVec F S256x128 .bf16) (v478 : FVec F S256x256 .f32) :
    Safe c bd O (k0_part86 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v393 v396 v404 v478) := by
  rw [k0_part86_eq_skeleton]; unfold k0_part86_skel
  refine Safe.bind Safe.load fun _ => ?_
  iterate 2 refine Safe.bind Safe.smemLoad fun _ => ?_
  iterate 3 refine Safe.bind Safe.load fun _ => ?_
  iterate 2 refine Safe.bind Safe.smemLoad fun _ => ?_
  iterate 2 refine Safe.bind Safe.load fun _ => ?_
  exact Safe.ret

theorem safe_k0_part87 (v393 : IVec S128x128 1) (v396 : IVec S1x256 1) (v401 : FVec F S256x128 .bf16) (v514 : FVec F S256x256 .f32) :
    Safe c bd O (k0_part87 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v393 v396 v401 v514) := by
  rw [k0_part87_eq_skeleton]; unfold k0_part87_skel
  refine Safe.bind Safe.load fun _ => ?_
  iterate 2 refine Safe.bind Safe.smemLoad fun _ => ?_
  iterate 3 refine Safe.bind Safe.load fun _ => ?_
  iterate 2 refine Safe.bind Safe.smemLoad fun _ => ?_
  iterate 2 refine Safe.bind Safe.load fun _ => ?_
  exact Safe.ret

theorem safe_k0_part88 (v164 : FVec F S256x128 .bf16) (v182 : FVec F S256x128 .bf16) (v193 : FVec F S256x128 .bf16) (v211 : FVec F S256x128 .bf16) (v222 : FVec F S256x128 .bf16) (v240 : FVec F S256x128 .bf16) (v251 : FVec F S256x128 .bf16) (v269 : FVec F S256x128 .bf16) (v280 : FVec F S256x128 .bf16) (v298 : FVec F S256x128 .bf16) (v309 : FVec F S256x128 .bf16) (v327 : FVec F S256x128 .bf16) (v338 : FVec F S256x128 .bf16) (v356 : FVec F S256x128 .bf16) (v367 : FVec F S256x128 .bf16) (v385 : FVec F S256x128 .bf16) (v393 : IVec S128x128 1) (v396 : IVec S1x256 1) (v401 : FVec F S256x128 .bf16) (v547 : FVec F S128x128 .bf16) (v549 : FVec F S128x128 .bf16) :
    Safe c bd O (k0_part88 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v164 v182 v193 v211 v222 v240 v251 v269 v280 v298 v309 v327 v338 v356 v367 v385 v393 v396 v401 v547 v549) := by
  rw [k0_part88_eq_skeleton]; unfold k0_part88_skel
  refine Safe.bind Safe.load fun _ => ?_
  iterate 2 refine Safe.bind Safe.smemLoad fun _ => ?_
  exact Safe.ret

theorem safe_k0_part89 (v423 : FVec F S256x256 .f32) (v428 : FVec F S1x256 .f32) (v441 : FVec F S256x256 .f32) (v446 : FVec F S1x256 .f32) (v461 : FVec F S256x256 .f32) (v466 : FVec F S1x256 .f32) (v481 : FVec F S256x256 .f32) (v486 : FVec F S1x256 .f32) (v499 : FVec F S256x256 .f32) (v504 : FVec F S1x256 .f32) (v517 : FVec F S256x256 .f32) (v522 : FVec F S1x256 .f32) (v537 : FVec F S256x256 .f32) (v542 : FVec F S1x256 .f32) (v557 : FVec F S256x256 .f32) (v562 : FVec F S1x256 .f32) (v565 : FVec F S256x256 .f32) (v584 : FVec F S256x256 .f32) (cst_394 : F .f32) :
    Safe c bd O (k0_part89 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v423 v428 v441 v446 v461 v466 v481 v486 v499 v504 v517 v522 v537 v542 v557 v562 v565 v584 cst_394) := by
  rw [k0_part89_eq_skeleton]; unfold k0_part89_skel
  exact Safe.ret

theorem safe_k0_part90 (v568 : FVec F S256x256 .f32) (v571 : FVec F S256x256 .f32) (v574 : FVec F S256x256 .f32) (v577 : FVec F S256x256 .f32) (v580 : FVec F S256x256 .f32) (v635 : FVec F S256x256 .f32) (cst_403 : F .f32) :
    Safe c bd O (k0_part90 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v568 v571 v574 v577 v580 v635 cst_403) := by
  rw [k0_part90_eq_skeleton]; unfold k0_part90_skel
  exact Safe.ret

theorem safe_k0_part91 (v565 : FVec F S256x256 .f32) (v568 : FVec F S256x256 .f32) (v571 : FVec F S256x256 .f32) (v574 : FVec F S256x256 .f32) (v577 : FVec F S256x256 .f32) (v580 : FVec F S256x256 .f32) (v583 : FVec F S256x256 .f32) (v586 : FVec F S256x256 .f32) (v643 : FVec F S256x256 .f32) (v652 : FVec F S256x256 .f32) (v661 : FVec F S256x256 .f32) (v670 : FVec F S256x256 .f32) (v679 : FVec F S256x256 .f32) (v680 : FVec F S256x256 .f32) (cst_418 : F .f32) :
    Safe c bd O (k0_part91 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v565 v568 v571 v574 v577 v580 v583 v586 v643 v652 v661 v670 v679 v680 cst_418) := by
  rw [k0_part91_eq_skeleton]; unfold k0_part91_skel
  exact Safe.ret

theorem safe_k0_part92 (v428 : FVec F S1x256 .f32) (v446 : FVec F S1x256 .f32) (v466 : FVec F S1x256 .f32) (v486 : FVec F S1x256 .f32) (v504 : FVec F S1x256 .f32) (v565 : FVec F S256x256 .f32) (v568 : FVec F S256x256 .f32) (v571 : FVec F S256x256 .f32) (v574 : FVec F S256x256 .f32) (v577 : FVec F S256x256 .f32) (v580 : FVec F S256x256 .f32) (v583 : FVec F S256x256 .f32) (v586 : FVec F S256x256 .f32) (v589 : FVec F S1x256 .f32) (v592 : FVec F S1x256 .f32) (v595 : FVec F S1x256 .f32) (v598 : FVec F S1x256 .f32) (v601 : FVec F S1x256 .f32) (v613 : FVec F S256x256 .f32) (v616 : FVec F S256x256 .f32) (v619 : FVec F S256x256 .f32) (v622 : FVec F S256x256 .f32) (v625 : FVec F S256x256 .f32) (v697 : FVec F S256x256 .f32) (v706 : FVec F S256x256 .f32) (v709 : FVec F S256x256 .f32) (v712 : FVec F S256x256 .f32) (v715 : FVec F S256x256 .f32) (v718 : FVec F S256x256 .f32) (v721 : FVec F S256x256 .f32) (v724 : FVec F S256x256 .f32) (v725 : FVec F S256x256 .f32) :
    Safe c bd O (k0_part92 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v428 v446 v466 v486 v504 v565 v568 v571 v574 v577 v580 v583 v586 v589 v592 v595 v598 v601 v613 v616 v619 v622 v625 v697 v706 v709 v712 v715 v718 v721 v724 v725) := by
  rw [k0_part92_eq_skeleton]; unfold k0_part92_skel
  exact Safe.ret

theorem safe_k0_part93 (v6 : Vec F S256x256 .bf16) (v25 : IVec S256x128 1) (v522 : FVec F S1x256 .f32) (v542 : FVec F S1x256 .f32) (v562 : FVec F S1x256 .f32) (v604 : FVec F S1x256 .f32) (v607 : FVec F S1x256 .f32) (v610 : FVec F S1x256 .f32) (v628 : FVec F S256x256 .f32) (v631 : FVec F S256x256 .f32) (v634 : FVec F S256x256 .f32) (v731 : FVec F S256x256 .f32) (v732 : FVec F S256x256 .f32) (v733 : FVec F S256x256 .f32) (v734 : FVec F S256x256 .f32) :
    Safe c bd O (k0_part93 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v6 v25 v522 v542 v562 v604 v607 v610 v628 v631 v634 v731 v732 v733 v734) := by
  rw [k0_part93_eq_skeleton]; unfold k0_part93_skel
  exact Safe.ret

theorem safe_k0_part94 (v6 : Vec F S256x256 .bf16) (v25 : IVec S256x128 1) (v410 : FVec F S128x256 .bf16) (v613 : FVec F S256x256 .f32) (v735 : FVec F S256x256 .f32) (v736 : FVec F S256x256 .f32) (v737 : FVec F S256x256 .f32) (v738 : FVec F S256x256 .f32) (v745 : FVec F S1x256 .f32) (v822 : FVec F S256x128 .f32) :
    Safe c bd O (k0_part94 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v6 v25 v410 v613 v735 v736 v737 v738 v745 v822) := by
  rw [k0_part94_eq_skeleton]; unfold k0_part94_skel
  exact Safe.ret

theorem safe_k0_part95 (v410 : FVec F S128x256 .bf16) (v616 : FVec F S256x256 .f32) (v619 : FVec F S256x256 .f32) (v622 : FVec F S256x256 .f32) (v752 : FVec F S1x256 .f32) (v759 : FVec F S1x256 .f32) (v766 : FVec F S1x256 .f32) (v870 : FVec F S128x256 .f32) (v871 : FVec F S64x128 .f32) :
    Safe c bd O (k0_part95 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v410 v616 v619 v622 v752 v759 v766 v870 v871) := by
  rw [k0_part95_eq_skeleton]; unfold k0_part95_skel
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  exact Safe.ret

theorem safe_k0_part96 (v410 : FVec F S128x256 .bf16) (v625 : FVec F S256x256 .f32) (v628 : FVec F S256x256 .f32) (v631 : FVec F S256x256 .f32) (v773 : FVec F S1x256 .f32) (v780 : FVec F S1x256 .f32) (v787 : FVec F S1x256 .f32) (v906 : FVec F S128x256 .f32) (v907 : FVec F S64x128 .f32) (v908 : Vec F S64x128 .f32) :
    Safe c bd O (k0_part96 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v410 v625 v628 v631 v773 v780 v787 v906 v907 v908) := by
  rw [k0_part96_eq_skeleton]; unfold k0_part96_skel
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  exact Safe.ret

theorem safe_k0_part97 (v25 : IVec S256x128 1) (v410 : FVec F S128x256 .bf16) (v634 : FVec F S256x256 .f32) (v709 : FVec F S256x256 .f32) (v712 : FVec F S256x256 .f32) (v715 : FVec F S256x256 .f32) (v718 : FVec F S256x256 .f32) (v794 : FVec F S1x256 .f32) (v803 : FVec F S256x256 .f32) (v812 : FVec F S256x256 .f32) (v821 : FVec F S256x256 .f32) (v830 : FVec F S256x256 .f32) (v942 : FVec F S128x256 .f32) :
    Safe c bd O (k0_part97 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v25 v410 v634 v709 v712 v715 v718 v794 v803 v812 v821 v830 v942) := by
  rw [k0_part97_eq_skeleton]; unfold k0_part97_skel
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  exact Safe.ret

theorem safe_k0_part98 (v25 : IVec S256x128 1) (v721 : FVec F S256x256 .f32) (v724 : FVec F S256x256 .f32) (v727 : FVec F S256x256 .f32) (v730 : FVec F S256x256 .f32) (v830 : FVec F S256x256 .f32) (v839 : FVec F S256x256 .f32) (v848 : FVec F S256x256 .f32) (v857 : FVec F S256x256 .f32) (v866 : FVec F S256x256 .f32) (v992 : FVec F S256x128 .f32) :
    Safe c bd O (k0_part98 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v25 v721 v724 v727 v730 v830 v839 v848 v857 v866 v992) := by
  rw [k0_part98_eq_skeleton]; unfold k0_part98_skel
  iterate 2 refine Safe.bind Safe.load fun _ => ?_
  exact Safe.ret

theorem safe_k0_part99 (v6 : Vec F S256x256 .bf16) (v731 : FVec F S256x256 .f32) (v732 : FVec F S256x256 .f32) (v733 : FVec F S256x256 .f32) (v734 : FVec F S256x256 .f32) (v735 : FVec F S256x256 .f32) (v736 : FVec F S256x256 .f32) (v737 : FVec F S256x256 .f32) (v1038 : FVec F S128x1024 .f32) (v1041 : FVec F S128x1024 .f32) :
    Safe c bd O (k0_part99 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v6 v731 v732 v733 v734 v735 v736 v737 v1038 v1041) := by
  rw [k0_part99_eq_skeleton]; unfold k0_part99_skel
  refine Safe.bind Safe.load fun _ => ?_
  refine Safe.bind Safe.store fun _ => ?_
  exact Safe.ret

theorem safe_k0_part100 (v6 : Vec F S256x256 .bf16) (v709 : FVec F S256x256 .f32) (v712 : FVec F S256x256 .f32) (v715 : FVec F S256x256 .f32) (v718 : FVec F S256x256 .f32) (v721 : FVec F S256x256 .f32) (v724 : FVec F S256x256 .f32) (v727 : FVec F S256x256 .f32) (v738 : FVec F S256x256 .f32) (v970 : FVec F S256x128 .f32) (v978 : FVec F S256x128 .f32) (v986 : FVec F S256x128 .f32) (v994 : FVec F S256x128 .f32) (v1002 : FVec F S256x128 .f32) (v1010 : FVec F S256x128 .f32) (v1051 : FVec F S256x256 .f32) (v1058 : FVec F S256x256 .f32) (v1065 : FVec F S256x256 .f32) (v1072 : FVec F S256x256 .f32) (v1079 : FVec F S256x256 .f32) (v1086 : FVec F S256x256 .f32) (v1092 : FVec F S256x256 .bf16) :
    Safe c bd O (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v6 v709 v712 v715 v718 v721 v724 v727 v738 v970 v978 v986 v994 v1002 v1010 v1051 v1058 v1065 v1072 v1079 v1086 v1092) := by
  rw [k0_part100_eq_skeleton]; unfold k0_part100_skel
  exact Safe.ret

theorem safe_k0_part101 (v187 : FVec F S256x128 .bf16) (v216 : FVec F S256x128 .bf16) (v245 : FVec F S256x128 .bf16) (v274 : FVec F S256x128 .bf16) (v303 : FVec F S256x128 .bf16) (v332 : FVec F S256x128 .bf16) (v361 : FVec F S256x128 .bf16) (v390 : FVec F S256x128 .bf16) (v730 : FVec F S256x256 .f32) (v969 : FVec F S256x128 .bf16) (v977 : FVec F S256x128 .bf16) (v985 : FVec F S256x128 .bf16) (v993 : FVec F S256x128 .bf16) (v1001 : FVec F S256x128 .bf16) (v1009 : FVec F S256x128 .bf16) (v1017 : FVec F S256x128 .bf16) (v1018 : FVec F S256x128 .f32) (v1025 : FVec F S256x128 .bf16) (v1026 : FVec F S256x128 .f32) (v1093 : FVec F S256x256 .f32) (v1100 : FVec F S256x256 .f32) (v1106 : FVec F S256x128 .bf16) (v1108 : FVec F S256x128 .f32) (v1114 : FVec F S256x128 .bf16) (v1122 : FVec F S256x128 .bf16) (v1130 : FVec F S256x128 .bf16) (v1138 : FVec F S256x128 .bf16) (v1146 : FVec F S256x128 .bf16) (v1149 : FVec F S256x128 .f32) (v1150 : FVec F S256x128 .f32) :
    Safe c bd O (k0_part101 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v187 v216 v245 v274 v303 v332 v361 v390 v730 v969 v977 v985 v993 v1001 v1009 v1017 v1018 v1025 v1026 v1093 v1100 v1106 v1108 v1114 v1122 v1130 v1138 v1146 v1149 v1150) := by
  rw [k0_part101_eq_skeleton]; unfold k0_part101_skel
  refine Safe.bind Safe.load fun _ => ?_
  refine Safe.bind Safe.store fun _ => ?_
  refine Safe.bind Safe.load fun _ => ?_
  refine Safe.bind Safe.store fun _ => ?_
  exact Safe.ret

theorem safe_k0_part102 (v1116 : FVec F S256x128 .f32) (v1124 : FVec F S256x128 .f32) (v1132 : FVec F S256x128 .f32) (v1168 : FVec F S256x128 .f32) (v1170 : FVec F S256x128 .f32) (v1192 : BitVec 32) :
    Safe c bd O (k0_part102 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v1116 v1124 v1132 v1168 v1170 v1192) := by
  rw [k0_part102_eq_skeleton]; unfold k0_part102_skel
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  exact Safe.ret

theorem safe_k0_part103 (v1132 : FVec F S256x128 .f32) (v1140 : FVec F S256x128 .f32) (v1148 : FVec F S256x128 .f32) (v1172 : FVec F S256x128 .f32) (v1174 : FVec F S256x128 .f32) (v1176 : FVec F S256x128 .f32) :
    Safe c bd O (k0_part103 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v1132 v1140 v1148 v1172 v1174 v1176) := by
  rw [k0_part103_eq_skeleton]; unfold k0_part103_skel
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  exact Safe.ret

theorem safe_k0_part104 (v5 : IVec S128x128 1) (v6 : Vec F S256x256 .bf16) (v25 : IVec S256x128 1) :
    Safe c bd O (k0_part104 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v6 v25) := by
  rw [k0_part104_eq_skeleton]; unfold k0_part104_skel
  refine Safe.bind (safe_k0_part76 ..) ?_
  rintro ⟨_, _, _, _⟩
  refine Safe.bind (safe_k0_part77 ..) ?_
  rintro ⟨_, _, _, _, _⟩
  refine Safe.bind (safe_k0_part78 ..) ?_
  rintro ⟨_, _, _, _⟩
  refine Safe.bind (safe_k0_part79 ..) ?_
  rintro ⟨_, _, _⟩
  refine Safe.bind (safe_k0_part80 ..) ?_
  rintro ⟨_, _, _, _⟩
  refine Safe.bind (safe_k0_part81 ..) ?_
  rintro ⟨_, _, _, _, _⟩
  refine Safe.bind (safe_k0_part82 ..) ?_
  rintro ⟨_, _, _⟩
  refine Safe.bind (safe_k0_part83 ..) ?_
  rintro ⟨_, _, _, _, _, _, _⟩
  refine Safe.bind (safe_k0_part84 ..) ?_
  rintro ⟨_, _, _, _⟩
  refine Safe.bind (safe_k0_part85 ..) ?_
  rintro ⟨_, _, _⟩
  refine Safe.bind (safe_k0_part86 ..) ?_
  rintro ⟨_, _, _, _, _⟩
  refine Safe.bind (safe_k0_part87 ..) ?_
  rintro ⟨_, _, _, _, _, _⟩
  refine Safe.bind (safe_k0_part88 ..) ?_
  rintro ⟨_, _, _, _, _, _, _, _, _, _, _⟩
  refine Safe.bind (safe_k0_part89 ..) ?_
  rintro ⟨_, _, _, _, _, _, _, _, _, _, _, _, _, _, _, _, _, _, _⟩
  refine Safe.bind (safe_k0_part90 ..) ?_
  rintro ⟨_, _, _, _, _, _, _⟩
  refine Safe.bind (safe_k0_part91 ..) ?_
  rintro ⟨_, _, _, _, _, _, _, _, _⟩
  refine Safe.bind (safe_k0_part92 ..) ?_
  rintro ⟨_, _, _, _, _, _, _, _, _, _, _, _, _, _, _⟩
  refine Safe.bind (safe_k0_part93 ..) ?_
  rintro ⟨_, _, _, _, _, _, _⟩
  refine Safe.bind (safe_k0_part94 ..) ?_
  rintro ⟨_, _, _, _, _, _, _⟩
  refine Safe.bind (safe_k0_part95 ..) ?_
  rintro ⟨_, _, _⟩
  refine Safe.bind (safe_k0_part96 ..) ?_
  intro _
  refine Safe.bind (safe_k0_part97 ..) ?_
  rintro ⟨_, _, _, _, _, _, _⟩
  refine Safe.bind (safe_k0_part98 ..) ?_
  rintro ⟨_, _, _, _, _, _, _, _, _, _, _, _⟩
  refine Safe.bind (safe_k0_part99 ..) ?_
  rintro ⟨_, _, _, _, _, _, _⟩
  refine Safe.bind (safe_k0_part100 ..) ?_
  rintro ⟨_, _, _, _, _, _, _, _, _, _, _, _, _, _, _, _⟩
  refine Safe.bind (safe_k0_part101 ..) ?_
  rintro ⟨_, _, _, _, _, _, _, _, _, _⟩
  refine Safe.bind (safe_k0_part102 ..) ?_
  intro _
  refine Safe.bind (safe_k0_part103 ..) ?_
  intro _
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  exact Safe.ret

end Cert.KernelIdeal.Hand

end
-- ==== Proof.SafeC.lean ====
module

public import proofs.«01_k».proof.Proof.Safe

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {c : Dev nD} {bd : Option ℕ} {O : sProp (MM F)}
variable {i : grid0.Coords} {arg1 : Memref sig .tc .vmem S128x1024 .bf16} {harg1 : arg1.IsWhole} {arg2 : Memref sig .tc .vmem S128x128 .bf16} {harg2 : arg2.IsWhole} {arg3 : Memref sig .tc .vmem S128x128 .bf16} {harg3 : arg3.IsWhole} {arg4 : Memref sig .tc .vmem S128x128 .bf16} {harg4 : arg4.IsWhole} {arg5 : Memref sig .tc .vmem S128x128 .bf16} {harg5 : arg5.IsWhole} {arg6 : Memref sig .tc .vmem S256x128 .i32} {harg6 : arg6.IsWhole} {arg7 : Memref sig .tc .smem S32x16 .f32} {harg7 : arg7.IsWhole} {arg8 : Memref sig .tc .smem S16 .f32} {harg8 : arg8.IsWhole} {arg9 : Memref sig .tc .vmem S1x1024 .f32} {harg9 : arg9.IsWhole} {arg10 : Memref sig .tc .vmem S128x1024 .bf16} {harg10 : arg10.IsWhole} {arg11 : Memref sig .tc .vmem S128x1024 .bf16} {harg11 : arg11.IsWhole} {arg12 : Memref sig .tc .vmem S128x1024 .bf16} {harg12 : arg12.IsWhole} {arg13 : Memref sig .tc .vmem S128x1024 .bf16} {harg13 : arg13.IsWhole} {arg14 : Memref sig .tc .vmem S128x1024 .bf16} {harg14 : arg14.IsWhole} {arg15 : Memref sig .tc .vmem S128x1024 .bf16} {harg15 : arg15.IsWhole} {arg16 : Memref sig .tc .vmem S128x1024 .bf16} {harg16 : arg16.IsWhole} {arg17 : Memref sig .tc .vmem S256x256 .bf16} {harg17 : arg17.IsWhole} {arg18 : Memref sig .tc .vmem S1x1024 .f32} {harg18 : arg18.IsWhole} {arg19 : Memref sig .tc .hbm S16384x4352 .bf16} {harg19 : arg19.IsWhole} {arg20 : Memref sig .tc .vmem S128x2048 .bf16} {harg20 : arg20.IsWhole} {arg21 : Memref sig .tc .vmem S2x8x256x256 .f32} {harg21 : arg21.IsWhole} {arg22 : Memref sig .tc .vmem S1024x128 .f32} {harg22 : arg22.IsWhole} {arg23 : Memref sig .tc .vmem S8x256x128 .bf16} {harg23 : arg23.IsWhole} {arg24 : Memref sig .tc .vmem S8x128x128 .bf16} {harg24 : arg24.IsWhole} {arg25 : Memref sig .tc .vmem S8x128x128 .bf16} {harg25 : arg25.IsWhole} {arg26 : Memref sig .tc .vmem S8x256x128 .f32} {harg26 : arg26.IsWhole} {arg27 : Memref sig .tc .vmem S8x256x128 .f32} {harg27 : arg27.IsWhole} {arg28 : Memref sig .tc .smem S8 .i32} {harg28 : arg28.IsWhole} {arg29 : DmaSems sig S2}
variable [Has c O arg1] [Has c O arg2] [Has c O arg3] [Has c O arg4] [Has c O arg5] [Has c O arg6] [Has c O arg7] [Has c O arg8] [Has c O arg9] [Has c O arg10] [Has c O arg11] [Has c O arg12] [Has c O arg13] [Has c O arg14] [Has c O arg15] [Has c O arg16] [Has c O arg17] [Has c O arg18] [Has c O arg20] [Has c O arg21] [Has c O arg22] [Has c O arg23] [Has c O arg24] [Has c O arg25] [Has c O arg26] [Has c O arg27] [Has c O arg28]

theorem safe_k0_part105 (v5 : IVec S128x128 1) :
    Safe c bd O (k0_part105 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5) := by
  rw [k0_part105_eq_skeleton]; unfold k0_part105_skel
  iterate 2 refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 4 refine Safe.bind Safe.load fun _ => ?_
  exact Safe.ret

theorem safe_k0_part106 (v5 : IVec S128x128 1) (v187 : FVec F S256x128 .bf16) :
    Safe c bd O (k0_part106 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v187) := by
  rw [k0_part106_eq_skeleton]; unfold k0_part106_skel
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 4 refine Safe.bind Safe.load fun _ => ?_
  refine Safe.bind Safe.store fun _ => ?_
  iterate 2 refine Safe.bind Safe.load fun _ => ?_
  refine Safe.bind Safe.store fun _ => ?_
  exact Safe.ret

theorem safe_k0_part107 (v5 : IVec S128x128 1) :
    Safe c bd O (k0_part107 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5) := by
  rw [k0_part107_eq_skeleton]; unfold k0_part107_skel
  iterate 2 refine Safe.bind Safe.load fun _ => ?_
  refine Safe.bind Safe.store fun _ => ?_
  iterate 4 refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  refine Safe.bind Safe.load fun _ => ?_
  exact Safe.ret

theorem safe_k0_part108 (v5 : IVec S128x128 1) :
    Safe c bd O (k0_part108 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5) := by
  rw [k0_part108_eq_skeleton]; unfold k0_part108_skel
  iterate 3 refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 3 refine Safe.bind Safe.load fun _ => ?_
  exact Safe.ret

theorem safe_k0_part109 (v5 : IVec S128x128 1) (v279 : FVec F S256x128 .bf16) :
    Safe c bd O (k0_part109 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v279) := by
  rw [k0_part109_eq_skeleton]; unfold k0_part109_skel
  refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 4 refine Safe.bind Safe.load fun _ => ?_
  refine Safe.bind Safe.store fun _ => ?_
  iterate 2 refine Safe.bind Safe.load fun _ => ?_
  exact Safe.ret

theorem safe_k0_part110 (v5 : IVec S128x128 1) (v307 : FVec F S128x128 .bf16) (v308 : Vec F S1x128x128 .bf16) :
    Safe c bd O (k0_part110 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v307 v308) := by
  rw [k0_part110_eq_skeleton]; unfold k0_part110_skel
  refine Safe.bind Safe.store fun _ => ?_
  iterate 2 refine Safe.bind Safe.load fun _ => ?_
  refine Safe.bind Safe.store fun _ => ?_
  iterate 4 refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  exact Safe.ret

theorem safe_k0_part111  :
    Safe c bd O (k0_part111 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 ) := by
  rw [k0_part111_eq_skeleton]; unfold k0_part111_skel
  iterate 9 refine Safe.bind Safe.load fun _ => ?_
  exact Safe.ret

theorem safe_k0_part112 (v345 : IVec S128x128 1) (v348 : IVec S1x256 1) (v353 : FVec F S256x128 .bf16) (v372 : FVec F S256x256 .f32) (v373 : Vec F S1x1x256x256 .f32) :
    Safe c bd O (k0_part112 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v345 v348 v353 v372 v373) := by
  rw [k0_part112_eq_skeleton]; unfold k0_part112_skel
  iterate 2 refine Safe.bind Safe.smemLoad fun _ => ?_
  iterate 3 refine Safe.bind Safe.load fun _ => ?_
  iterate 2 refine Safe.bind Safe.smemLoad fun _ => ?_
  iterate 2 refine Safe.bind Safe.load fun _ => ?_
  exact Safe.ret

theorem safe_k0_part113 (v345 : IVec S128x128 1) (v348 : IVec S1x256 1) (v356 : FVec F S256x128 .bf16) (v409 : FVec F S256x128 .bf16) (cst_277 : FVec F S256x256 .f32) :
    Safe c bd O (k0_part113 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v345 v348 v356 v409 cst_277) := by
  rw [k0_part113_eq_skeleton]; unfold k0_part113_skel
  refine Safe.bind Safe.load fun _ => ?_
  iterate 2 refine Safe.bind Safe.smemLoad fun _ => ?_
  iterate 3 refine Safe.bind Safe.load fun _ => ?_
  iterate 2 refine Safe.bind Safe.smemLoad fun _ => ?_
  iterate 2 refine Safe.bind Safe.load fun _ => ?_
  exact Safe.ret

theorem safe_k0_part114 (v345 : IVec S128x128 1) (v348 : IVec S1x256 1) (v356 : FVec F S256x128 .bf16) (v442 : FVec F S128x128 .bf16) (v443 : Vec F S128x128 .bf16) :
    Safe c bd O (k0_part114 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v345 v348 v356 v442 v443) := by
  rw [k0_part114_eq_skeleton]; unfold k0_part114_skel
  refine Safe.bind Safe.load fun _ => ?_
  iterate 2 refine Safe.bind Safe.smemLoad fun _ => ?_
  iterate 3 refine Safe.bind Safe.load fun _ => ?_
  iterate 2 refine Safe.bind Safe.smemLoad fun _ => ?_
  refine Safe.bind Safe.load fun _ => ?_
  exact Safe.ret

theorem safe_k0_part115 (v345 : IVec S128x128 1) (v348 : IVec S1x256 1) (v353 : FVec F S256x128 .bf16) (v476 : FVec F S128x128 .bf16) (v477 : IVec S128x128 1) (v478 : FVec F S128x128 .bf16) :
    Safe c bd O (k0_part115 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v345 v348 v353 v476 v477 v478) := by
  rw [k0_part115_eq_skeleton]; unfold k0_part115_skel
  iterate 2 refine Safe.bind Safe.load fun _ => ?_
  iterate 2 refine Safe.bind Safe.smemLoad fun _ => ?_
  iterate 3 refine Safe.bind Safe.load fun _ => ?_
  iterate 2 refine Safe.bind Safe.smemLoad fun _ => ?_
  exact Safe.ret

theorem safe_k0_part116 (v164 : FVec F S256x128 .bf16) (v179 : FVec F S128x128 .bf16) (v187 : FVec F S256x128 .bf16) (v202 : FVec F S128x128 .bf16) (v210 : FVec F S256x128 .bf16) (v225 : FVec F S128x128 .bf16) (v233 : FVec F S256x128 .bf16) (v248 : FVec F S128x128 .bf16) (v256 : FVec F S256x128 .bf16) (v271 : FVec F S128x128 .bf16) (v279 : FVec F S256x128 .bf16) (v294 : FVec F S128x128 .bf16) (v302 : FVec F S256x128 .bf16) (v317 : FVec F S128x128 .bf16) (v325 : FVec F S256x128 .bf16) (v340 : FVec F S128x128 .bf16) (v348 : IVec S1x256 1) (v375 : FVec F S256x256 .f32) (v380 : FVec F S1x256 .f32) (v393 : FVec F S256x256 .f32) (v398 : FVec F S1x256 .f32) (v413 : FVec F S256x256 .f32) (v418 : FVec F S1x256 .f32) (v433 : FVec F S256x256 .f32) (v438 : FVec F S1x256 .f32) (v451 : FVec F S256x256 .f32) (v511 : Elt F .f32) (v512 : FVec F S1x256 .f32) :
    Safe c bd O (k0_part116 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v164 v179 v187 v202 v210 v225 v233 v248 v256 v271 v279 v294 v302 v317 v325 v340 v348 v375 v380 v393 v398 v413 v418 v433 v438 v451 v511 v512) := by
  rw [k0_part116_eq_skeleton]; unfold k0_part116_skel
  exact Safe.ret

theorem safe_k0_part117 (v375 : FVec F S256x256 .f32) (v393 : FVec F S256x256 .f32) (v413 : FVec F S256x256 .f32) (v433 : FVec F S256x256 .f32) (v451 : FVec F S256x256 .f32) (v456 : FVec F S1x256 .f32) (v469 : FVec F S256x256 .f32) (v474 : FVec F S1x256 .f32) (v489 : FVec F S256x256 .f32) (v494 : FVec F S1x256 .f32) (v509 : FVec F S256x256 .f32) (v514 : FVec F S1x256 .f32) (v517 : FVec F S256x128 .f32) (v520 : FVec F S256x128 .f32) (v541 : FVec F S1x256 .f32) (v544 : FVec F S1x256 .f32) (v547 : FVec F S1x256 .f32) (v550 : FVec F S1x256 .f32) (v551 : FVec F S256 .f32) :
    Safe c bd O (k0_part117 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v375 v393 v413 v433 v451 v456 v469 v474 v489 v494 v509 v514 v517 v520 v541 v544 v547 v550 v551) := by
  rw [k0_part117_eq_skeleton]; unfold k0_part117_skel
  exact Safe.ret

theorem safe_k0_part118 (v523 : FVec F S256x128 .f32) (v526 : FVec F S256x128 .f32) (v529 : FVec F S256x128 .f32) (v532 : FVec F S256x128 .f32) (v535 : FVec F S256x128 .f32) (v602 : FVec F S256x128 .f32) (cst_376 : F .f32) :
    Safe c bd O (k0_part118 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v523 v526 v529 v532 v535 v602 cst_376) := by
  rw [k0_part118_eq_skeleton]; unfold k0_part118_skel
  exact Safe.ret

theorem safe_k0_part119 (v380 : FVec F S1x256 .f32) (v517 : FVec F S256x128 .f32) (v520 : FVec F S256x128 .f32) (v523 : FVec F S256x128 .f32) (v526 : FVec F S256x128 .f32) (v529 : FVec F S256x128 .f32) (v532 : FVec F S256x128 .f32) (v535 : FVec F S256x128 .f32) (v538 : FVec F S256x128 .f32) (v541 : FVec F S1x256 .f32) (v565 : FVec F S256x256 .f32) (v595 : FVec F S256x128 .f32) (v604 : FVec F S256x128 .f32) (v613 : FVec F S256x128 .f32) (v622 : FVec F S256x128 .f32) (v631 : FVec F S256x128 .f32) (v640 : FVec F S256x128 .f32) (v647 : FVec F S256x128 .f32) (cst_391 : F .f32) :
    Safe c bd O (k0_part119 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v380 v517 v520 v523 v526 v529 v532 v535 v538 v541 v565 v595 v604 v613 v622 v631 v640 v647 cst_391) := by
  rw [k0_part119_eq_skeleton]; unfold k0_part119_skel
  exact Safe.ret

theorem safe_k0_part120 (v398 : FVec F S1x256 .f32) (v418 : FVec F S1x256 .f32) (v438 : FVec F S1x256 .f32) (v456 : FVec F S1x256 .f32) (v474 : FVec F S1x256 .f32) (v494 : FVec F S1x256 .f32) (v544 : FVec F S1x256 .f32) (v547 : FVec F S1x256 .f32) (v550 : FVec F S1x256 .f32) (v553 : FVec F S1x256 .f32) (v556 : FVec F S1x256 .f32) (v559 : FVec F S1x256 .f32) (v568 : FVec F S256x256 .f32) (v571 : FVec F S256x256 .f32) (v574 : FVec F S256x256 .f32) (v577 : FVec F S256x256 .f32) (v580 : FVec F S256x256 .f32) (v583 : FVec F S256x256 .f32) (v586 : FVec F S256x256 .f32) (v695 : FVec F S1x256 .f32) :
    Safe c bd O (k0_part120 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v398 v418 v438 v456 v474 v494 v544 v547 v550 v553 v556 v559 v568 v571 v574 v577 v580 v583 v586 v695) := by
  rw [k0_part120_eq_skeleton]; unfold k0_part120_skel
  exact Safe.ret

theorem safe_k0_part121 (v6 : Vec F S256x256 .bf16) (v25 : IVec S256x128 1) (v514 : FVec F S1x256 .f32) (v562 : FVec F S1x256 .f32) (v683 : FVec F S256x128 .f32) (v684 : FVec F S256x128 .f32) (v685 : FVec F S256x128 .f32) (v686 : FVec F S256x128 .f32) (v687 : FVec F S256x128 .f32) (v688 : FVec F S256x128 .f32) (v741 : FVec F S1x256 .f32) :
    Safe c bd O (k0_part121 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v6 v25 v514 v562 v683 v684 v685 v686 v687 v688 v741) := by
  rw [k0_part121_eq_skeleton]; unfold k0_part121_skel
  exact Safe.ret

theorem safe_k0_part122 (v6 : Vec F S256x256 .bf16) (v25 : IVec S256x128 1) (v362 : FVec F S128x256 .bf16) (v565 : FVec F S256x256 .f32) (v568 : FVec F S256x256 .f32) (v689 : FVec F S256x128 .f32) (v690 : FVec F S256x128 .f32) (v697 : FVec F S1x256 .f32) (v704 : FVec F S1x256 .f32) (v788 : FVec F S256x128 .f32) (v789 : FVec F S256x128 .bf16) :
    Safe c bd O (k0_part122 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v6 v25 v362 v565 v568 v689 v690 v697 v704 v788 v789) := by
  rw [k0_part122_eq_skeleton]; unfold k0_part122_skel
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  exact Safe.ret

theorem safe_k0_part123 (v362 : FVec F S128x256 .bf16) (v571 : FVec F S256x256 .f32) (v574 : FVec F S256x256 .f32) (v577 : FVec F S256x256 .f32) (v711 : FVec F S1x256 .f32) (v718 : FVec F S1x256 .f32) (v725 : FVec F S1x256 .f32) (v831 : FVec F S64x128 .f32) :
    Safe c bd O (k0_part123 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v362 v571 v574 v577 v711 v718 v725 v831) := by
  rw [k0_part123_eq_skeleton]; unfold k0_part123_skel
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  exact Safe.ret

theorem safe_k0_part124 (v362 : FVec F S128x256 .bf16) (v580 : FVec F S256x256 .f32) (v583 : FVec F S256x256 .f32) (v586 : FVec F S256x256 .f32) (v661 : FVec F S256x128 .f32) (v732 : FVec F S1x256 .f32) (v739 : FVec F S1x256 .f32) (v746 : FVec F S1x256 .f32) (v754 : FVec F S256x256 .f32) (v870 : FVec F S64x128 .f32) :
    Safe c bd O (k0_part124 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v362 v580 v583 v586 v661 v732 v739 v746 v754 v870) := by
  rw [k0_part124_eq_skeleton]; unfold k0_part124_skel
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  exact Safe.ret

theorem safe_k0_part125 (v25 : IVec S256x128 1) (v664 : FVec F S256x128 .f32) (v667 : FVec F S256x128 .f32) (v670 : FVec F S256x128 .f32) (v673 : FVec F S256x128 .f32) (v676 : FVec F S256x128 .f32) (v679 : FVec F S256x128 .f32) (v682 : FVec F S256x128 .f32) (v754 : FVec F S256x256 .f32) (v762 : FVec F S256x256 .f32) (v770 : FVec F S256x256 .f32) (v778 : FVec F S256x256 .f32) (v786 : FVec F S256x256 .f32) (v794 : FVec F S256x256 .f32) (v802 : FVec F S256x256 .f32) (v810 : FVec F S256x256 .f32) (v908 : FVec F S256x128 .f32) :
    Safe c bd O (k0_part125 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v25 v664 v667 v670 v673 v676 v679 v682 v754 v762 v770 v778 v786 v794 v802 v810 v908) := by
  rw [k0_part125_eq_skeleton]; unfold k0_part125_skel
  exact Safe.ret

theorem safe_k0_part126 (v181 : FVec F S128x128 .bf16) (v204 : FVec F S128x128 .bf16) (v227 : FVec F S128x128 .bf16) (v250 : FVec F S128x128 .bf16) (v273 : FVec F S128x128 .bf16) (v296 : FVec F S128x128 .bf16) (v319 : FVec F S128x128 .bf16) (v342 : FVec F S128x128 .bf16) (v810 : FVec F S256x256 .f32) (v912 : FVec F S256x128 .bf16) (v913 : FVec F S256x128 .f32) (v919 : FVec F S256x128 .bf16) (v926 : FVec F S256x128 .bf16) (v933 : FVec F S256x128 .bf16) (v940 : FVec F S256x128 .bf16) (v947 : FVec F S256x128 .bf16) (v954 : FVec F S256x128 .bf16) (v960 : FVec F S256x128 .f32) :
    Safe c bd O (k0_part126 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v181 v204 v227 v250 v273 v296 v319 v342 v810 v912 v913 v919 v926 v933 v940 v947 v954 v960) := by
  rw [k0_part126_eq_skeleton]; unfold k0_part126_skel
  iterate 3 refine Safe.bind Safe.load fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  exact Safe.ret

theorem safe_k0_part127 (v913 : FVec F S256x128 .f32) (v920 : FVec F S256x128 .f32) (v927 : FVec F S256x128 .f32) (v982 : FVec F S256x128 .f32) (v983 : FVec F S256x128 .f32) :
    Safe c bd O (k0_part127 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v913 v920 v927 v982 v983) := by
  rw [k0_part127_eq_skeleton]; unfold k0_part127_skel
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  exact Safe.ret

theorem safe_k0_part128 (v934 : FVec F S256x128 .f32) (v941 : FVec F S256x128 .f32) (v948 : FVec F S256x128 .f32) (v984 : FVec F S256x128 .f32) (v985 : FVec F S256x128 .f32) (v1026 : BitVec 32) :
    Safe c bd O (k0_part128 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v934 v941 v948 v984 v985 v1026) := by
  rw [k0_part128_eq_skeleton]; unfold k0_part128_skel
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  exact Safe.ret

theorem safe_k0_part129 (v948 : FVec F S256x128 .f32) (v955 : FVec F S256x128 .f32) (v962 : FVec F S256x128 .f32) (v986 : FVec F S256x128 .f32) (v987 : FVec F S256x128 .f32) (v988 : FVec F S256x128 .f32) :
    Safe c bd O (k0_part129 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v948 v955 v962 v986 v987 v988) := by
  rw [k0_part129_eq_skeleton]; unfold k0_part129_skel
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  refine Safe.bind Safe.smemLoad fun _ => ?_
  refine Safe.bind Safe.store fun _ => ?_
  refine Safe.bind Safe.load fun _ => ?_
  refine Safe.bind Safe.store fun _ => ?_
  refine Safe.bind Safe.load fun _ => ?_
  refine Safe.bind Safe.store fun _ => ?_
  exact Safe.ret

theorem safe_k0_part131 (v5 : IVec S128x128 1) :
    Safe c bd O (k0_part131 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5) := by
  rw [k0_part131_eq_skeleton]; unfold k0_part131_skel
  iterate 11 refine Safe.bind Safe.load fun _ => ?_
  exact Safe.ret

theorem safe_k0_part132 (v5 : IVec S128x128 1) (v37 : FVec F S128x128 .f32) (v42 : FVec F S128x128 .f32) (v47 : FVec F S128x128 .f32) (v52 : FVec F S128x128 .f32) (v57 : FVec F S128x128 .f32) (v59 : FVec F S128x128 .f32) :
    Safe c bd O (k0_part132 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v5 v37 v42 v47 v52 v57 v59) := by
  rw [k0_part132_eq_skeleton]; unfold k0_part132_skel
  iterate 6 refine Safe.bind Safe.load fun _ => ?_
  exact Safe.ret

theorem safe_k0_part133 (v42 : FVec F S128x128 .f32) (v47 : FVec F S128x128 .f32) (v52 : FVec F S128x128 .f32) (v57 : FVec F S128x128 .f32) (v62 : FVec F S128x128 .f32) (v94 : FVec F S128x1 .f32) (v101 : FVec F S128x128 .bf16) :
    Safe c bd O (k0_part133 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 v42 v47 v52 v57 v62 v94 v101) := by
  rw [k0_part133_eq_skeleton]; unfold k0_part133_skel
  refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  refine Safe.bind Safe.load fun _ => ?_
  exact Safe.ret

end Cert.KernelIdeal.Hand

end
-- ==== Proof.SafeD.lean ====
module

public import proofs.«01_k».proof.Proof.SafeA
public import proofs.«01_k».proof.Proof.SafeB
public import proofs.«01_k».proof.Proof.SafeC

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {c : Dev nD} {bd : Option ℕ} {O : sProp (MM F)}
variable {i : grid0.Coords} {arg1 : Memref sig .tc .vmem S128x1024 .bf16} {harg1 : arg1.IsWhole} {arg2 : Memref sig .tc .vmem S128x128 .bf16} {harg2 : arg2.IsWhole} {arg3 : Memref sig .tc .vmem S128x128 .bf16} {harg3 : arg3.IsWhole} {arg4 : Memref sig .tc .vmem S128x128 .bf16} {harg4 : arg4.IsWhole} {arg5 : Memref sig .tc .vmem S128x128 .bf16} {harg5 : arg5.IsWhole} {arg6 : Memref sig .tc .vmem S256x128 .i32} {harg6 : arg6.IsWhole} {arg7 : Memref sig .tc .smem S32x16 .f32} {harg7 : arg7.IsWhole} {arg8 : Memref sig .tc .smem S16 .f32} {harg8 : arg8.IsWhole} {arg9 : Memref sig .tc .vmem S1x1024 .f32} {harg9 : arg9.IsWhole} {arg10 : Memref sig .tc .vmem S128x1024 .bf16} {harg10 : arg10.IsWhole} {arg11 : Memref sig .tc .vmem S128x1024 .bf16} {harg11 : arg11.IsWhole} {arg12 : Memref sig .tc .vmem S128x1024 .bf16} {harg12 : arg12.IsWhole} {arg13 : Memref sig .tc .vmem S128x1024 .bf16} {harg13 : arg13.IsWhole} {arg14 : Memref sig .tc .vmem S128x1024 .bf16} {harg14 : arg14.IsWhole} {arg15 : Memref sig .tc .vmem S128x1024 .bf16} {harg15 : arg15.IsWhole} {arg16 : Memref sig .tc .vmem S128x1024 .bf16} {harg16 : arg16.IsWhole} {arg17 : Memref sig .tc .vmem S256x256 .bf16} {harg17 : arg17.IsWhole} {arg18 : Memref sig .tc .vmem S1x1024 .f32} {harg18 : arg18.IsWhole} {arg19 : Memref sig .tc .hbm S16384x4352 .bf16} {harg19 : arg19.IsWhole} {arg20 : Memref sig .tc .vmem S128x2048 .bf16} {harg20 : arg20.IsWhole} {arg21 : Memref sig .tc .vmem S2x8x256x256 .f32} {harg21 : arg21.IsWhole} {arg22 : Memref sig .tc .vmem S1024x128 .f32} {harg22 : arg22.IsWhole} {arg23 : Memref sig .tc .vmem S8x256x128 .bf16} {harg23 : arg23.IsWhole} {arg24 : Memref sig .tc .vmem S8x128x128 .bf16} {harg24 : arg24.IsWhole} {arg25 : Memref sig .tc .vmem S8x128x128 .bf16} {harg25 : arg25.IsWhole} {arg26 : Memref sig .tc .vmem S8x256x128 .f32} {harg26 : arg26.IsWhole} {arg27 : Memref sig .tc .vmem S8x256x128 .f32} {harg27 : arg27.IsWhole} {arg28 : Memref sig .tc .smem S8 .i32} {harg28 : arg28.IsWhole} {arg29 : DmaSems sig S2}
variable [Has c O arg1] [Has c O arg2] [Has c O arg3] [Has c O arg4] [Has c O arg5] [Has c O arg6] [Has c O arg7] [Has c O arg8] [Has c O arg9] [Has c O arg10] [Has c O arg11] [Has c O arg12] [Has c O arg13] [Has c O arg14] [Has c O arg15] [Has c O arg16] [Has c O arg17] [Has c O arg18] [Has c O arg20] [Has c O arg21] [Has c O arg22] [Has c O arg23] [Has c O arg24] [Has c O arg25] [Has c O arg26] [Has c O arg27] [Has c O arg28]

theorem safe_k0_part130
    (hloop : ∀ v6 k a, Safe c bd O (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 (BitVec.ofNat 32 (i 0).val) v6 k a)) :
    Safe c bd O (k0_part130 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 ) := by
  rw [k0_part130_eq_skeleton]; unfold k0_part130_skel
  extract_lets; rename_i jp1
  have hjp : ∀ x, Safe c bd O (jp1 x) := by
    intro _
    refine Safe.bind Safe.load fun _ => ?_
    extract_lets; rename_i jp3 jp2
    have hjp : ∀ x, Safe c bd O (jp2 x) := by
      intro _
      unfold jp2
      have hjp : ∀ x, Safe c bd O (jp3 x) := by
        intro _
        refine Safe.bind (Safe.loop (hloop _)) fun _ => ?_
        exact Safe.ret
      refine Safe.dite (fun h => ?_) (fun h => ?_)
      · refine Safe.bind (safe_k0_part105 ..) ?_
        rintro ⟨_, _, _, _⟩
        refine Safe.bind (safe_k0_part106 ..) ?_
        rintro ⟨_, _, _⟩
        refine Safe.bind (safe_k0_part107 ..) ?_
        rintro ⟨_, _, _, _⟩
        refine Safe.bind (safe_k0_part108 ..) ?_
        rintro ⟨_, _, _, _, _⟩
        refine Safe.bind (safe_k0_part109 ..) ?_
        rintro ⟨_, _, _, _, _⟩
        refine Safe.bind (safe_k0_part110 ..) ?_
        rintro ⟨_, _, _⟩
        refine Safe.bind (safe_k0_part111 ..) ?_
        rintro ⟨_, _, _, _, _, _, _, _, _⟩
        refine Safe.bind (safe_k0_part112 ..) ?_
        rintro ⟨_, _, _, _, _, _⟩
        refine Safe.bind (safe_k0_part113 ..) ?_
        rintro ⟨_, _, _, _, _, _⟩
        refine Safe.bind (safe_k0_part114 ..) ?_
        rintro ⟨_, _, _, _, _, _, _⟩
        refine Safe.bind (safe_k0_part115 ..) ?_
        rintro ⟨_, _, _, _, _⟩
        refine Safe.bind (safe_k0_part116 ..) ?_
        rintro ⟨_, _, _, _, _, _, _, _, _, _, _, _, _, _⟩
        refine Safe.bind (safe_k0_part117 ..) ?_
        rintro ⟨_, _, _, _, _, _, _, _, _, _, _, _, _, _, _⟩
        refine Safe.bind (safe_k0_part118 ..) ?_
        rintro ⟨_, _, _, _, _, _, _⟩
        refine Safe.bind (safe_k0_part119 ..) ?_
        rintro ⟨_, _, _, _, _, _, _, _, _, _, _, _, _, _, _, _, _⟩
        refine Safe.bind (safe_k0_part120 ..) ?_
        rintro ⟨_, _, _, _, _, _, _, _⟩
        refine Safe.bind (safe_k0_part121 ..) ?_
        rintro ⟨_, _, _, _, _, _, _, _⟩
        refine Safe.bind (safe_k0_part122 ..) ?_
        rintro ⟨_, _, _, _⟩
        refine Safe.bind (safe_k0_part123 ..) ?_
        intro _
        refine Safe.bind (safe_k0_part124 ..) ?_
        intro _
        refine Safe.bind (safe_k0_part125 ..) ?_
        rintro ⟨_, _, _, _, _, _, _, _, _, _, _, _, _, _, _⟩
        refine Safe.bind (safe_k0_part126 ..) ?_
        rintro ⟨_, _, _, _, _, _, _, _⟩
        refine Safe.bind (safe_k0_part127 ..) ?_
        intro _
        refine Safe.bind (safe_k0_part128 ..) ?_
        intro _
        refine Safe.bind (safe_k0_part129 ..) ?_
        intro _
        refine Safe.bind Safe.smemLoad fun _ => ?_
        refine Safe.bind Safe.store fun _ => ?_
        exact hjp ⟨⟩
      · exact hjp ⟨⟩
    refine Safe.dite (fun h => ?_) (fun h => ?_)
    · refine Safe.bind (safe_k0_part104 ..) ?_
      rintro ⟨_, _, _⟩
      refine Safe.bind Safe.store fun _ => ?_
      refine Safe.bind Safe.load fun _ => ?_
      refine Safe.bind Safe.store fun _ => ?_
      refine Safe.bind Safe.load fun _ => ?_
      refine Safe.bind Safe.store fun _ => ?_
      refine Safe.bind Safe.smemLoad fun _ => ?_
      refine Safe.bind Safe.store fun _ => ?_
      exact hjp ⟨⟩
    · exact hjp ⟨⟩
  refine Safe.dite (fun h => ?_) (fun h => ?_)
  · refine Safe.bind (safe_k0_part75 ..) ?_
    rintro ⟨_, _, _, _⟩
    refine Safe.bind (safe_k0_part61 ..) ?_
    rintro ⟨_, _, _⟩
    refine Safe.bind (safe_k0_part62 ..) ?_
    rintro ⟨_, _⟩
    refine Safe.bind (safe_k0_part63 ..) ?_
    rintro ⟨_, _, _⟩
    refine Safe.bind (safe_k0_part64 ..) ?_
    rintro ⟨_, _⟩
    refine Safe.bind (safe_k0_part65 ..) ?_
    rintro ⟨_, _, _⟩
    refine Safe.bind (safe_k0_part66 ..) ?_
    rintro ⟨_, _⟩
    refine Safe.bind (safe_k0_part67 ..) ?_
    rintro ⟨_, _, _⟩
    refine Safe.bind (safe_k0_part68 ..) ?_
    rintro ⟨_, _⟩
    refine Safe.bind (safe_k0_part69 ..) ?_
    rintro ⟨_, _, _⟩
    refine Safe.bind (safe_k0_part70 ..) ?_
    intro _
    refine Safe.bind (safe_k0_part71 ..) ?_
    rintro ⟨_, _, _⟩
    refine Safe.bind (safe_k0_part72 ..) ?_
    rintro ⟨_, _⟩
    refine Safe.bind (safe_k0_part73 ..) ?_
    rintro ⟨_, _, _⟩
    refine Safe.bind (safe_k0_part74 ..) ?_
    rintro ⟨_, _⟩
    iterate 3 refine Safe.bind Safe.smemLoad fun _ => ?_
    refine Safe.bind Safe.load fun _ => ?_
    refine Safe.bind Safe.store fun _ => ?_
    refine Safe.bind Safe.load fun _ => ?_
    refine Safe.bind Safe.store fun _ => ?_
    exact hjp ⟨⟩
  · exact hjp ⟨⟩

theorem safe_cc0_attention
    (hloop : ∀ v6 k a, Safe c bd O (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 (BitVec.ofNat 32 (i 0).val) v6 k a)) :
    Safe c bd O (cc0_attention (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 ) := by
  rw [cc0_attention_eq_skeleton]; unfold cc0_attention_skel
  refine Safe.bind (safe_k0_part130 hloop) ?_
  intro _
  refine Safe.bind (safe_k0_part131 ..) ?_
  rintro ⟨_, _, _, _, _, _⟩
  refine Safe.bind (safe_k0_part132 ..) ?_
  rintro ⟨_, _, _, _, _⟩
  refine Safe.bind (safe_k0_part133 ..) ?_
  rintro ⟨_, _⟩
  refine Safe.bind Safe.load fun _ => ?_
  refine Safe.bind Safe.store fun _ => ?_
  iterate 2 refine Safe.bind Safe.load fun _ => ?_
  refine Safe.bind Safe.store fun _ => ?_
  iterate 2 refine Safe.bind Safe.load fun _ => ?_
  refine Safe.bind Safe.store fun _ => ?_
  exact Safe.ret

end Cert.KernelIdeal.Hand

end
-- ==== Proof.Body.lean ====
/-
  Hand-written. What the body of the attention kernel holds at a grid point — the nineteen windows' buffers, the eight
  scratch buffers, two shares of the projected array, the two semaphores' counters, the record of waits, the generator's
  register — and that the body runs from it to it.
-/
module

public import proofs.«01_k».proof.Proof.While
public import proofs.«01_k».proof.Proof.SafeD

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A conjunction lends its first part, and whatever its second part lends. -/
theorem pick_head {P R : sProp (MM F)} : iprop(P ∗ R) ⊢ iprop(P ∗ (P -∗ (P ∗ R))) := by
  iintro ⟨HP, HR⟩
  isplitl [HP]; · iexact HP
  iintro HP
  isplitl [HP]; · iexact HP
  iexact HR

theorem pick_tail {P R X : sProp (MM F)} (h : R ⊢ iprop(X ∗ (X -∗ R))) : iprop(P ∗ R) ⊢ iprop(X ∗ (X -∗ (P ∗ R))) := by
  iintro ⟨HP, HR⟩
  ihave H := h $$ HR
  icases H with ⟨HX, HW⟩
  isplitl [HX]; · iexact HX
  iintro HX
  isplitl [HP]; · iexact HP
  iapply HW; iexact HX

/-- A share of the projected array. -/
abbrev Src (c : Dev nD) (q : PosShare TreeShare) : sProp (MM F) :=
  iprop(∃ f : Buf (Elt F) ((c : Thread nD τ).loc main_v2), ((c : Thread nD τ).loc main_v2) ↦{q} f)

/-- The two shares the transfers read the projected array through. -/
abbrev qA : PosShare TreeShare := (Pipeline.shareOf spec0 0).right.left
abbrev qB : PosShare TreeShare := (Pipeline.shareOf spec0 0).right.right

/-- The scratch buffers, the shares, the counters, the waits' record, the register. -/
def OO (c : Dev nD) (t : Fin (cfg0 (F := F)).N) : sProp (MM F) :=
  iprop(Held c (win0_0.stage ((cfg0 (F := F)).slots t 0))
    ∗ Held c (win0_1.stage ((cfg0 (F := F)).slots t 1))
    ∗ Held c (win0_2.stage ((cfg0 (F := F)).slots t 2))
    ∗ Held c (win0_3.stage ((cfg0 (F := F)).slots t 3))
    ∗ Held c (win0_4.stage ((cfg0 (F := F)).slots t 4))
    ∗ Held c (win0_5.stage ((cfg0 (F := F)).slots t 5))
    ∗ Held c (win0_6.stage ((cfg0 (F := F)).slots t 6))
    ∗ Held c (win0_7.stage ((cfg0 (F := F)).slots t 7))
    ∗ Held c (win0_8.stage ((cfg0 (F := F)).slots t 8))
    ∗ Held c (win0_9.stage ((cfg0 (F := F)).slots t 9))
    ∗ Held c (win0_10.stage ((cfg0 (F := F)).slots t 10))
    ∗ Held c (win0_11.stage ((cfg0 (F := F)).slots t 11))
    ∗ Held c (win0_12.stage ((cfg0 (F := F)).slots t 12))
    ∗ Held c (win0_13.stage ((cfg0 (F := F)).slots t 13))
    ∗ Held c (win0_14.stage ((cfg0 (F := F)).slots t 14))
    ∗ Held c (win0_15.stage ((cfg0 (F := F)).slots t 15))
    ∗ Held c (win0_16.stage ((cfg0 (F := F)).slots t 16))
    ∗ Held c (win0_17.stage ((cfg0 (F := F)).slots t 17))
    ∗ Held c (win0_18.stage ((cfg0 (F := F)).slots t 18))
    ∗ Held c (Memref.whole cc0_scratch0)
    ∗ Held c (Memref.whole cc0_scratch1)
    ∗ Held c (Memref.whole cc0_scratch2)
    ∗ Held c (Memref.whole cc0_scratch3)
    ∗ Held c (Memref.whole cc0_scratch4)
    ∗ Held c (Memref.whole cc0_scratch5)
    ∗ Held c (Memref.whole cc0_scratch6)
    ∗ Held c (Memref.whole cc0_scratch7)
    ∗ Src c qA
    ∗ Src c qB
    ∗ semVal ((c : Thread nD τ), .dma (semA cc0_scratch8)) 0
    ∗ semVal ((c : Thread nD τ), .dma (semB cc0_scratch8)) 0
    ∗ (∃ W, owes (c : Thread nD τ) 0 W)
    ∗ (∃ r, prngReg c r))

variable {c : Dev nD} {t : Fin (cfg0 (F := F)).N}

instance : Has c (OO c t) (win0_0.stage ((cfg0 (F := F)).slots t 0)) := ⟨pick_head⟩
instance : Has c (OO c t) (win0_1.stage ((cfg0 (F := F)).slots t 1)) := ⟨pick_tail pick_head⟩
instance : Has c (OO c t) (win0_2.stage ((cfg0 (F := F)).slots t 2)) := ⟨pick_tail (pick_tail pick_head)⟩
instance : Has c (OO c t) (win0_3.stage ((cfg0 (F := F)).slots t 3)) := ⟨pick_tail (pick_tail (pick_tail pick_head))⟩
instance : Has c (OO c t) (win0_4.stage ((cfg0 (F := F)).slots t 4)) := ⟨pick_tail (pick_tail (pick_tail (pick_tail pick_head)))⟩
instance : Has c (OO c t) (win0_5.stage ((cfg0 (F := F)).slots t 5)) := ⟨pick_tail (pick_tail (pick_tail (pick_tail (pick_tail pick_head))))⟩
instance : Has c (OO c t) (win0_6.stage ((cfg0 (F := F)).slots t 6)) := ⟨pick_tail (pick_tail (pick_tail (pick_tail (pick_tail (pick_tail pick_head)))))⟩
instance : Has c (OO c t) (win0_7.stage ((cfg0 (F := F)).slots t 7)) := ⟨pick_tail (pick_tail (pick_tail (pick_tail (pick_tail (pick_tail (pick_tail pick_head))))))⟩
instance : Has c (OO c t) (win0_8.stage ((cfg0 (F := F)).slots t 8)) := ⟨pick_tail (pick_tail (pick_tail (pick_tail (pick_tail (pick_tail (pick_tail (pick_tail pick_head)))))))⟩
instance : Has c (OO c t) (win0_9.stage ((cfg0 (F := F)).slots t 9)) := ⟨pick_tail (pick_tail (pick_tail (pick_tail (pick_tail (pick_tail (pick_tail (pick_tail (pick_tail pick_head))))))))⟩
instance : Has c (OO c t) (win0_10.stage ((cfg0 (F := F)).slots t 10)) := ⟨pick_tail (pick_tail (pick_tail (pick_tail (pick_tail (pick_tail (pick_tail (pick_tail (pick_tail (pick_tail pick_head)))))))))⟩
instance : Has c (OO c t) (win0_11.stage ((cfg0 (F := F)).slots t 11)) := ⟨pick_tail (pick_tail (pick_tail (pick_tail (pick_tail (pick_tail (pick_tail (pick_tail (pick_tail (pick_tail (pick_tail pick_head))))))))))⟩
instance : Has c (OO c t) (win0_12.stage ((cfg0 (F := F)).slots t 12)) := ⟨pick_tail (pick_tail (pick_tail (pick_tail (pick_tail (pick_tail (pick_tail (pick_tail (pick_tail (pick_tail (pick_tail (pick_tail pick_head)))))))))))⟩
instance : Has c (OO c t) (win0_13.stage ((cfg0 (F := F)).slots t 13)) := ⟨pick_tail (pick_tail (pick_tail (pick_tail (pick_tail (pick_tail (pick_tail (pick_tail (pick_tail (pick_tail (pick_tail (pick_tail (pick_tail pick_head))))))))))))⟩
instance : Has c (OO c t) (win0_14.stage ((cfg0 (F := F)).slots t 14)) := ⟨pick_tail (pick_tail (pick_tail (pick_tail (pick_tail (pick_tail (pick_tail (pick_tail (pick_tail (pick_tail (pick_tail (pick_tail (pick_tail (pick_tail pick_head)))))))))))))⟩
instance : Has c (OO c t) (win0_15.stage ((cfg0 (F := F)).slots t 15)) := ⟨pick_tail (pick_tail (pick_tail (pick_tail (pick_tail (pick_tail (pick_tail (pick_tail (pick_tail (pick_tail (pick_tail (pick_tail (pick_tail (pick_tail (pick_tail pick_head))))))))))))))⟩
instance : Has c (OO c t) (win0_16.stage ((cfg0 (F := F)).slots t 16)) := ⟨pick_tail (pick_tail (pick_tail (pick_tail (pick_tail (pick_tail (pick_tail (pick_tail (pick_tail (pick_tail (pick_tail (pick_tail (pick_tail (pick_tail (pick_tail (pick_tail pick_head)))))))))))))))⟩
instance : Has c (OO c t) (win0_17.stage ((cfg0 (F := F)).slots t 17)) := ⟨pick_tail (pick_tail (pick_tail (pick_tail (pick_tail (pick_tail (pick_tail (pick_tail (pick_tail (pick_tail (pick_tail (pick_tail (pick_tail (pick_tail (pick_tail (pick_tail (pick_tail pick_head))))))))))))))))⟩
instance : Has c (OO c t) (win0_18.stage ((cfg0 (F := F)).slots t 18)) := ⟨pick_tail (pick_tail (pick_tail (pick_tail (pick_tail (pick_tail (pick_tail (pick_tail (pick_tail (pick_tail (pick_tail (pick_tail (pick_tail (pick_tail (pick_tail (pick_tail (pick_tail (pick_tail pick_head)))))))))))))))))⟩
instance : Has c (OO c t) (Memref.whole cc0_scratch0) := ⟨pick_tail (pick_tail (pick_tail (pick_tail (pick_tail (pick_tail (pick_tail (pick_tail (pick_tail (pick_tail (pick_tail (pick_tail (pick_tail (pick_tail (pick_tail (pick_tail (pick_tail (pick_tail (pick_tail pick_head))))))))))))))))))⟩
instance : Has c (OO c t) (Memref.whole cc0_scratch1) := ⟨pick_tail (pick_tail (pick_tail (pick_tail (pick_tail (pick_tail (pick_tail (pick_tail (pick_tail (pick_tail (pick_tail (pick_tail (pick_tail (pick_tail (pick_tail (pick_tail (pick_tail (pick_tail (pick_tail (pick_tail pick_head)))))))))))))))))))⟩
instance : Has c (OO c t) (Memref.whole cc0_scratch2) := ⟨pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail pick_head))))))))))))))))))))⟩
instance : Has c (OO c t) (Memref.whole cc0_scratch3) := ⟨pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail pick_head)))))))))))))))))))))⟩
instance : Has c (OO c t) (Memref.whole cc0_scratch4) := ⟨pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail pick_head))))))))))))))))))))))⟩
instance : Has c (OO c t) (Memref.whole cc0_scratch5) := ⟨pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail pick_head)))))))))))))))))))))))⟩
instance : Has c (OO c t) (Memref.whole cc0_scratch6) := ⟨pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail pick_head))))))))))))))))))))))))⟩
instance : Has c (OO c t) (Memref.whole cc0_scratch7) := ⟨pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail (pick_tail pick_head)))))))))))))))))))))))))⟩

theorem src_at (q : PosShare TreeShare) (f : Buf (Elt F) ((c : Thread nD τ).loc main_v2)) :
    (((c : Thread nD τ).loc main_v2) ↦{q} f : sProp (MM F)) = At c (Memref.whole main_v2) q f := by
  unfold At
  rw [(Memref.isWhole_whole main_v2).set_eq_univ]

instance : Lend c (OO c t) (Memref.whole main_v2) (Memref.whole cc0_scratch3) (Memref.whole cc0_scratch4) cc0_scratch8 := ⟨by
  unfold OO
  iintro ⟨Hh0, Hh1, Hh2, Hh3, Hh4, Hh5, Hh6, Hh7, Hh8, Hh9, Hh10, Hh11, Hh12, Hh13, Hh14, Hh15, Hh16, Hh17, Hh18, Hs0, Hs1, Hs2, Hs3, Hs4, Hs5, Hs6, Hs7, ⟨%f₁, Hqa⟩, ⟨%f₂, Hqb⟩, Hca, Hcb, Hw, Hg⟩
  iexists qA, qB, f₁, f₂
  isplitl [Hqa Hqb Hs3 Hs4 Hca Hcb Hw]
  · isplitl [Hqa]; · rw [← src_at]; iexact Hqa
    isplitl [Hqb]; · rw [← src_at]; iexact Hqb
    isplitl [Hs3]; · iexact Hs3
    isplitl [Hs4]; · iexact Hs4
    isplitl [Hca]; · iexact Hca
    isplitl [Hcb]; · iexact Hcb
    iexact Hw
  iintro ⟨Hqa, Hqb, Hs3, Hs4, Hca, Hcb, Hw⟩
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [Hh18]; · iexact Hh18
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hqa]; · iexists f₁; rw [src_at]; iexact Hqa
  isplitl [Hqb]; · iexists f₂; rw [src_at]; iexact Hqb
  isplitl [Hca]; · iexact Hca
  isplitl [Hcb]; · iexact Hcb
  isplitl [Hw]; · iexact Hw
  iexact Hg⟩

/-- The body at a grid point runs from what it holds to what it holds. -/
theorem safe_body (c : Dev nD) (t : Fin (cfg0 (F := F)).N) : Safe c none (OO c t) (bodyAt0 (F := F) t) :=
  safe_cc0_attention (safe_trip)

end Cert.KernelIdeal.Hand

end
-- ==== Proof.Run.lean ====
/-
  Hand-written. The launch of the attention kernel: the host operations before it, the region, and the run of the whole
  program. The projected array is read through twelve windows and by the kernel's own transfers at once, so the first
  window's share of it is halved and the kernel keeps a half. What the windows hold is forgotten from point to point.
-/
module

public import proofs.«01_k».proof.Proof.Body
public import Idealize.ShloMosaic.Lib.Pipeline.Regions
public import Idealize.ShloMosaic.Lib.Pipeline.Frame
public import Idealize.ShloMosaic.Lib.Pipeline.FrameTail
public import Idealize.ShloMosaic.Lib.Quiescent

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev adm : (p : Fin 1) → (pcfgs (F := F) p).Adm := fun p => (cfgs p).toPCfg_adm
abbrev L : GSem nD τ sig → Finset Unit := fun _ => ∅
abbrev lv : GSem nD τ sig → Unit → ℕ := fun _ _ => 0

/-- A core's buffers at launch and at the region's entry. -/
abbrev V₀ (c : Dev nD) : Valuation τ sig (Elt F) := StableHlo.launchContents m c
abbrev V₁ (c : Dev nD) : Valuation τ sig (Elt F) := StableHlo.after hostOps0 (V₀ m c)
abbrev V (c : Dev nD) (b : Ref sig .tc) : Buf (Elt F) ((c : Thread nD τ).loc b) := V₁ m c (Proc.devRef .tc b)

/-- The kernel's own two semaphores. -/
abbrev osem0 : Fin 2 → SemLoc sig := fun j => ![SemLoc.dma (semA cc0_scratch8), SemLoc.dma (semB cc0_scratch8)] j
theorem ownSemFacts0 : Pipeline.OwnSemFacts spec0 osem0 := by decide +kernel

theorem ownSems0_eq (c : Dev nD) : (Pipeline.ownSems0 (Ix := Unit) (Name := ℕ) (U := Pipeline.UD sig nD τ) (Lvl := ℕ) (Val := Elt F) (τ := τ) osem0 c : sProp (MM F))
    = iprop(semVal ((c : Thread nD τ), .dma (semA cc0_scratch8)) 0 ∗ semVal ((c : Thread nD τ), .dma (semB cc0_scratch8)) 0) := by
  rw [Pipeline.ownSems0_eq_of_list c osem0 [0, 1] (by decide) (by decide)]; rfl

/-- What the kernel keeps from point to point beside the windows' buffers and the waits' record. -/
def Keep (c : Dev nD) : sProp (MM F) :=
  iprop(Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7)
    ∗ Src c qA ∗ Src c qB ∗ semVal ((c : Thread nD τ), .dma (semA cc0_scratch8)) 0
    ∗ semVal ((c : Thread nD τ), .dma (semB cc0_scratch8)) 0 ∗ (∃ r, prngReg c r))

/-- The first window's share of the projected array is halved. -/
abbrev q0 (w : Fin 19) : PosShare TreeShare := if w = 0 then (Pipeline.shareOf spec0 0).left else Pipeline.shareOf spec0 w

/-- The region's proof data: nothing said of the windows' contents after the body. -/
def rdat (c : Dev nD) : Pipeline.RDat τ (Elt F) Unit ℕ (Pipeline.UD sig nD τ) ℕ (cfg0 (F := F)) c where
  A := fun w => V m c (Pipeline.arrRef spec0 w)
  after := fun _ _ _ _ => True
  Φ := fun _ => Keep c
  q := q0
  owed := fun _ => 0

abbrev rdats : (p : Fin 1) → (c : Dev nD) → Pipeline.RDat τ (Elt F) Unit ℕ (Pipeline.UD sig nD τ) ℕ (Pipeline.pin (pcfgs (F := F)) adm p) c :=
  fun | 0 => rdat m | ⟨_ + 1, h⟩ => absurd h (Nat.not_lt.2 (Nat.le_add_left _ _))

theorem defs₀_row (t : Fin (cfg0 (F := F)).N) :
    defs₀ (F := F) .tc cfg0.body (cfg0.bodyArgs t (cfg0.slots t)) = bodyAt0 t := by
  unfold defs₀; rw [Defs.onTc_tc]

theorem held_whole (c : Dev nD) (b : Ref sig .tc) :
    (Held c (Memref.whole b) : sProp (MM F)) = iprop(∃ f : Buf (Elt F) ((c : Thread nD τ).loc b), ((c : Thread nD τ).loc b) ↦{fullShare} f) := by
  unfold Held
  rw [(Memref.isWhole_whole b).set_eq_univ]

theorem owns_held (c : Dev nD) {sp : Space} {S : Shape} {e : EltTy} (M : Memref sig .tc sp S e) (X : S.Idx → Elt F e) :
    (owns (c : Thread nD τ) M fullShare X : sProp (MM F)) ⊢ Held c M := by
  unfold owns; iintro ⟨%f, -, H⟩; iexists f; iexact H

theorem held_owns (c : Dev nD) {sp : Space} {S : Shape} {e : EltTy} (M : Memref sig .tc sp S e) :
    (Held c M : sProp (MM F)) ⊢ iprop(∃ X, ⌜True⌝ ∗ owns (c : Thread nD τ) M fullShare X) := by
  unfold owns; iintro ⟨%f, H⟩; iexists (M.view.read (Elt F) f)
  isplitr; · ipureintro; trivial
  iexists f; isplitr; · ipureintro; rfl
  iexact H

theorem body_in (c : Dev nD) (t : Fin (cfg0 (F := F)).N) (Y : (w : Fin 19) → ((cfg0 (F := F)).win w).block.Idx → Elt F ((cfg0 (F := F)).win w).elt) :
    iprop(Keep c ∗ (rdat m c).owesAt () t.castSucc
      ∗ bigSep Finset.univ (fun w => owns (c : Thread nD τ) (((cfg0 (F := F)).win w).stage ((cfg0 (F := F)).slots t w)) fullShare (Y w))) ⊢ (OO c t : sProp (MM F)) := by
  rw [bigSep_W0]
  unfold Keep OO Pipeline.RDat.owesAt Pipeline.owesWithin
  iintro ⟨⟨Hs0, Hs1, Hs2, Hs3, Hs4, Hs5, Hs6, Hs7, Hqa, Hqb, Hca, Hcb, Hg⟩, ⟨%W, -, Hw⟩, Hh0, Hh1, Hh2, Hh3, Hh4, Hh5, Hh6, Hh7, Hh8, Hh9, Hh10, Hh11, Hh12, Hh13, Hh14, Hh15, Hh16, Hh17, Hh18⟩
  isplitl [Hh0]; · iapply (owns_held c _ _); iexact Hh0
  isplitl [Hh1]; · iapply (owns_held c _ _); iexact Hh1
  isplitl [Hh2]; · iapply (owns_held c _ _); iexact Hh2
  isplitl [Hh3]; · iapply (owns_held c _ _); iexact Hh3
  isplitl [Hh4]; · iapply (owns_held c _ _); iexact Hh4
  isplitl [Hh5]; · iapply (owns_held c _ _); iexact Hh5
  isplitl [Hh6]; · iapply (owns_held c _ _); iexact Hh6
  isplitl [Hh7]; · iapply (owns_held c _ _); iexact Hh7
  isplitl [Hh8]; · iapply (owns_held c _ _); iexact Hh8
  isplitl [Hh9]; · iapply (owns_held c _ _); iexact Hh9
  isplitl [Hh10]; · iapply (owns_held c _ _); iexact Hh10
  isplitl [Hh11]; · iapply (owns_held c _ _); iexact Hh11
  isplitl [Hh12]; · iapply (owns_held c _ _); iexact Hh12
  isplitl [Hh13]; · iapply (owns_held c _ _); iexact Hh13
  isplitl [Hh14]; · iapply (owns_held c _ _); iexact Hh14
  isplitl [Hh15]; · iapply (owns_held c _ _); iexact Hh15
  isplitl [Hh16]; · iapply (owns_held c _ _); iexact Hh16
  isplitl [Hh17]; · iapply (owns_held c _ _); iexact Hh17
  isplitl [Hh18]; · iapply (owns_held c _ _); iexact Hh18
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hqa]; · iexact Hqa
  isplitl [Hqb]; · iexact Hqb
  isplitl [Hca]; · iexact Hca
  isplitl [Hcb]; · iexact Hcb
  isplitl [Hw]; · iexists W; iexact Hw
  iexact Hg

theorem body_out (c : Dev nD) (t : Fin (cfg0 (F := F)).N) (Y : (w : Fin 19) → ((cfg0 (F := F)).win w).block.Idx → Elt F ((cfg0 (F := F)).win w).elt) :
    (OO c t : sProp (MM F)) ⊢ iprop(Keep c ∗ (rdat m c).owesAt () t.succ
      ∗ bigSep Finset.univ (fun w => iprop(∃ X, ⌜(rdat m c).after w t (Y w) X⌝ ∗ owns (c : Thread nD τ) (((cfg0 (F := F)).win w).stage ((cfg0 (F := F)).slots t w)) fullShare X))) := by
  rw [bigSep_W0]
  unfold Keep OO Pipeline.RDat.owesAt Pipeline.owesWithin
  iintro ⟨Hh0, Hh1, Hh2, Hh3, Hh4, Hh5, Hh6, Hh7, Hh8, Hh9, Hh10, Hh11, Hh12, Hh13, Hh14, Hh15, Hh16, Hh17, Hh18, Hs0, Hs1, Hs2, Hs3, Hs4, Hs5, Hs6, Hs7, Hqa, Hqb, Hca, Hcb, ⟨%W, Hw⟩, Hg⟩
  isplitl [Hs0 Hs1 Hs2 Hs3 Hs4 Hs5 Hs6 Hs7 Hqa Hqb Hca Hcb Hg]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hqa]; · iexact Hqa
    isplitl [Hqb]; · iexact Hqb
    isplitl [Hca]; · iexact Hca
    isplitl [Hcb]; · iexact Hcb
    iexact Hg
  isplitl [Hw]
  · iexists W; isplitr; · ipureintro; exact fun _ _ => Or.inl trivial
    iexact Hw
  isplitl [Hh0]; · iapply (held_owns c _); iexact Hh0
  isplitl [Hh1]; · iapply (held_owns c _); iexact Hh1
  isplitl [Hh2]; · iapply (held_owns c _); iexact Hh2
  isplitl [Hh3]; · iapply (held_owns c _); iexact Hh3
  isplitl [Hh4]; · iapply (held_owns c _); iexact Hh4
  isplitl [Hh5]; · iapply (held_owns c _); iexact Hh5
  isplitl [Hh6]; · iapply (held_owns c _); iexact Hh6
  isplitl [Hh7]; · iapply (held_owns c _); iexact Hh7
  isplitl [Hh8]; · iapply (held_owns c _); iexact Hh8
  isplitl [Hh9]; · iapply (held_owns c _); iexact Hh9
  isplitl [Hh10]; · iapply (held_owns c _); iexact Hh10
  isplitl [Hh11]; · iapply (held_owns c _); iexact Hh11
  isplitl [Hh12]; · iapply (held_owns c _); iexact Hh12
  isplitl [Hh13]; · iapply (held_owns c _); iexact Hh13
  isplitl [Hh14]; · iapply (held_owns c _); iexact Hh14
  isplitl [Hh15]; · iapply (held_owns c _); iexact Hh15
  isplitl [Hh16]; · iapply (held_owns c _); iexact Hh16
  isplitl [Hh17]; · iapply (held_owns c _); iexact Hh17
  iapply (held_owns c _); iexact Hh18

theorem body_obligation (c : Dev nD) : (rdat m c).BodyObligation (defs₀ (F := F)) 𝒱₀ () Set.univ := fun t Y _ => by
  rw [defs₀_row]
  exact (body_in m c t Y).trans ((safe_body c t).run.trans (wp_mono frame _ _ fun _ => body_out m c t Y))

end Cert.KernelIdeal.Hand

end
-- ==== Proof.RunAll.lean ====
/-
  Hand-written. The segments of the program — its host operations, its region — and the run: every execution ends, with
  the arguments as they were and every semaphore at zero.
-/
module

public import proofs.«01_k».proof.Proof.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The host operations write none of the arguments. -/
theorem V_arg (c : Dev nD) (b : Ref sig .tc) (hb : b ∉ [main_cst, main_c, main_cst_0, main_v0, main_v1, main_v2, main_v3, main_v4]) :
    V m c b = m ((c : Thread nD τ).loc b) :=
  StableHlo.after_of_writes_sub (W := [main_cst, main_c, main_cst_0, main_v0, main_v1, main_v2, main_v3, main_v4]) hostOps0 (V₀ m c)
    (by refine ⟨?_, ?_, ?_, ?_, ?_, ?_, ?_, ?_⟩ <;> (intro x hx; rcases Finset.mem_singleton.mp hx with rfl; decide)) hb

/-- The same data with no share halved. -/
def rdat' (c : Dev nD) : Pipeline.RDat τ (Elt F) Unit ℕ (Pipeline.UD sig nD τ) ℕ (cfg0 (F := F)) c :=
  { rdat m c with q := Pipeline.shareOf spec0 }

theorem share' (c : Dev nD) (w : Fin 19) (hw : w ≠ 0) : (rdat' m c).share w = (rdat m c).share w := by
  unfold Pipeline.RDat.share rdat' rdat q0
  simp only [if_neg hw]

theorem head_split {P P' R G : sProp (MM F)} (h : P ⊢ P') (k : iprop(P' ∗ R) ⊢ G) : iprop(P ∗ R) ⊢ G := by
  iintro ⟨H, HR⟩
  ihave H := h $$ H
  iapply k
  isplitl [H]; · iexact H
  iexact HR

theorem piece (c : Dev nD) (w : Fin 19) (hw : w ≠ 0) :
    (((c : Thread nD τ).loc (Pipeline.arrRef spec0 w)) ↦{(rdat' m c).share w} (rdat' m c).A w : sProp (MM F))
      ⊢ (((c : Thread nD τ).loc (Pipeline.arrRef spec0 w)) ↦{(rdat m c).share w} (rdat m c).A w) := by
  rw [share' m c w hw]; exact .rfl

theorem halve (c : Dev nD) :
    (((c : Thread nD τ).loc (Pipeline.arrRef spec0 0)) ↦{(rdat' m c).share 0} (rdat' m c).A 0 : sProp (MM F))
      ⊢ iprop((((c : Thread nD τ).loc (Pipeline.arrRef spec0 0)) ↦{(rdat m c).share 0} (rdat m c).A 0)
        ∗ ((c : Thread nD τ).loc main_v2 ↦{qA} V m c main_v2) ∗ ((c : Thread nD τ).loc main_v2 ↦{qB} V m c main_v2)) := by
  have h1 := (pointsTo_share (Ix := Unit) (Val := Elt F) (Name := ℕ) (U := Pipeline.UD sig nD τ) (Lvl := ℕ) (ℓ := (c : Thread nD τ).loc main_v2) (I := Finset.univ) (f := V m c main_v2)
    (PosShare.mem_left_op_right (Pipeline.shareOf spec0 0))).1
  have h2 := (pointsTo_share (Ix := Unit) (Val := Elt F) (Name := ℕ) (U := Pipeline.UD sig nD τ) (Lvl := ℕ) (ℓ := (c : Thread nD τ).loc main_v2) (I := Finset.univ) (f := V m c main_v2)
    (PosShare.mem_left_op_right (Pipeline.shareOf spec0 0).right)).1
  refine BIBase.Entails.trans (show (((c : Thread nD τ).loc (Pipeline.arrRef spec0 0)) ↦{(rdat' m c).share 0} (rdat' m c).A 0 : sProp (MM F)) ⊢ _ from h1) ?_
  iintro ⟨HL, HR⟩
  ihave HR := h2 $$ HR
  icases HR with ⟨HA, HB⟩
  isplitl [HL]; · iexact HL
  isplitl [HA]; · iexact HA
  iexact HB

set_option maxHeartbeats 4000000 in
/-- The windows' arrays with no share halved are those with the first halved, and the half. -/
theorem arrays_halve (c : Dev nD) : ((rdat' m c).arrays (rdat' m c).A : sProp (MM F))
    ⊢ iprop((rdat m c).arrays (rdat m c).A ∗ Src c qA ∗ Src c qB) := by
  rw [Pipeline.RDat.arrays_arrShares _ arr_whole0, Pipeline.RDat.arrays_arrShares _ arr_whole0]
  unfold Pipeline.arrShares
  rw [bigSep_W0, bigSep_W0]
  refine head_split (halve m c) ?_
  iintro ⟨⟨H0, HA, HB⟩, TH1, TH2, TH3, TH4, TH5, TH6, TH7, TH8, TH9, TH10, TH11, TH12, TH13, TH14, TH15, TH16, TH17, TH18⟩
  isplitl [H0 TH1 TH2 TH3 TH4 TH5 TH6 TH7 TH8 TH9 TH10 TH11 TH12 TH13 TH14 TH15 TH16 TH17 TH18]
  · isplitl [H0]; · iexact H0
    isplitl [TH1]; · iapply (piece m c 1 (by decide)); iexact TH1
    isplitl [TH2]; · iapply (piece m c 2 (by decide)); iexact TH2
    isplitl [TH3]; · iapply (piece m c 3 (by decide)); iexact TH3
    isplitl [TH4]; · iapply (piece m c 4 (by decide)); iexact TH4
    isplitl [TH5]; · iapply (piece m c 5 (by decide)); iexact TH5
    isplitl [TH6]; · iapply (piece m c 6 (by decide)); iexact TH6
    isplitl [TH7]; · iapply (piece m c 7 (by decide)); iexact TH7
    isplitl [TH8]; · iapply (piece m c 8 (by decide)); iexact TH8
    isplitl [TH9]; · iapply (piece m c 9 (by decide)); iexact TH9
    isplitl [TH10]; · iapply (piece m c 10 (by decide)); iexact TH10
    isplitl [TH11]; · iapply (piece m c 11 (by decide)); iexact TH11
    isplitl [TH12]; · iapply (piece m c 12 (by decide)); iexact TH12
    isplitl [TH13]; · iapply (piece m c 13 (by decide)); iexact TH13
    isplitl [TH14]; · iapply (piece m c 14 (by decide)); iexact TH14
    isplitl [TH15]; · iapply (piece m c 15 (by decide)); iexact TH15
    isplitl [TH16]; · iapply (piece m c 16 (by decide)); iexact TH16
    isplitl [TH17]; · iapply (piece m c 17 (by decide)); iexact TH17
    iapply (piece m c 18 (by decide)); iexact TH18
  isplitl [HA]; · iexists _; iexact HA
  iexists _; iexact HB

/-- A buffer at contents and a share. -/
abbrev pl (c : Dev nD) (b : Ref sig .tc) (q : PosShare TreeShare) (f : Buf (Elt F) ((c : Thread nD τ).loc b)) : sProp (MM F) :=
  ((c : Thread nD τ).loc b) ↦{q} f

/-- What is held at the end: the five arguments, each as it was at launch, at some share. -/
def Tn (c : Dev nD) : sProp (MM F) :=
  iprop(pl c main_arg0 fullShare (m ((c : Thread nD τ).loc main_arg0))
    ∗ (∃ q, pl c main_arg1 q (m ((c : Thread nD τ).loc main_arg1)))
    ∗ (∃ q, pl c main_arg2 q (m ((c : Thread nD τ).loc main_arg2)))
    ∗ pl c main_arg3 fullShare (m ((c : Thread nD τ).loc main_arg3))
    ∗ pl c main_arg4 fullShare (m ((c : Thread nD τ).loc main_arg4)))

theorem exit_arg (c : Dev nD) (w : Fin 19) (hin : (spec0 w).isOut = false) :
    iprop(∃ G, ⌜(rdat m c).ArrAt w (cfg0 (F := F)).N G⌝ ∗ ((cfg0 (F := F)).win w).arr.view.loc (c : Thread nD τ) ↦[((cfg0 (F := F)).win w).arr.view.set]{(rdat m c).share w} G)
      ⊢ (iprop(∃ q, pl c (Pipeline.arrRef spec0 w) q (V m c (Pipeline.arrRef spec0 w))) : sProp (MM F)) := by
  rw [Pipeline.RDat.ArrAt_in (rdat m c) w hin, (arr_whole0 w).set_eq_univ]
  iintro ⟨%G, %h, H⟩
  subst h
  iexists _; iexact H

/-- The host operations. -/
abbrev seg0 : Pipeline.HostSeg (Name := ℕ) (U := Pipeline.UD sig nD τ) (pcfgs (F := F)) defs₀ 𝒱₀ L lv :=
  Pipeline.HostSeg.ofOps _ _ _ _ _ (Pipeline.ucRefs τ sig) (hostOps0 (F := F))
    (fun op h => Pipeline.sub_ucRefs op ((List.forall_iff_forall_mem.mp hostOps0_sub) op h))
    (by intro _ h; (repeat (cases h with | head => rfl | tail _ h => ?_)); exact nomatch h)
    (V₀ m) (fun c => iprop(prngReg c (ρ c) ∗ owes (c : Thread nD τ) 0 ∅))

set_option backward.isDefEq.respectTransparency.types false in
theorem entry (c : Dev nD) :
    iprop((StableHlo.held (c : Thread nD τ) (Pipeline.ucRefs τ sig) (V₁ m c) ∗ prngReg c (ρ c) ∗ owes (c : Thread nD τ) 0 ∅)
        ∗ Pipeline.ownSems0 osem0 c ∗ levAts L lv)
      ⊢ (iprop(|={Set.univ}=> ((rdat m c).arrays (rdat m c).A ∗ Pipeline.prefHeld (pcfgs (F := F) 0).pre c (fun _ => fullShare) (adm (F := F) 0).1
          ∗ (rdat m c).owesAt () 0
          ∗ (Src c qA ∗ Src c qB ∗ semVal ((c : Thread nD τ), .dma (semA cc0_scratch8)) 0 ∗ semVal ((c : Thread nD τ), .dma (semB cc0_scratch8)) 0 ∗ (∃ r, prngReg c r))
          ∗ Pipeline.unscopedRest (Ix := Unit) (Name := ℕ) (U := Pipeline.UD sig nD τ) (Lvl := ℕ) spec0 c (V m c))) : sProp (MM F)) := by
  rw [ownSems0_eq,
    show StableHlo.held (c : Thread nD τ) (Pipeline.ucRefs τ sig) (V₁ m c) = unscopedBufs c (V m c)
      from (Pipeline.unscopedBufs_held (Ix := Unit) (Name := ℕ) (U := Pipeline.UD sig nD τ) (Lvl := ℕ) c (V₁ m c)).symm,
    Pipeline.unscopedBufs_split₀ (cfgs (F := F)) 0 (winFacts₀0).arr_unscoped c (V m c)]
  have hs := (rdat' m c).arrays_split_shared sharedIn0 arr_whole0 (fun _ _ => rfl) (V m c) (rdat' m c).A (fun _ => rfl)
  have hh := arrays_halve m c
  iintro ⟨⟨⟨HA, HZ⟩, Hp, HO⟩, ⟨Hca, Hcb⟩, -⟩
  ihave HA := hs $$ HA
  ihave HA := hh $$ HA
  icases HA with ⟨HA, Hqa, Hqb⟩
  imodintro
  isplitl [HA]; · iexact HA
  isplitr
  · unfold Pipeline.prefHeld
    iapply (show (BI.emp : sProp (MM F)) ⊢ bigSep (Finset.univ : Finset (Fin 0)) _ from by
      rw [show (Finset.univ : Finset (Fin 0)) = ∅ from rfl, BI.bigSep_empty])
    iempintro
  isplitl [HO]
  · unfold Pipeline.RDat.owesAt Pipeline.owesWithin
    iexists ∅; isplitr; · ipureintro; simp
    iexact HO
  isplitr [HZ]
  · isplitl [Hqa]; · iexact Hqa
    isplitl [Hqb]; · iexact Hqb
    isplitl [Hca]; · iexact Hca
    isplitl [Hcb]; · iexact Hcb
    iexists _; iexact Hp
  iexact HZ

theorem held_of (c : Dev nD) (b : Ref sig .tc) :
    iprop(∃ f : Buf (Elt F) ((c : Thread nD τ).loc b), ((c : Thread nD τ).loc b) ↦{fullShare} f) ⊢ (Held c (Memref.whole b) : sProp (MM F)) := by
  rw [held_whole]
theorem of_held (c : Dev nD) (b : Ref sig .tc) :
    (Held c (Memref.whole b) : sProp (MM F)) ⊢ iprop(∃ f : Buf (Elt F) ((c : Thread nD τ).loc b), ((c : Thread nD τ).loc b) ↦{fullShare} f) := by
  rw [held_whole]

theorem keep_in (c : Dev nD) :
    iprop((Src c qA ∗ Src c qB ∗ semVal ((c : Thread nD τ), .dma (semA cc0_scratch8)) 0 ∗ semVal ((c : Thread nD τ), .dma (semB cc0_scratch8)) 0 ∗ (∃ r, prngReg c r))
      ∗ Pipeline.prefHeld (pcfgs (F := F) 0).pre c (fun _ => fullShare) (adm (F := F) 0).1
      ∗ Pipeline.scopedRest spec0 c) ⊢ (Keep c : sProp (MM F)) := by
  rw [scopedRest0_eq]; unfold Keep
  iintro ⟨⟨Hqa, Hqb, Hca, Hcb, Hg⟩, -, Hs0, Hs1, Hs2, Hs3, Hs4, Hs5, Hs6, Hs7⟩
  isplitl [Hs0]; · iapply (held_of c _); iexact Hs0
  isplitl [Hs1]; · iapply (held_of c _); iexact Hs1
  isplitl [Hs2]; · iapply (held_of c _); iexact Hs2
  isplitl [Hs3]; · iapply (held_of c _); iexact Hs3
  isplitl [Hs4]; · iapply (held_of c _); iexact Hs4
  isplitl [Hs5]; · iapply (held_of c _); iexact Hs5
  isplitl [Hs6]; · iapply (held_of c _); iexact Hs6
  isplitl [Hs7]; · iapply (held_of c _); iexact Hs7
  isplitl [Hqa]; · iexact Hqa
  isplitl [Hqb]; · iexact Hqb
  isplitl [Hca]; · iexact Hca
  isplitl [Hcb]; · iexact Hcb
  iexact Hg

theorem keep_out (c : Dev nD) :
    (Keep c : sProp (MM F)) ⊢ iprop(BI.emp ∗ Pipeline.ownSems0 osem0 c ∗ Pipeline.scopedRest spec0 c) := by
  rw [scopedRest0_eq, ownSems0_eq]; unfold Keep
  iintro ⟨Hs0, Hs1, Hs2, Hs3, Hs4, Hs5, Hs6, Hs7, -, -, Hca, Hcb, -⟩
  isplitr; · iempintro
  isplitl [Hca Hcb]
  · isplitl [Hca]; · iexact Hca
    iexact Hcb
  isplitl [Hs0]; · iapply (of_held c _); iexact Hs0
  isplitl [Hs1]; · iapply (of_held c _); iexact Hs1
  isplitl [Hs2]; · iapply (of_held c _); iexact Hs2
  isplitl [Hs3]; · iapply (of_held c _); iexact Hs3
  isplitl [Hs4]; · iapply (of_held c _); iexact Hs4
  isplitl [Hs5]; · iapply (of_held c _); iexact Hs5
  isplitl [Hs6]; · iapply (of_held c _); iexact Hs6
  iapply (of_held c _); iexact Hs7

theorem exit (c : Dev nD) :
    iprop((rdat m c).arraysAt (cfg0 (F := F)).N ∗ (rdat m c).owesAt () (Fin.last (cfg0 (F := F)).N) ∗ BI.emp
        ∗ Pipeline.unscopedRest (Ix := Unit) (Name := ℕ) (U := Pipeline.UD sig nD τ) (Lvl := ℕ) spec0 c (V m c))
      ⊢ (iprop(|={Set.univ}=> (Tn m c ∗ ∃ W, owes (c : Thread nD τ) 0 W)) : sProp (MM F)) := by
  have h6 := exit_arg m c 6 rfl
  have h7 := exit_arg m c 7 rfl
  rw [show V m c (Pipeline.arrRef spec0 6) = _ from V_arg m c main_arg1 (by decide)] at h6
  rw [show V m c (Pipeline.arrRef spec0 7) = _ from V_arg m c main_arg2 (by decide)] at h7
  rw [unscopedRest0_eq, V_arg m c main_arg0 (by decide), V_arg m c main_arg3 (by decide), V_arg m c main_arg4 (by decide)]
  unfold Pipeline.RDat.arraysAt Tn Pipeline.RDat.owesAt Pipeline.owesWithin
  rw [bigSep_W0]
  iintro ⟨⟨-, -, -, -, -, -, H6, H7, -⟩, ⟨%W, -, HW⟩, -, ⟨H0, H3, H4, -⟩⟩
  imodintro
  isplitr [HW]
  · isplitl [H0]; · iexact H0
    isplitl [H6]; · iapply h6; iexact H6
    isplitl [H7]; · iapply h7; iexact H7
    isplitl [H3]; · iexact H3
    iexact H4
  iexists W; iexact HW

set_option backward.isDefEq.respectTransparency.types false in
/-- The region. -/
def reg0 : Pipeline.RDat.RegionSeg (pcfgs (F := F)) adm (rdats m) () defs₀ 𝒱₀ L lv 0 where
  win := winFacts₀0
  block_pos := block_pos0
  stage_whole := stage_whole0
  K := Fin 2
  osem := osem0
  ho := ownSemFacts0
  hbody := fun c => body_obligation m c
  hwaits := Pipeline.RDat.hwaits_of_owed_zero (pcfgs (F := F)) adm (rdats m) () L lv 0 (fun _ _ => rfl)
  pre := fun c => iprop(StableHlo.held (c : Thread nD τ) (Pipeline.ucRefs τ sig) (V₁ m c) ∗ prngReg c (ρ c) ∗ owes (c : Thread nD τ) 0 ∅)
  post := fun c => iprop(Tn m c ∗ ∃ W, owes (c : Thread nD τ) 0 W)
  X := fun c => iprop(Src c qA ∗ Src c qB ∗ semVal ((c : Thread nD τ), .dma (semA cc0_scratch8)) 0 ∗ semVal ((c : Thread nD τ), .dma (semB cc0_scratch8)) 0 ∗ (∃ r, prngReg c r))
  Y := fun _ => BI.emp
  Z := fun c => Pipeline.unscopedRest (Ix := Unit) (Name := ℕ) (U := Pipeline.UD sig nD τ) (Lvl := ℕ) spec0 c (V m c)
  hentry := fun c => entry m ρ c
  hin := fun c => keep_in c
  hout := fun c => keep_out c
  hexit := fun c => exit m c

theorem read_arg (c : Dev nD) (b : Ref sig .tc) (q : PosShare TreeShare) (f : Buf (Elt F) ((c : Thread nD τ).loc b)) (s' : Phys nD τ sig (Elt F)) :
    iprop(pl c b q f ∗ SI s') ⊢ (iprop(⌜s'.mem.mem ((c : Thread nD τ).loc b) = f⌝ ∗ SI s') : sProp (MM F)) := by
  iintro ⟨Hx, HSI⟩
  icombine HSI Hx gives %hx
  isplitr; · ipureintro; exact Buf.eq_of_forall_mem_univ hx
  iexact HSI

set_option backward.isDefEq.respectTransparency.types false in
/-- The run. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.RDat.θ_run_regions_kit_sems (pcfgs (F := F)) adm (rdats m) () cellOf_inj embL defs₀ 𝒱₀ L lv m ρ main [.host (seg0 m ρ), .region (reg0 m ρ)]
    (fun c Q => by rw [main_chain c, Pipeline.RDat.Seg.run_eq_chain]; exact .rfl)
    (by simp only [Pipeline.RDat.Seg.pipes_host, Pipeline.RDat.Seg.pipes_region, Pipeline.RDat.Seg.pipes_nil]; exact List.nodup_singleton _)
    (O₀ := 0) (hL := fun _ _ => rfl) (G := fun _ => iprop(emp))
    (u₀ := (initOf (Pipeline.cells (Pipeline.pin (pcfgs (F := F)) adm) cellOf_inj) (Pipeline.launchToks (Pipeline.pin (pcfgs (F := F)) adm) cellOf_inj), 1))
    (hu₀ := by
      iintro Hu
      ihave H' := (ownU_pair _ _) $$ Hu
      icases H' with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (V₀ m c) ∗ prngReg c (ρ c) ∗ owes (c : Thread nD τ) 0 ∅))
    (Tₙ := Tn m)
    (hch := ⟨fun _ => .rfl, fun _ => .rfl, fun _ => .rfl⟩)
    (hinit := by
      refine Pipeline.initEach L lv fun c => ?_
      rw [show unscopedBufs c (fun b => m ((c.tc : Thread nD τ).loc b)) = StableHlo.held (c.tc : Thread nD τ) (Pipeline.ucRefs τ sig) (V₀ m c)
          from Pipeline.unscopedBufs_held (Ix := Unit) (Name := ℕ) (U := Pipeline.UD sig nD τ) (Lvl := ℕ) c (V₀ m c)]
      iintro ⟨⟨Hh, -, HO, -, Hp, -⟩, -⟩
      imodintro
      isplitl [Hh]; · iexact Hh
      isplitl [Hp] <;> iassumption)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      unfold Tn
      iintro ⟨⟨H0, ⟨%q1, H1⟩, ⟨%q2, H2⟩, H3, H4⟩, HSI⟩
      ihave H := (read_arg c main_arg0 _ _ s') $$ [H0 HSI]
      · isplitl [H0] <;> iassumption
      icases H with ⟨%e0, HSI⟩
      ihave H := (read_arg c main_arg1 _ _ s') $$ [H1 HSI]
      · isplitl [H1] <;> iassumption
      icases H with ⟨%e1, HSI⟩
      ihave H := (read_arg c main_arg2 _ _ s') $$ [H2 HSI]
      · isplitl [H2] <;> iassumption
      icases H with ⟨%e2, HSI⟩
      ihave H := (read_arg c main_arg3 _ _ s') $$ [H3 HSI]
      · isplitl [H3] <;> iassumption
      icases H with ⟨%e3, HSI⟩
      ihave H := (read_arg c main_arg4 _ _ s') $$ [H4 HSI]
      · isplitl [H4] <;> iassumption
      icases H with ⟨%e4, HSI⟩
      imodintro
      isplitr; · ipureintro; exact ⟨e0, e1, e2, e3, e4⟩
      iexact HSI)
    (hQ := fun s h hs => ⟨h, sem_eq_zero_of_scoped (by decide) hs⟩)

end Cert.KernelIdeal.Hand

end
-- ==== Proof.GluKit.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Glu

open Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).1 5).trans (((dats 0 c).arrAt_in 5 rfl _).trans ((hA c 5).trans (V_main_arg1 m c))),
      ((h c).2 main_arg2 (Pipeline.mem_restRefs_of main_arg2 (by decide) (by decide))).trans (V_main_arg2 m c),
      ((h c).1 2).trans (((dats 0 c).arrAt_in 2 rfl _).trans ((hA c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The condition under which the body clears the carried tail of its feature tile: the first row tile. -/
abbrev cond0_1 (i : grid0.Coords) : Prop := k0_cond2 i = 1#1
theorem hcond0_1 : ∀ t : Fin cfg0.N, cond0_1 (grid0.coords t) ↔ t.val < 11 :=
  (fun t => by
    have ht : t.val < 176 := Nat.lt_of_lt_of_eq t.isLt N_0
    have e0 : (grid0.coords t 0).val = t.val / 11 % 16 := Pipeline.Grid.coords_val t 0 (by decide) rfl
    simp only [cond0_1, k0_cond2, e0]
    word_cmp
   : ∀ t : Fin grid0.N, cond0_1 (grid0.coords t) ↔ t.val < 11)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 10#32)) 0#32) = 1#1
/-- It holds at the points ≡ 10 (mod 11) — by arithmetic of the point. -/
theorem hcond0_2 : ∀ t : Fin cfg0.N, cond0_2 (grid0.coords t) ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_2, e0, e1]
    word_cmp
   : ∀ t : Fin grid0.N, cond0_2 (grid0.coords t) ↔ t.val % 11 = 10)

/-! ## The kernel body on any staging memrefs: a subtype the run finds -/

/-- One staging buffer of output window 7, through which its contents are stated . -/
abbrev VO0_7 : View sig .tc .vmem S1024x2048 .f32 := (Memref.whole cc0_stg7_0 : Memref sig .tc .vmem S1024x2048 .f32).view
/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1032x512 .f32 := Memref.whole cc0_scratch0
abbrev scM0_1 : Memref sig .tc .vmem S11x8x512 .f32 := Memref.whole cc0_scratch1
/-- The scratch `arg11` the kernel carries between points, as a view: what it holds is stated through it. -/
abbrev VS0_1 : View sig .tc .vmem S11x8x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Glu

end
-- ==== Proof.GluBody.lean ====
/-
  Hand-written. One point of the gated convolution kernel: what its body leaves in the output's block and in the carried
  tail, in each of the six cases of its conditionals. The body is run over its skeleton; what it loads back from the gate
  buffer is read off the two stores that filled it.
-/
module

public import proofs.«01_k».proof.Proof.GluKit
public import Idealize.ShloMosaic.Lib.VecWindow

@[expose] public section

set_option maxRecDepth 16384

noncomputable section

namespace Cert.Kernel2Ideal.Glu

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gate buffer: eight rows of history over the tile's own gate rows. -/
def bufV (t : Vec F S8x512 .f32) (g : Vec F S1024x512 .f32) : Vec F S1032x512 .f32 := fun y =>
  if h : (y 0).val < 8 then t (fun a => ⟨(y a).val, by
      refine Fin.cases ?_ (fun b => ?_) a
      · exact h
      · exact Fin.cases (y 1).isLt (fun d => d.elim0) b⟩)
  else g (fun a => ⟨(y a).val - (![8, 0] : Fin 2 → ℕ) a, by
      refine Fin.cases ?_ (fun b => ?_) a
      · have := (y 0).isLt; show (y 0).val - 8 < 1024; have : (y 0).val < 1032 := this; omega
      · exact Fin.cases (by have := (y 1).isLt; exact this) (fun d => d.elim0) b⟩)

theorem put_put_eq (d : Vec F S1032x512 .f32) (t : Vec F S8x512 .f32) (g : Vec F S1024x512 .f32) :
    VecWindow.put (s := S1032x512) (VecWindow.put (s := S1032x512) d ![0, 0] S8x512.size t) ![8, 0] S1024x512.size g = bufV t g := by
  funext y
  have h0 : (y 0).val < 1032 := (y 0).isLt
  have h1 : (y 1).val < 512 := (y 1).isLt
  unfold VecWindow.put bufV
  by_cases h : (y 0).val < 8
  · rw [dif_neg (fun hall => by have := (hall 0).1; change 8 ≤ (y 0).val at this; omega), dif_pos h, dif_pos (fun a => by
      refine Fin.cases ?_ (fun b => Fin.cases ?_ (fun d => d.elim0) b) a
      · exact ⟨Nat.zero_le _, by show (y 0).val < 0 + 8; omega⟩
      · exact ⟨Nat.zero_le _, by show (y 1).val < 0 + 512; omega⟩)]
    refine congrArg t (funext fun a => Fin.ext ?_)
    refine Fin.cases ?_ (fun b => Fin.cases ?_ (fun d => d.elim0) b) a <;> rfl
  · rw [dif_neg h, dif_pos (fun a => by
      refine Fin.cases ?_ (fun b => Fin.cases ?_ (fun d => d.elim0) b) a
      · exact ⟨by show 8 ≤ (y 0).val; omega, by show (y 0).val < 8 + 1024; omega⟩
      · exact ⟨Nat.zero_le _, by show (y 1).val < 0 + 512; omega⟩)]
    refine congrArg g (funext fun a => Fin.ext ?_)
    refine Fin.cases ?_ (fun b => Fin.cases ?_ (fun d => d.elim0) b) a <;> rfl

theorem readCov_buf (v : View sig .tc .vmem S1032x512 .f32) (t : Vec F S8x512 .f32) (g : Vec F S1024x512 .f32) {off size : Fin S1032x512.rank → ℕ}
    (inb : ∀ a, off a + size a ≤ S1032x512.size a) (i0 i8) :
    v.readCov (Val := Elt F) [⟨Rect.unit ![8, 0] S1024x512.size i8, g⟩, ⟨Rect.unit ![0, 0] S8x512.size i0, t⟩] (Rect.unit off size inb).toLoadRect
      = VecWindow.window (bufV t g) off size inb := by
  show v.readAt (Elt F) (Rect.unit off size inb).toLoadRect (v.writes (Elt F) v.junk _) = _
  rw [View.readAt_unit v _ inb rfl inb, View.read_writes_cons_put v _ i8 g _ rfl, View.read_writes_cons_put v _ i0 t _ rfl]
  exact congrArg (fun z => VecWindow.window z off size inb) (put_put_eq _ t g)

theorem readCov_same {s : Shape} {e : EltTy} (v : View sig .tc .vmem s e) {off off' size : Fin s.rank → ℕ} (h : off = off')
    (inb : ∀ a, off a + size a ≤ s.size a) (inb' : ∀ a, off' a + size a ≤ s.size a) (w : (Rect.unit off size inb).shape.Idx → Elt F e) (L : List (View.Piece (Elt F) s e)) :
    v.readCov (Val := Elt F) (⟨Rect.unit off size inb, w⟩ :: L) (Rect.unit off' size inb').toLoadRect = w := by
  subst h
  show v.readAt (Elt F) _ (v.writes (Elt F) v.junk _) = _
  rw [View.readAt_unit v _ inb rfl inb, View.read_writes_cons_put v _ inb w _ rfl]
  exact VecWindow.window_put_same _ _ _ inb w

/-- The tile's own gate rows and, from the history, the gate buffer the taps are read from. -/
abbrev bufOf (x0 : Vec F S1024x2048 .bf16) (x1 : Vec F S1x2048x1024 .bf16) (tl : Vec F S1x8x512 .f32) : Vec F S1032x512 .f32 :=
  bufV (k0_pay3 tl) (k0_pay4 x0 x1)

/-- One feature tile added onto the accumulator `acc`. -/
def stepV (x0 : Vec F S1024x2048 .bf16) (x1 : Vec F S1x2048x1024 .bf16) (x2 : Vec F S3x512 .f32) (x3 : Vec F S1x512 .f32) (x4 : Vec F S512x2048 .bf16)
    (tl : Vec F S1x8x512 .f32) (acc : Vec F S1024x2048 .f32) : Vec F S1024x2048 .f32 :=
  k0_pay8 (k0_pay6 x0 x1) (k0_pay7 x3)
    (VecWindow.window (bufOf x0 x1 tl) ![6, 0] S1024x512.size inb_S1032x512_S1024x512_6_0)
    (VecWindow.window (s := S3x512) x2 ![0, 0] S1x512.size inb_S3x512_S1x512_0_0)
    (VecWindow.window (bufOf x0 x1 tl) ![7, 0] S1024x512.size inb_S1032x512_S1024x512_7_0)
    (VecWindow.window (s := S3x512) x2 ![1, 0] S1x512.size inb_S3x512_S1x512_1_0)
    (VecWindow.window (bufOf x0 x1 tl) ![8, 0] S1024x512.size inb_S1032x512_S1024x512_8_0)
    (VecWindow.window (s := S3x512) x2 ![2, 0] S1x512.size inb_S3x512_S1x512_2_0)
    acc x4

/-- The tail the point leaves for the next row tile: the last eight rows of the gate buffer. -/
def tailV (x0 : Vec F S1024x2048 .bf16) (x1 : Vec F S1x2048x1024 .bf16) (tl : Vec F S1x8x512 .f32) : Vec F S1x8x512 .f32 :=
  k0_pay5 (VecWindow.window (bufOf x0 x1 tl) ![1024, 0] S8x512.size inb_S1032x512_S8x512_1024_0)

/-- The tail read back at the point's feature tile. -/
abbrev tailAtV (i : grid0.Coords) (T : Vec F S11x8x512 .f32) : Vec F S1x8x512 .f32 :=
  VecWindow.window (s := S11x8x512) T (k0_off2 i) S1x8x512.size (k0_off2_inb i)

/-- The carried tails with the point's own replaced. -/
abbrev tailPut (i : grid0.Coords) (T : Vec F S11x8x512 .f32) (w : Vec F S1x8x512 .f32) : Vec F S11x8x512 .f32 :=
  VecWindow.put (s := S11x8x512) T (k0_off2 i) S1x8x512.size w

theorem load_full {s : Shape} {e : EltTy} {m : Memref sig .tc .vmem s e} (h : m.IsWhole) (x : s.Idx → Elt F e) {off : Fin s.rank → ℕ} (inb : ∀ a, off a + s.size a ≤ s.size a) :
    m.view.readAt (Elt F) (Rect.unit off s.size inb).toLoadRect (h.unread x) = x :=
  (View.readAt_full _ _ _).trans (h.read_unread _)

theorem load_part {s : Shape} {e : EltTy} {m : Memref sig .tc .vmem s e} (h : m.IsWhole) (x : s.Idx → Elt F e) {off size : Fin s.rank → ℕ} (inb : ∀ a, off a + size a ≤ s.size a) :
    m.view.readAt (Elt F) (Rect.unit off size inb).toLoadRect (h.unread x) = VecWindow.window x off size inb :=
  (View.readAt_unit _ _ _ rfl inb).trans (by rw [h.read_unread])

theorem k0_off1_eq_off2 (i : grid0.Coords) : k0_off1 i = k0_off2 i := rfl

set_option maxHeartbeats 1000000 in
theorem run_A (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S3x512 .f32) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1032x512 .f32) (harg10 : arg10.IsWhole) (arg11 : Memref sig .tc .vmem S11x8x512 .f32) (harg11 : arg11.IsWhole) (hc0 : cond0_0 i) (hc1 : cond0_1 i) (hc2 : ¬cond0_2 i)
    (x0 : Vec F S1024x2048 .bf16) (x1 : Vec F S1x2048x1024 .bf16) (x2 : Vec F S3x512 .f32) (x3 : Vec F S1x512 .f32) (x4 : Vec F S512x2048 .bf16) (x5 : Vec F S1024x2048 .f32) (x6 : Vec F S1x2048 .f32) (y : Vec F S1024x2048 .f32) (T : Vec F S11x8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ (∃ d, owns (c : Thread nD τ) arg10 fullShare d) ∗ owns (c : Thread nD τ) arg11 fullShare T
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (stepV x0 x1 x2 x3 x4 (k0_pay1 (F := F)) x5) ∗ (∃ d, owns (c : Thread nD τ) arg10 fullShare d) ∗ owns (c : Thread nD τ) arg11 fullShare (tailPut i T (tailV x0 x1 (k0_pay1 (F := F))))) -∗ K ⟨⟩))
          ⊢ wp frame (wpE (defs₀ (F := F)) Variants.none c none) E (cc0_convglu i arg2 harg2 arg3 harg3 arg4 harg4 arg5 harg5 arg6 harg6 arg7 harg7 arg8 harg8 arg9 harg9 arg10 harg10 arg11 harg11) K := by
  simp only [cc0_convglu_eq_skeleton]; unfold cc0_convglu_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_run_names
    rw [View.read_writes_full arg9.view _ inb_S1024x2048_S1024x2048_0_0,
      View.readCov_full arg9.view inb_S1024x2048_S1024x2048_0_0 inb_S1024x2048_S1024x2048_0_0,
      load_full harg7 x5 inb_S1024x2048_S1024x2048_0_0,
      load_full harg2 x0 inb_S1024x2048_S1024x2048_0_0,
      load_full harg3 x1 inb_S1x2048x1024_S1x2048x1024_0_0_0,
      readCov_same arg11.view (k0_off1_eq_off2 i) (k0_off1_inb i hc1) (k0_off2_inb i),
      load_part harg4 x2 inb_S3x512_S1x512_0_0, load_part harg4 x2 inb_S3x512_S1x512_1_0, load_part harg4 x2 inb_S3x512_S1x512_2_0,
      load_full harg5 x3 inb_S1x512_S1x512_0_0,
      load_full harg6 x4 inb_S512x2048_S512x2048_0_0,
      readCov_buf arg10.view _ _ inb_S1032x512_S1024x512_6_0 _ _, readCov_buf arg10.view _ _ inb_S1032x512_S1024x512_7_0 _ _, readCov_buf arg10.view _ _ inb_S1032x512_S1024x512_8_0 _ _]
    rfl
  isplitl [HS0]
  · iexists _; iexists _; isplitr
    swap; · iexact HS0
    ipureintro; rfl
  iexists _; isplitr
  swap; · iexact HS1
  ipureintro
  sl_unfold_run_names
  rw [load_full harg2 x0 inb_S1024x2048_S1024x2048_0_0,
    load_full harg3 x1 inb_S1x2048x1024_S1x2048x1024_0_0_0,
    readCov_same arg11.view (k0_off1_eq_off2 i) (k0_off1_inb i hc1) (k0_off2_inb i),
    readCov_buf arg10.view _ _ inb_S1032x512_S8x512_1024_0 _ _,
    View.read_writes_cons_put arg11.view _ (k0_off2_inb i) _ _ rfl,
    View.read_writes_cons_put arg11.view _ (k0_off1_inb i hc1) _ _ (k0_off1_eq_off2 i),
    VecWindow.put_put_same,
    View.writes_nil,
    harg11.read_unread]
  rfl

set_option maxHeartbeats 1000000 in
theorem run_B (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S3x512 .f32) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1032x512 .f32) (harg10 : arg10.IsWhole) (arg11 : Memref sig .tc .vmem S11x8x512 .f32) (harg11 : arg11.IsWhole) (hc0 : ¬cond0_0 i) (hc1 : cond0_1 i) (hc2 : ¬cond0_2 i)
    (x0 : Vec F S1024x2048 .bf16) (x1 : Vec F S1x2048x1024 .bf16) (x2 : Vec F S3x512 .f32) (x3 : Vec F S1x512 .f32) (x4 : Vec F S512x2048 .bf16) (x5 : Vec F S1024x2048 .f32) (x6 : Vec F S1x2048 .f32) (y : Vec F S1024x2048 .f32) (T : Vec F S11x8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ (∃ d, owns (c : Thread nD τ) arg10 fullShare d) ∗ owns (c : Thread nD τ) arg11 fullShare T
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (stepV x0 x1 x2 x3 x4 (k0_pay1 (F := F)) y) ∗ (∃ d, owns (c : Thread nD τ) arg10 fullShare d) ∗ owns (c : Thread nD τ) arg11 fullShare (tailPut i T (tailV x0 x1 (k0_pay1 (F := F))))) -∗ K ⟨⟩))
          ⊢ wp frame (wpE (defs₀ (F := F)) Variants.none c none) E (cc0_convglu i arg2 harg2 arg3 harg3 arg4 harg4 arg5 harg5 arg6 harg6 arg7 harg7 arg8 harg8 arg9 harg9 arg10 harg10 arg11 harg11) K := by
  simp only [cc0_convglu_eq_skeleton]; unfold cc0_convglu_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_run_names
    rw [View.read_writes_full arg9.view _ inb_S1024x2048_S1024x2048_0_0,
      load_full harg9 y inb_S1024x2048_S1024x2048_0_0,
      load_full harg2 x0 inb_S1024x2048_S1024x2048_0_0,
      load_full harg3 x1 inb_S1x2048x1024_S1x2048x1024_0_0_0,
      readCov_same arg11.view (k0_off1_eq_off2 i) (k0_off1_inb i hc1) (k0_off2_inb i),
      load_part harg4 x2 inb_S3x512_S1x512_0_0, load_part harg4 x2 inb_S3x512_S1x512_1_0, load_part harg4 x2 inb_S3x512_S1x512_2_0,
      load_full harg5 x3 inb_S1x512_S1x512_0_0,
      load_full harg6 x4 inb_S512x2048_S512x2048_0_0,
      readCov_buf arg10.view _ _ inb_S1032x512_S1024x512_6_0 _ _, readCov_buf arg10.view _ _ inb_S1032x512_S1024x512_7_0 _ _, readCov_buf arg10.view _ _ inb_S1032x512_S1024x512_8_0 _ _]
    rfl
  isplitl [HS0]
  · iexists _; iexists _; isplitr
    swap; · iexact HS0
    ipureintro; rfl
  iexists _; isplitr
  swap; · iexact HS1
  ipureintro
  sl_unfold_run_names
  rw [load_full harg2 x0 inb_S1024x2048_S1024x2048_0_0,
    load_full harg3 x1 inb_S1x2048x1024_S1x2048x1024_0_0_0,
    readCov_same arg11.view (k0_off1_eq_off2 i) (k0_off1_inb i hc1) (k0_off2_inb i),
    readCov_buf arg10.view _ _ inb_S1032x512_S8x512_1024_0 _ _,
    View.read_writes_cons_put arg11.view _ (k0_off2_inb i) _ _ rfl,
    View.read_writes_cons_put arg11.view _ (k0_off1_inb i hc1) _ _ (k0_off1_eq_off2 i),
    VecWindow.put_put_same,
    View.writes_nil,
    harg11.read_unread]
  rfl

set_option maxHeartbeats 1000000 in
theorem run_C (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S3x512 .f32) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1032x512 .f32) (harg10 : arg10.IsWhole) (arg11 : Memref sig .tc .vmem S11x8x512 .f32) (harg11 : arg11.IsWhole) (hc0 : ¬cond0_0 i) (hc1 : cond0_1 i) (hc2 : cond0_2 i)
    (x0 : Vec F S1024x2048 .bf16) (x1 : Vec F S1x2048x1024 .bf16) (x2 : Vec F S3x512 .f32) (x3 : Vec F S1x512 .f32) (x4 : Vec F S512x2048 .bf16) (x5 : Vec F S1024x2048 .f32) (x6 : Vec F S1x2048 .f32) (y : Vec F S1024x2048 .f32) (T : Vec F S11x8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ (∃ d, owns (c : Thread nD τ) arg10 fullShare d) ∗ owns (c : Thread nD τ) arg11 fullShare T
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay9 (stepV x0 x1 x2 x3 x4 (k0_pay1 (F := F)) y) x6) ∗ (∃ d, owns (c : Thread nD τ) arg10 fullShare d) ∗ owns (c : Thread nD τ) arg11 fullShare (tailPut i T (tailV x0 x1 (k0_pay1 (F := F))))) -∗ K ⟨⟩))
          ⊢ wp frame (wpE (defs₀ (F := F)) Variants.none c none) E (cc0_convglu i arg2 harg2 arg3 harg3 arg4 harg4 arg5 harg5 arg6 harg6 arg7 harg7 arg8 harg8 arg9 harg9 arg10 harg10 arg11 harg11) K := by
  simp only [cc0_convglu_eq_skeleton]; unfold cc0_convglu_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_run_names
    rw [View.read_writes_full arg9.view _ inb_S1024x2048_S1024x2048_0_0,
      View.readCov_full arg9.view inb_S1024x2048_S1024x2048_0_0 inb_S1024x2048_S1024x2048_0_0,
      load_full harg8 x6 inb_S1x2048_S1x2048_0_0,
      load_full harg9 y inb_S1024x2048_S1024x2048_0_0,
      load_full harg2 x0 inb_S1024x2048_S1024x2048_0_0,
      load_full harg3 x1 inb_S1x2048x1024_S1x2048x1024_0_0_0,
      readCov_same arg11.view (k0_off1_eq_off2 i) (k0_off1_inb i hc1) (k0_off2_inb i),
      load_part harg4 x2 inb_S3x512_S1x512_0_0, load_part harg4 x2 inb_S3x512_S1x512_1_0, load_part harg4 x2 inb_S3x512_S1x512_2_0,
      load_full harg5 x3 inb_S1x512_S1x512_0_0,
      load_full harg6 x4 inb_S512x2048_S512x2048_0_0,
      readCov_buf arg10.view _ _ inb_S1032x512_S1024x512_6_0 _ _, readCov_buf arg10.view _ _ inb_S1032x512_S1024x512_7_0 _ _, readCov_buf arg10.view _ _ inb_S1032x512_S1024x512_8_0 _ _]
    rfl
  isplitl [HS0]
  · iexists _; iexists _; isplitr
    swap; · iexact HS0
    ipureintro; rfl
  iexists _; isplitr
  swap; · iexact HS1
  ipureintro
  sl_unfold_run_names
  rw [load_full harg2 x0 inb_S1024x2048_S1024x2048_0_0,
    load_full harg3 x1 inb_S1x2048x1024_S1x2048x1024_0_0_0,
    readCov_same arg11.view (k0_off1_eq_off2 i) (k0_off1_inb i hc1) (k0_off2_inb i),
    readCov_buf arg10.view _ _ inb_S1032x512_S8x512_1024_0 _ _,
    View.read_writes_cons_put arg11.view _ (k0_off2_inb i) _ _ rfl,
    View.read_writes_cons_put arg11.view _ (k0_off1_inb i hc1) _ _ (k0_off1_eq_off2 i),
    VecWindow.put_put_same,
    View.writes_nil,
    harg11.read_unread]
  rfl

set_option maxHeartbeats 1000000 in
theorem run_D (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S3x512 .f32) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1032x512 .f32) (harg10 : arg10.IsWhole) (arg11 : Memref sig .tc .vmem S11x8x512 .f32) (harg11 : arg11.IsWhole) (hc0 : cond0_0 i) (hc1 : ¬cond0_1 i) (hc2 : ¬cond0_2 i)
    (x0 : Vec F S1024x2048 .bf16) (x1 : Vec F S1x2048x1024 .bf16) (x2 : Vec F S3x512 .f32) (x3 : Vec F S1x512 .f32) (x4 : Vec F S512x2048 .bf16) (x5 : Vec F S1024x2048 .f32) (x6 : Vec F S1x2048 .f32) (y : Vec F S1024x2048 .f32) (T : Vec F S11x8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ (∃ d, owns (c : Thread nD τ) arg10 fullShare d) ∗ owns (c : Thread nD τ) arg11 fullShare T
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (stepV x0 x1 x2 x3 x4 (tailAtV i T) x5) ∗ (∃ d, owns (c : Thread nD τ) arg10 fullShare d) ∗ owns (c : Thread nD τ) arg11 fullShare (tailPut i T (tailV x0 x1 (tailAtV i T)))) -∗ K ⟨⟩))
          ⊢ wp frame (wpE (defs₀ (F := F)) Variants.none c none) E (cc0_convglu i arg2 harg2 arg3 harg3 arg4 harg4 arg5 harg5 arg6 harg6 arg7 harg7 arg8 harg8 arg9 harg9 arg10 harg10 arg11 harg11) K := by
  simp only [cc0_convglu_eq_skeleton]; unfold cc0_convglu_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_run_names
    rw [View.read_writes_full arg9.view _ inb_S1024x2048_S1024x2048_0_0,
      View.readCov_full arg9.view inb_S1024x2048_S1024x2048_0_0 inb_S1024x2048_S1024x2048_0_0,
      load_full harg7 x5 inb_S1024x2048_S1024x2048_0_0,
      load_full harg2 x0 inb_S1024x2048_S1024x2048_0_0,
      load_full harg3 x1 inb_S1x2048x1024_S1x2048x1024_0_0_0,
      load_part harg11 T (k0_off2_inb i),
      load_part harg4 x2 inb_S3x512_S1x512_0_0, load_part harg4 x2 inb_S3x512_S1x512_1_0, load_part harg4 x2 inb_S3x512_S1x512_2_0,
      load_full harg5 x3 inb_S1x512_S1x512_0_0,
      load_full harg6 x4 inb_S512x2048_S512x2048_0_0,
      readCov_buf arg10.view _ _ inb_S1032x512_S1024x512_6_0 _ _, readCov_buf arg10.view _ _ inb_S1032x512_S1024x512_7_0 _ _, readCov_buf arg10.view _ _ inb_S1032x512_S1024x512_8_0 _ _]
    rfl
  isplitl [HS0]
  · iexists _; iexists _; isplitr
    swap; · iexact HS0
    ipureintro; rfl
  iexists _; isplitr
  swap; · iexact HS1
  ipureintro
  sl_unfold_run_names
  rw [load_full harg2 x0 inb_S1024x2048_S1024x2048_0_0,
    load_full harg3 x1 inb_S1x2048x1024_S1x2048x1024_0_0_0,
    load_part harg11 T (k0_off2_inb i),
    readCov_buf arg10.view _ _ inb_S1032x512_S8x512_1024_0 _ _,
    View.read_writes_cons_put arg11.view _ (k0_off2_inb i) _ _ rfl,
    View.writes_nil,
    harg11.read_unread]
  rfl

set_option maxHeartbeats 1000000 in
theorem run_E (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S3x512 .f32) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1032x512 .f32) (harg10 : arg10.IsWhole) (arg11 : Memref sig .tc .vmem S11x8x512 .f32) (harg11 : arg11.IsWhole) (hc0 : ¬cond0_0 i) (hc1 : ¬cond0_1 i) (hc2 : ¬cond0_2 i)
    (x0 : Vec F S1024x2048 .bf16) (x1 : Vec F S1x2048x1024 .bf16) (x2 : Vec F S3x512 .f32) (x3 : Vec F S1x512 .f32) (x4 : Vec F S512x2048 .bf16) (x5 : Vec F S1024x2048 .f32) (x6 : Vec F S1x2048 .f32) (y : Vec F S1024x2048 .f32) (T : Vec F S11x8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ (∃ d, owns (c : Thread nD τ) arg10 fullShare d) ∗ owns (c : Thread nD τ) arg11 fullShare T
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (stepV x0 x1 x2 x3 x4 (tailAtV i T) y) ∗ (∃ d, owns (c : Thread nD τ) arg10 fullShare d) ∗ owns (c : Thread nD τ) arg11 fullShare (tailPut i T (tailV x0 x1 (tailAtV i T)))) -∗ K ⟨⟩))
          ⊢ wp frame (wpE (defs₀ (F := F)) Variants.none c none) E (cc0_convglu i arg2 harg2 arg3 harg3 arg4 harg4 arg5 harg5 arg6 harg6 arg7 harg7 arg8 harg8 arg9 harg9 arg10 harg10 arg11 harg11) K := by
  simp only [cc0_convglu_eq_skeleton]; unfold cc0_convglu_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_run_names
    rw [View.read_writes_full arg9.view _ inb_S1024x2048_S1024x2048_0_0,
      load_full harg9 y inb_S1024x2048_S1024x2048_0_0,
      load_full harg2 x0 inb_S1024x2048_S1024x2048_0_0,
      load_full harg3 x1 inb_S1x2048x1024_S1x2048x1024_0_0_0,
      load_part harg11 T (k0_off2_inb i),
      load_part harg4 x2 inb_S3x512_S1x512_0_0, load_part harg4 x2 inb_S3x512_S1x512_1_0, load_part harg4 x2 inb_S3x512_S1x512_2_0,
      load_full harg5 x3 inb_S1x512_S1x512_0_0,
      load_full harg6 x4 inb_S512x2048_S512x2048_0_0,
      readCov_buf arg10.view _ _ inb_S1032x512_S1024x512_6_0 _ _, readCov_buf arg10.view _ _ inb_S1032x512_S1024x512_7_0 _ _, readCov_buf arg10.view _ _ inb_S1032x512_S1024x512_8_0 _ _]
    rfl
  isplitl [HS0]
  · iexists _; iexists _; isplitr
    swap; · iexact HS0
    ipureintro; rfl
  iexists _; isplitr
  swap; · iexact HS1
  ipureintro
  sl_unfold_run_names
  rw [load_full harg2 x0 inb_S1024x2048_S1024x2048_0_0,
    load_full harg3 x1 inb_S1x2048x1024_S1x2048x1024_0_0_0,
    load_part harg11 T (k0_off2_inb i),
    readCov_buf arg10.view _ _ inb_S1032x512_S8x512_1024_0 _ _,
    View.read_writes_cons_put arg11.view _ (k0_off2_inb i) _ _ rfl,
    View.writes_nil,
    harg11.read_unread]
  rfl

set_option maxHeartbeats 1000000 in
theorem run_G (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S3x512 .f32) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1024x2048 .f32) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1032x512 .f32) (harg10 : arg10.IsWhole) (arg11 : Memref sig .tc .vmem S11x8x512 .f32) (harg11 : arg11.IsWhole) (hc0 : ¬cond0_0 i) (hc1 : ¬cond0_1 i) (hc2 : cond0_2 i)
    (x0 : Vec F S1024x2048 .bf16) (x1 : Vec F S1x2048x1024 .bf16) (x2 : Vec F S3x512 .f32) (x3 : Vec F S1x512 .f32) (x4 : Vec F S512x2048 .bf16) (x5 : Vec F S1024x2048 .f32) (x6 : Vec F S1x2048 .f32) (y : Vec F S1024x2048 .f32) (T : Vec F S11x8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y ∗ (∃ d, owns (c : Thread nD τ) arg10 fullShare d) ∗ owns (c : Thread nD τ) arg11 fullShare T
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay9 (stepV x0 x1 x2 x3 x4 (tailAtV i T) y) x6) ∗ (∃ d, owns (c : Thread nD τ) arg10 fullShare d) ∗ owns (c : Thread nD τ) arg11 fullShare (tailPut i T (tailV x0 x1 (tailAtV i T)))) -∗ K ⟨⟩))
          ⊢ wp frame (wpE (defs₀ (F := F)) Variants.none c none) E (cc0_convglu i arg2 harg2 arg3 harg3 arg4 harg4 arg5 harg5 arg6 harg6 arg7 harg7 arg8 harg8 arg9 harg9 arg10 harg10 arg11 harg11) K := by
  simp only [cc0_convglu_eq_skeleton]; unfold cc0_convglu_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_run_names
    rw [View.read_writes_full arg9.view _ inb_S1024x2048_S1024x2048_0_0,
      View.readCov_full arg9.view inb_S1024x2048_S1024x2048_0_0 inb_S1024x2048_S1024x2048_0_0,
      load_full harg8 x6 inb_S1x2048_S1x2048_0_0,
      load_full harg9 y inb_S1024x2048_S1024x2048_0_0,
      load_full harg2 x0 inb_S1024x2048_S1024x2048_0_0,
      load_full harg3 x1 inb_S1x2048x1024_S1x2048x1024_0_0_0,
      load_part harg11 T (k0_off2_inb i),
      load_part harg4 x2 inb_S3x512_S1x512_0_0, load_part harg4 x2 inb_S3x512_S1x512_1_0, load_part harg4 x2 inb_S3x512_S1x512_2_0,
      load_full harg5 x3 inb_S1x512_S1x512_0_0,
      load_full harg6 x4 inb_S512x2048_S512x2048_0_0,
      readCov_buf arg10.view _ _ inb_S1032x512_S1024x512_6_0 _ _, readCov_buf arg10.view _ _ inb_S1032x512_S1024x512_7_0 _ _, readCov_buf arg10.view _ _ inb_S1032x512_S1024x512_8_0 _ _]
    rfl
  isplitl [HS0]
  · iexists _; iexists _; isplitr
    swap; · iexact HS0
    ipureintro; rfl
  iexists _; isplitr
  swap; · iexact HS1
  ipureintro
  sl_unfold_run_names
  rw [load_full harg2 x0 inb_S1024x2048_S1024x2048_0_0,
    load_full harg3 x1 inb_S1x2048x1024_S1x2048x1024_0_0_0,
    load_part harg11 T (k0_off2_inb i),
    readCov_buf arg10.view _ _ inb_S1032x512_S8x512_1024_0 _ _,
    View.read_writes_cons_put arg11.view _ (k0_off2_inb i) _ _ rfl,
    View.writes_nil,
    harg11.read_unread]
  rfl

end Cert.Kernel2Ideal.Glu

end
-- ==== Proof.GluRun.lean ====
/-
  Hand-written. The run of the gated convolution kernel: the output's block accumulates over the eleven feature tiles of
  a row tile, and the tails carried from one row tile to the next are stated point by point (a tail not yet written is
  left unnamed). From it the frame and the array the kernel writes.
-/
module

public import proofs.«01_k».proof.Proof.GluBody
public import Idealize.ShloMosaic.Lib.VecWindow
public import Idealize.ShloMosaic.Lib.Pipeline.Value
public import Idealize.ShloMosaic.Lib.Quiescent
public import Idealize.ShloMosaic.Lib.Claim

@[expose] public section

set_option maxRecDepth 16384

noncomputable section

namespace Cert.Kernel2Ideal.Glu

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.proofsInPublic true

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried tails -/

/-- The tail a point leaves: the last eight rows of its own gate rows. -/
def tailG (x0 : Vec F S1024x2048 .bf16) (x1 : Vec F S1x2048x1024 .bf16) : Vec F S1x8x512 .f32 :=
  k0_pay5 (VecWindow.window (s := S1024x512) (k0_pay4 x0 x1) ![1016, 0] S8x512.size (by decide))

theorem tailV_eq (x0 : Vec F S1024x2048 .bf16) (x1 : Vec F S1x2048x1024 .bf16) (tl : Vec F S1x8x512 .f32) : tailV x0 x1 tl = tailG x0 x1 := by
  unfold tailV tailG
  refine congrArg k0_pay5 (funext fun y => ?_)
  have h0 : (y 0).val < 8 := (y 0).isLt
  have e0 : ((Rect.unit (s := S1032x512) ![1024, 0] S8x512.size inb_S1032x512_S8x512_1024_0).emb y 0).val = 1024 + 1 * (y 0).val := rfl
  show bufV _ _ ((Rect.unit (s := S1032x512) ![1024, 0] S8x512.size inb_S1032x512_S8x512_1024_0).emb y) = _
  unfold bufV
  rw [dif_neg (by rw [e0]; omega)]
  refine congrArg (k0_pay4 x0 x1) (funext fun a => Fin.ext ?_)
  refine Fin.cases ?_ (fun b => Fin.cases ?_ (fun d => d.elim0) b) a
  · show 1024 + 1 * (y 0).val - 8 = 1016 + 1 * (y 0).val; omega
  · show 0 + 1 * (y 1).val - 0 = 0 + 1 * (y 1).val; omega

theorem off2_zero (t : Fin cfg0.N) : k0_off2 (grid0.coords t) 0 = t.val % 11 := by
  have e1 : (grid0.coords t 1).val = t.val / 1 % 11 := Pipeline.Grid.coords_val t 1 (by decide) rfl
  show (Scalar.indexCast (BitVec.ofNat 32 (grid0.coords t 1).val)).toNat = _
  rw [e1, Nat.div_one]
  show (BitVec.ofNat 32 (t.val % 11)).toNat = _
  rw [BitVec.toNat_ofNat]; omega

theorem off2_congr (t s : Fin cfg0.N) (h : t.val % 11 = s.val % 11) : k0_off2 (grid0.coords t) = k0_off2 (grid0.coords s) := by
  have e1 : (grid0.coords t 1).val = t.val / 1 % 11 := Pipeline.Grid.coords_val t 1 (by decide) rfl
  have e2 : (grid0.coords s 1).val = s.val / 1 % 11 := Pipeline.Grid.coords_val s 1 (by decide) rfl
  have e : grid0.coords t 1 = grid0.coords s 1 := Fin.ext (by rw [e1, e2, Nat.div_one, Nat.div_one, h])
  unfold k0_off2; rw [e]

/-- Before point `n`, the tails the last eleven points wrote are there. -/
def TailOK (c : Dev nD) (n : ℕ) (T : Vec F S11x8x512 .f32) : Prop :=
  ∀ s : Fin cfg0.N, s.val < n → n ≤ s.val + 11 → tailAtV (grid0.coords s) T = tailG (iblk m c 0 s) (iblk m c 1 s)

/-- The history the body reads at a point: nothing at the first row tile, the tail of the row tile before after it. -/
def tlIn (c : Dev nD) (t : Fin cfg0.N) : Vec F S1x8x512 .f32 :=
  if t.val < 11 then k0_pay1
  else tailG (iblk m c 0 ⟨t.val - 11, Nat.lt_of_le_of_lt (Nat.sub_le _ _) t.isLt⟩) (iblk m c 1 ⟨t.val - 11, Nat.lt_of_le_of_lt (Nat.sub_le _ _) t.isLt⟩)

theorem tail_read (c : Dev nD) (t : Fin cfg0.N) (T : Vec F S11x8x512 .f32) (hT : TailOK m c t.val T) (h : ¬ t.val < 11) :
    tailAtV (grid0.coords t) T = tlIn m c t := by
  unfold tlIn; rw [if_neg h]
  rw [← hT ⟨t.val - 11, Nat.lt_of_le_of_lt (Nat.sub_le _ _) t.isLt⟩ (by show t.val - 11 < t.val; omega) (by show t.val ≤ t.val - 11 + 11; omega)]
  have e := off2_congr t ⟨t.val - 11, Nat.lt_of_le_of_lt (Nat.sub_le _ _) t.isLt⟩ (by show t.val % 11 = (t.val - 11) % 11; omega)
  unfold tailAtV VecWindow.window
  funext y
  refine congrArg T (funext fun a => Fin.ext ?_)
  exact congrArg (fun n : ℕ => n + 1 * (y a).val) (congrFun e a)

theorem tail_put (c : Dev nD) (t : Fin cfg0.N) (T : Vec F S11x8x512 .f32) (hT : TailOK m c t.val T) :
    TailOK m c (t.val + 1) (tailPut (grid0.coords t) T (tailG (iblk m c 0 t) (iblk m c 1 t))) := by
  intro s hs1 hs2
  by_cases h : s.val = t.val
  · obtain rfl : s = t := Fin.ext h
    exact VecWindow.window_put_same _ _ _ _ _
  · rw [← hT s (by omega) (by omega)]
    refine VecWindow.window_put_of_disjoint _ _ _ _ _ _ _ (0 : Fin 3) ?_
    rw [off2_zero, off2_zero]
    show s.val % 11 + 1 ≤ t.val % 11 ∨ t.val % 11 + 1 ≤ s.val % 11
    omega

/-! ## What the output's block holds, point by point -/

/-- A point's accumulator, closed by the norm at the last feature tile. -/
def ptV (c : Dev nD) (t : Fin cfg0.N) (acc : Vec F S1024x2048 .f32) : Vec F S1024x2048 .f32 :=
  if t.val % 11 = 10 then
    k0_pay9 (stepV (iblk m c 0 t) (iblk m c 1 t) (iblk m c 2 t) (iblk m c 3 t) (iblk m c 4 t) (tlIn m c t) acc) (iblk m c 6 t)
  else stepV (iblk m c 0 t) (iblk m c 1 t) (iblk m c 2 t) (iblk m c 3 t) (iblk m c 4 t) (tlIn m c t) acc

def outN (c : Dev nD) : (n : ℕ) → n < cfg0.N → Vec F S1024x2048 .f32
  | 0, h => ptV m c ⟨0, h⟩ (iblk m c 5 ⟨0, h⟩)
  | n + 1, h => ptV m c ⟨n + 1, h⟩ (if (n + 1) % 11 = 0 then iblk m c 5 ⟨n + 1, h⟩ else outN c n (Nat.lt_of_succ_lt h))

theorem outN_first (c : Dev nD) (t : Fin cfg0.N) (h : t.val % 11 = 0) : outN m c t.val t.isLt = ptV m c t (iblk m c 5 t) := by
  obtain ⟨n, hn⟩ := t
  cases n with
  | zero => rfl
  | succ n => show ptV m c _ (if (n + 1) % 11 = 0 then _ else _) = _; rw [if_pos h]

theorem outN_next (c : Dev nD) (t : Fin cfg0.N) (h : ¬ t.val % 11 = 0) :
    outN m c t.val t.isLt = ptV m c t (outN m c (t.val - 1) (Nat.lt_of_le_of_lt (Nat.sub_le _ _) t.isLt)) := by
  obtain ⟨n, hn⟩ := t
  cases n with
  | zero => exact absurd rfl h
  | succ n => show ptV m c _ (if (n + 1) % 11 = 0 then _ else _) = _; rw [if_neg h]; rfl

/-! ## The pipeline's proof data -/

def PhiS (c : Dev nD) (n : ℕ) : sProp 𝕄 :=
  iprop(iprop((∃ d, owns (c : Thread nD τ) scM0_0 fullShare d) ∗ (∃ T, iprop(⌜TailOK m c n T⌝ ∗ owns (c : Thread nD τ) scM0_1 fullShare T))) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outN m c t.val t.isLt
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outN m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Inside a row tile the output's buffer holds what the point before left. -/
theorem before0_7 (c : Dev nD) (t : Fin cfg0.N) (h0 : ¬t.val % 11 = 0) (d) :
    (dats m 0 c).before 7 t d = outN m c (t.val - 1) (Nat.lt_of_le_of_lt (Nat.sub_le _ _) t.isLt) := by
  have hN : t.val < 176 := lt_of_lt_of_eq t.isLt (show cfg0.N = 176 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) from rfl, show (dats m 0 c).Φ t.castSucc = PhiS m c t.val from rfl]
  unfold PhiS
  have hN : t.val < 176 := lt_of_lt_of_eq t.isLt (show cfg0.N = 176 from N_0)
  by_cases h0 : t.val % 11 = 0
  · have h2 : ¬ t.val % 11 = 10 := by omega
    by_cases h1 : t.val < 11
    · rw [outN_first m c t h0]
      unfold ptV; rw [if_neg h2]
      iintro ⟨⟨⟨HS0, ⟨%T, %hT, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have htl : (k0_pay1 (F := F)) = tlIn m c t := by unfold tlIn; rw [if_pos h1]
      have hput := tail_put m c t T hT
      rw [← tailV_eq (iblk m c 0 t) (iblk m c 1 t) (tlIn m c t)] at hput
      rw [← htl] at hput ⊢
      iapply (run_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) _ T Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists _; isplitr; swap; · iexact HS1
          ipureintro; exact hput
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [outN_first m c t h0]
      unfold ptV; rw [if_neg h2]
      iintro ⟨⟨⟨HS0, ⟨%T, %hT, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have htl : (tailAtV (grid0.coords t) T) = tlIn m c t := tail_read m c t T hT h1
      have hput := tail_put m c t T hT
      rw [← tailV_eq (iblk m c 0 t) (iblk m c 1 t) (tlIn m c t)] at hput
      rw [← htl] at hput ⊢
      iapply (run_D c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) _ T Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists _; isplitr; swap; · iexact HS1
          ipureintro; exact hput
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : t.val < 11
    · by_cases h2 : t.val % 11 = 10
      · simp only [before0_7 m c t h0]
        rw [outN_next m c t h0]
        unfold ptV; rw [if_pos h2]
        iintro ⟨⟨⟨HS0, ⟨%T, %hT, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        have htl : (k0_pay1 (F := F)) = tlIn m c t := by unfold tlIn; rw [if_pos h1]
        have hput := tail_put m c t T hT
        rw [← tailV_eq (iblk m c 0 t) (iblk m c 1 t) (tlIn m c t)] at hput
        rw [← htl] at hput ⊢
        iapply (run_C c (grid0.coords t) _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) _ T Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]; · iexact HS0
            iexists _; isplitr; swap; · iexact HS1
            ipureintro; exact hput
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · simp only [before0_7 m c t h0]
        rw [outN_next m c t h0]
        unfold ptV; rw [if_neg h2]
        iintro ⟨⟨⟨HS0, ⟨%T, %hT, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        have htl : (k0_pay1 (F := F)) = tlIn m c t := by unfold tlIn; rw [if_pos h1]
        have hput := tail_put m c t T hT
        rw [← tailV_eq (iblk m c 0 t) (iblk m c 1 t) (tlIn m c t)] at hput
        rw [← htl] at hput ⊢
        iapply (run_B c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) _ T Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]; · iexact HS0
            iexists _; isplitr; swap; · iexact HS1
            ipureintro; exact hput
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases h2 : t.val % 11 = 10
      · simp only [before0_7 m c t h0]
        rw [outN_next m c t h0]
        unfold ptV; rw [if_pos h2]
        iintro ⟨⟨⟨HS0, ⟨%T, %hT, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        have htl : (tailAtV (grid0.coords t) T) = tlIn m c t := tail_read m c t T hT h1
        have hput := tail_put m c t T hT
        rw [← tailV_eq (iblk m c 0 t) (iblk m c 1 t) (tlIn m c t)] at hput
        rw [← htl] at hput ⊢
        iapply (run_G c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) _ T Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]; · iexact HS0
            iexists _; isplitr; swap; · iexact HS1
            ipureintro; exact hput
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · simp only [before0_7 m c t h0]
        rw [outN_next m c t h0]
        unfold ptV; rw [if_neg h2]
        iintro ⟨⟨⟨HS0, ⟨%T, %hT, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        have htl : (tailAtV (grid0.coords t) T) = tlIn m c t := tail_read m c t T hT h1
        have hput := tail_put m c t T hT
        rw [← tailV_eq (iblk m c 0 t) (iblk m c 1 t) (tlIn m c t)] at hput
        rw [← htl] at hput ⊢
        iapply (run_E c (grid0.coords t) _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) _ T Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]; · iexact HS0
            iexists _; isplitr; swap; · iexact HS1
            ipureintro; exact hput
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨HS0, ⟨%T, HS1⟩⟩, Hg⟩
  isplitl [HS0 HS1]
  · isplitl [HS0]
    · iexact HS0
    iexists T; isplitr; swap; · iexact HS1
    ipureintro; intro s hs; exact absurd hs (Nat.not_lt_zero _)
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨HS0, ⟨%T, -, HS1⟩⟩, Hg⟩
  isplitl [HS0 HS1]
  · isplitl [HS0]
    · iexact HS0
    iexists T; iexact HS1
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-! ## Output window 7 -/

/-- The block of the array that holds index `i`, numbered in the order the points write the blocks back (one every 11 points),
    `i`'s place in it, and the point that writes it back (the last of its 11). -/
abbrev run7Of (i : S16384x2048.Idx) : ℕ := 1 * ((i 0).val / 1024 - 0) + 1 * ((i 1).val / 2048 - 0)
set_option backward.proofsInPublic true in
abbrev loc7Of (i : S16384x2048.Idx) : S1024x2048.Idx := fun a => match a with
  | ⟨0, _⟩ => ⟨(i 0).val % 1024, Nat.mod_lt _ (by decide)⟩
  | ⟨1, _⟩ => ⟨(i 1).val % 2048, Nat.mod_lt _ (by decide)⟩
abbrev pt7Of (i : S16384x2048.Idx) : ℕ := 11 * run7Of i + 10

/-- What the array ends holding: the last accumulator of each row tile. -/
def G7 (c : Dev nD) : Buf (Elt F) ((c : Thread nD τ).loc main_v8) := fun i =>
  if h : pt7Of i < cfg0.N then outN m c (pt7Of i) h (loc7Of i)
  else V m c (Pipeline.arrRef spec0 7) i

theorem outN_congr (c : Dev nD) : ∀ (j : ℕ) (h : j < cfg0.N) (j' : ℕ) (h' : j' < cfg0.N), j = j' → outN m c j h = outN m c j' h' := by
  intro j h j' h' hj; subst hj; rfl

/-- The printed index map, decided over the grid: output window 7's block indices stay in the box, and the block number
    read off them is the point's (`t / 11`). -/
theorem idx_facts7 : ∀ t : Fin cfg0.N, 0 ≤ win0_7.index t (0 : Fin 2) ∧ win0_7.index t (0 : Fin 2) ≤ 15
    ∧ 0 ≤ win0_7.index t (1 : Fin 2) ∧ win0_7.index t (1 : Fin 2) ≤ 0
    ∧ 1 * (win0_7.index t (0 : Fin 2) - 0) + 1 * (win0_7.index t (1 : Fin 2) - 0) = t.val / 11 :=
  (by decide +kernel : ∀ t : Fin grid0.N, _)

/-- Every block of the box is SOME flushing point's: `onto7Pt`, the point that writes back the block at place `q` of the box (the last point of its run). -/
abbrev onto7Pt (q0 : Fin 16) (q1 : Fin 1) : Fin grid0.N :=
  ⟨11 * (1 * q0.val + 1 * q1.val) + 10, lt_of_lt_of_eq (by omega) N_0.symm⟩
theorem idx_onto7 : ∀ (q0 : Fin 16) (q1 : Fin 1), ∃ t : Fin cfg0.N, (cfg0.win 7).flush t = true ∧ win0_7.index t = ![q0.val + 0, q1.val + 0] :=
  fun q0 q1 => ⟨onto7Pt q0 q1, (by decide +kernel : ∀ (q0 : Fin 16) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  have hm : t.val % 11 = 10 := (flush0_7 t).mp hf
  obtain ⟨e0, e1, e2⟩ := idx_facts7 t
  funext y
  have hy0 : (y 0).val < 1024 := (y 0).isLt
  have hy1 : (y 1).val < 2048 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 2048 + 1 * (y 1).val := rfl
  have hr : run7Of (((cfg0.win 7).blk t).view.emb y) = t.val / 11 := by
    show 1 * ((((cfg0.win 7).blk t).view.emb y 0).val / 1024 - 0) + 1 * ((((cfg0.win 7).blk t).view.emb y 1).val / 2048 - 0) = _
    rw [hb0, hb1]
    rw [show (win0_7.index t (0 : Fin 2) * 1024 + 1 * (y 0).val) / 1024 = win0_7.index t (0 : Fin 2) from by omega]; rw [show (win0_7.index t (1 : Fin 2) * 2048 + 1 * (y 1).val) / 2048 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1024 = (y 0).val; rw [hb0]; omega
    | ⟨1, _⟩ => show (((cfg0.win 7).blk t).view.emb y 1).val % 2048 = (y 1).val; rw [hb1]; omega
  have hp : pt7Of (((cfg0.win 7).blk t).view.emb y) = t.val := by
    show 11 * run7Of (((cfg0.win 7).blk t).view.emb y) + 10 = _
    rw [hr]; have := Nat.div_add_mod t.val 11; omega
  show outN m c t.val _ ((cfg0.win 7).xinj (grid0.coords t) y) = G7 m c (((cfg0.win 7).blk t).view.emb y)
  unfold G7
  rw [dif_pos (by rw [hp]; exact t.isLt), hl, outN_congr m c _ _ _ _ hp.symm]

/-- An index of the array is in point `t`'s block iff each coordinate is in the block's range on its axis. -/
theorem mem_blk7 (t : Fin cfg0.N) (i : S16384x2048.Idx) :
    i ∈ ((cfg0.win 7).blk t).view.set ↔ ∀ a : Fin 2, win0_7.index t a * S1024x2048.size a ≤ (i a).val ∧ (i a).val < win0_7.index t a * S1024x2048.size a + S1024x2048.size a := by
  show i ∈ ((View.whole main_v8).slice (win0_7.rect t)).set ↔ _
  rw [View.set_slice_whole, Rect.mem_set_unit]
  exact Iff.rfl

/-- THE COVERED INDICES: in some flushing point's block iff inside the box those blocks fill. -/
theorem covered_iff7 (i : S16384x2048.Idx) :
    (∃ t : Fin cfg0.N, (cfg0.win 7).flush t = true ∧ i ∈ ((cfg0.win 7).blk t).view.set) ↔ 0 ≤ (i 0).val ∧ (i 0).val < 16384 ∧ 0 ≤ (i 1).val ∧ (i 1).val < 2048 := by
  constructor
  · rintro ⟨t, -, hi⟩
    rw [mem_blk7] at hi
    have b0 : win0_7.index t (0 : Fin 2) * 1024 ≤ (i 0).val ∧ (i 0).val < win0_7.index t (0 : Fin 2) * 1024 + 1024 := hi 0
    have b1 : win0_7.index t (1 : Fin 2) * 2048 ≤ (i 1).val ∧ (i 1).val < win0_7.index t (1 : Fin 2) * 2048 + 2048 := hi 1
    obtain ⟨e0, e1, e2⟩ := idx_facts7 t
    omega
  · intro h
    have hi0 : (i 0).val < 16384 := (i 0).isLt
    have hi1 : (i 1).val < 2048 := (i 1).isLt
    obtain ⟨t, hft, ht⟩ := idx_onto7 ⟨(i 0).val / 1024 - 0, by omega⟩ ⟨(i 1).val / 2048 - 0, by omega⟩
    have q0 : win0_7.index t (0 : Fin 2) = (i 0).val / 1024 - 0 + 0 := congrFun ht 0
    have q1 : win0_7.index t (1 : Fin 2) = (i 1).val / 2048 - 0 + 0 := congrFun ht 1
    refine ⟨t, hft, ?_⟩
    rw [mem_blk7]
    intro a
    match a with
    | ⟨0, _⟩ => show win0_7.index t (0 : Fin 2) * 1024 ≤ (i 0).val ∧ (i 0).val < win0_7.index t (0 : Fin 2) * 1024 + 1024; omega
    | ⟨1, _⟩ => show win0_7.index t (1 : Fin 2) * 2048 ≤ (i 1).val ∧ (i 1).val < win0_7.index t (1 : Fin 2) * 2048 + 2048; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 16384 := (i 0).isLt; have h1 : (i 1).val < 2048 := (i 1).isLt; omega))

/-- The run read at the result: the array the kernel writes. -/
theorem run_value : θ_run defs (onTc (τ := τ) (main (F := F))) ⟨m, fun _ => 0, ρ⟩ fun r => ∀ c : Dev nD,
      r.2.mem ((c : Thread nD τ).loc main_v8) = G7 m c :=
  (θ_run defs _ _).mono (fun r h c => ((h c).1 7).trans (final7 m c)) (run_main m ρ)

end Cert.Kernel2Ideal.Glu

end
-- ==== Proof.GluSpec.lean ====
/-
  Hand-written. What the gated convolution computes, entry by entry, over the extended reals: an array is read at two
  natural numbers (zero outside it), so that the two programs' index arithmetic meets in ordinary arithmetic.
-/
module

public import Idealize.ShloMosaic.PureOps.Ideal.Laws
public import Idealize.ShloMosaic.Lib.IdealHost
public import Idealize.ShloMosaic.Lib.ValueIdxCore

@[expose] public section

noncomputable section

namespace Cert.GluSpec

open Idealize.ShloMosaic

/-- A matrix read at a row and a column. -/
def rd {n0 n1 : ℕ} (a : (⟨2, ![n0, n1]⟩ : Shape).Idx → EReal) (r c : ℕ) : EReal :=
  if h : r < n0 ∧ c < n1 then a (fun d => match d with | ⟨0, _⟩ => ⟨r, h.1⟩ | ⟨1, _⟩ => ⟨c, h.2⟩) else 0

/-- A vector read at a position. -/
def rd1 {n : ℕ} (a : (⟨1, ![n]⟩ : Shape).Idx → EReal) (r : ℕ) : EReal :=
  if h : r < n then a (fun d => match d with | ⟨0, _⟩ => ⟨r, h⟩) else 0

theorem rd_eq {n0 n1 : ℕ} (a : (⟨2, ![n0, n1]⟩ : Shape).Idx → EReal) (y : (⟨2, ![n0, n1]⟩ : Shape).Idx) (r c : ℕ)
    (h0 : (y 0).val = r) (h1 : (y 1).val = c) : a y = rd a r c := by
  subst h0 h1
  unfold rd
  rw [dif_pos ⟨(y 0).isLt, (y 1).isLt⟩]
  exact congrArg a (funext fun d => by match d with | ⟨0, _⟩ => rfl | ⟨1, _⟩ => rfl)

theorem rd1_eq {n : ℕ} (a : (⟨1, ![n]⟩ : Shape).Idx → EReal) (y : (⟨1, ![n]⟩ : Shape).Idx) (r : ℕ)
    (h0 : (y 0).val = r) : a y = rd1 a r := by
  subst h0
  unfold rd1
  rw [dif_pos (show (y 0).val < n from (y 0).isLt)]
  exact congrArg a (funext fun d => by match d with | ⟨0, _⟩ => rfl)

variable (a0 a1 : (⟨2, ![16384, 2048]⟩ : Shape).Idx → EReal) (a2 : (⟨2, ![2048, 11264]⟩ : Shape).Idx → EReal)
  (a3 : (⟨2, ![3, 5632]⟩ : Shape).Idx → EReal) (a4 : (⟨1, ![5632]⟩ : Shape).Idx → EReal)
  (a5 : (⟨2, ![5632, 2048]⟩ : Shape).Idx → EReal) (a6 : (⟨1, ![2048]⟩ : Shape).Idx → EReal)

/-- The up projection. -/
def up (R C : ℕ) : EReal := ∑ k : Fin 2048, rd a0 R k.val * rd a2 k.val C

/-- The gate `2 - d` rows before row `R`, nothing before the first row. -/
def gh (R d q : ℕ) : EReal := if 2 ≤ R + d then up a0 a2 (R + d - 2) q else 0

/-- The convolution's output. -/
def pre (R q : ℕ) : EReal :=
  ((rd1 a4 q + gh a0 a2 R 0 q * rd a3 0 q) + gh a0 a2 R 1 q * rd a3 1 q) + gh a0 a2 R 2 q * rd a3 2 q

/-- `silu` of the convolution's output times the second half of the projection. -/
def act (R q : ℕ) : EReal :=
  pre a0 a2 a3 a4 R q * Ideal.div 1 (1 + Ideal.exp (-pre a0 a2 a3 a4 R q)) * up a0 a2 R (5632 + q)

/-- The residual plus the first `n` features' part of the down projection. -/
def part (R C n : ℕ) : EReal := rd a1 R C + ∑ q ∈ Finset.range n, act a0 a2 a3 a4 R q * rd a5 q C

/-- The residual plus the whole down projection. -/
def res (R C : ℕ) : EReal := part a0 a1 a2 a3 a4 a5 R C 5632

/-- The normalized result. -/
def out (R C : ℕ) : EReal :=
  res a0 a1 a2 a3 a4 a5 R C
    * Ideal.rsqrt (Ideal.div (∑ k : Fin 2048, res a0 a1 a2 a3 a4 a5 R k.val * res a0 a1 a2 a3 a4 a5 R k.val)
        (Ideal.ofBits .f32 0x45000000#32) + Ideal.ofBits .f32 0x358637BD#32)
    * rd1 a6 C

theorem part_add (R C n l : ℕ) :
    part a0 a1 a2 a3 a4 a5 R C (n + l)
      = part a0 a1 a2 a3 a4 a5 R C n + ∑ j : Fin l, act a0 a2 a3 a4 R (n + j.val) * rd a5 (n + j.val) C := by
  unfold part
  rw [Finset.sum_range_add, Fin.sum_univ_eq_sum_range (fun j => act a0 a2 a3 a4 R (n + j) * rd a5 (n + j) C), add_assoc]

theorem part_zero (R C : ℕ) : part a0 a1 a2 a3 a4 a5 R C 0 = rd a1 R C := by
  unfold part; rw [Finset.sum_range_zero, add_zero]

end Cert.GluSpec

end
-- ==== Proof.GluBlk.lean ====
/-
  Hand-written. The blocks the gated convolution's kernel is given at a grid point, read entry by entry off the arguments:
  the host's casts, reshapes and the chunks of the projection's weights.
-/
module

public import proofs.«01_k».proof.Proof.GluRun
public import proofs.«01_k».proof.Proof.GluSpec
public import Idealize.ShloMosaic.Lib.StableHlo.RunRead

@[expose] public section

set_option maxRecDepth 16384

noncomputable section

namespace Cert.Kernel2Ideal.Glu

open Cert.Kernel2Ideal.Gen Cert.GluSpec

open Idealize.ShloMosaic Idealize.ShloMosaic.TcCoe
open Idealize.SL.Sem
open Idealize.ShloMosaic.Pipeline (Dat Cfg Window)

variable (m : (ℓ : Loc nD τ sig) → Buf (Elt Ideal) ℓ)

abbrev A0 (c : Dev nD) : (⟨2, ![16384, 2048]⟩ : Shape).Idx → EReal := m ((c : Thread nD τ).loc main_arg0)
abbrev A1 (c : Dev nD) : (⟨2, ![16384, 2048]⟩ : Shape).Idx → EReal := m ((c : Thread nD τ).loc main_arg1)
abbrev A2 (c : Dev nD) : (⟨2, ![2048, 11264]⟩ : Shape).Idx → EReal := m ((c : Thread nD τ).loc main_arg2)
abbrev A3 (c : Dev nD) : (⟨2, ![3, 5632]⟩ : Shape).Idx → EReal := m ((c : Thread nD τ).loc main_arg3)
abbrev A4 (c : Dev nD) : (⟨1, ![5632]⟩ : Shape).Idx → EReal := m ((c : Thread nD τ).loc main_arg4)
abbrev A5 (c : Dev nD) : (⟨2, ![5632, 2048]⟩ : Shape).Idx → EReal := m ((c : Thread nD τ).loc main_arg5)
abbrev A6 (c : Dev nD) : (⟨1, ![2048]⟩ : Shape).Idx → EReal := m ((c : Thread nD τ).loc main_arg6)

/-! ## The arrays after the host's operations -/

theorem V_v4 (c : Dev nD) (y : S16384x2048.Idx) : V m c main_v4 y = A0 m c y := by
  show StableHlo.after hostOps0 _ (Proc.devRef .tc main_v4) y = _
  after_results
  rfl

theorem V_v6 (c : Dev nD) (y : S5632x2048.Idx) : V m c main_v6 y = A5 m c y := by
  show StableHlo.after hostOps0 _ (Proc.devRef .tc main_v6) y = _
  after_results
  rfl

theorem V_v5 (c : Dev nD) : V m c main_v5 = shapeCast S1x5632 (A4 m c) shapeCasts_S5632_S1x5632 := by
  show StableHlo.after hostOps0 _ (Proc.devRef .tc main_v5) = _
  after_results
  rfl

theorem V_v7 (c : Dev nD) : V m c main_v7 = shapeCast S1x2048 (A6 m c) shapeCasts_S2048_S1x2048 := by
  show StableHlo.after hostOps0 _ (Proc.devRef .tc main_v7) = _
  after_results
  rfl

theorem V_v3 (c : Dev nD) : V m c main_v3 = shapeCast S11x2048x1024
    (transpose S11x2048x2x512 [2, 0, 1, 3] (shapeCast S2048x2x11x512 (A2 m c) shapeCasts_S2048x11264_S2048x2x11x512)
      transposes_S2048x2x11x512_S11x2048x2x512_2_0_1_3) shapeCasts_S11x2048x2x512_S11x2048x1024 := by
  show StableHlo.after hostOps0 _ (Proc.devRef .tc main_v3) = _
  after_results
  rfl

theorem v5_rd (c : Dev nD) (y : S1x5632.Idx) (q : ℕ) (h : (y 1).val = q) : V m c main_v5 y = rd1 (A4 m c) q := by
  have hb : (y 1).val < 5632 := (y 1).isLt
  have hz : (y 0).val < 1 := (y 0).isLt
  rw [V_v5, shapeCast_apply (A4 m c) shapeCasts_S5632_S1x5632 y ((fun a => match a with | ⟨0, _⟩ => ⟨(y 1).val, hb⟩) : S5632.Idx) (by
    rewrite [Shape.rowMajor_val_two, Shape.rowMajor_val_one]
    show (y 1).val = (y 0).val * 5632 + (y 1).val
    omega)]
  exact rd1_eq (A4 m c) _ q h

theorem v7_rd (c : Dev nD) (y : S1x2048.Idx) (q : ℕ) (h : (y 1).val = q) : V m c main_v7 y = rd1 (A6 m c) q := by
  have hb : (y 1).val < 2048 := (y 1).isLt
  have hz : (y 0).val < 1 := (y 0).isLt
  rw [V_v7, shapeCast_apply (A6 m c) shapeCasts_S2048_S1x2048 y ((fun a => match a with | ⟨0, _⟩ => ⟨(y 1).val, hb⟩) : S2048.Idx) (by
    rewrite [Shape.rowMajor_val_two, Shape.rowMajor_val_one]
    show (y 1).val = (y 0).val * 2048 + (y 1).val
    omega)]
  exact rd1_eq (A6 m c) _ q h

/-- The projection's weights in their chunks: feature tile `f`'s gate columns, then its value columns. -/
theorem v3_rd (c : Dev nD) (y : S11x2048x1024.Idx) (s : ℕ) (hs : (y 2).val = 512 * s + ((y 2).val - 512 * s)) (h2 : (y 2).val - 512 * s < 512) (hs2 : s < 2) :
    V m c main_v3 y = rd (A2 m c) (y 1).val (5632 * s + 512 * (y 0).val + ((y 2).val - 512 * s)) := by
  have hb0 : (y 0).val < 11 := (y 0).isLt
  have hb1 : (y 1).val < 2048 := (y 1).isLt
  have hb2 : (y 2).val < 1024 := (y 2).isLt
  rw [V_v3, shapeCast_apply _ shapeCasts_S11x2048x2x512_S11x2048x1024 y ((fun a => match a with
      | ⟨0, _⟩ => ⟨(y 0).val, hb0⟩ | ⟨1, _⟩ => ⟨(y 1).val, hb1⟩ | ⟨2, _⟩ => ⟨s, hs2⟩ | ⟨3, _⟩ => ⟨(y 2).val - 512 * s, h2⟩) : S11x2048x2x512.Idx) (by
    rewrite [Shape.rowMajor_val_four, Shape.rowMajor_val_three]
    show (((y 0).val * 2048 + (y 1).val) * 2 + s) * 512 + ((y 2).val - 512 * s) = ((y 0).val * 2048 + (y 1).val) * 1024 + (y 2).val
    omega),
    transpose_apply [2, 0, 1, 3] _ transposes_S2048x2x11x512_S11x2048x2x512_2_0_1_3 _ ((fun a => match a with
      | ⟨0, _⟩ => ⟨(y 1).val, hb1⟩ | ⟨1, _⟩ => ⟨s, hs2⟩ | ⟨2, _⟩ => ⟨(y 0).val, hb0⟩ | ⟨3, _⟩ => ⟨(y 2).val - 512 * s, h2⟩) : S2048x2x11x512.Idx) (fun b => by
        match b with | ⟨0, _⟩ => rfl | ⟨1, _⟩ => rfl | ⟨2, _⟩ => rfl | ⟨3, _⟩ => rfl),
    shapeCast_apply (A2 m c) shapeCasts_S2048x11264_S2048x2x11x512 _ ((fun a => match a with
      | ⟨0, _⟩ => ⟨(y 1).val, hb1⟩ | ⟨1, _⟩ => ⟨5632 * s + 512 * (y 0).val + ((y 2).val - 512 * s), by show _ < 11264; omega⟩) : S2048x11264.Idx) (by
    rewrite [Shape.rowMajor_val_two, Shape.rowMajor_val_four]
    show (y 1).val * 11264 + (5632 * s + 512 * (y 0).val + ((y 2).val - 512 * s)) = (((y 1).val * 2 + s) * 11 + (y 0).val) * 512 + ((y 2).val - 512 * s)
    omega)]
  exact rd_eq (A2 m c) _ _ _ rfl rfl

/-! ## The blocks -/

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 3) = t.val % 11 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = t.val % 11 :=
  (by decide +kernel : ∀ t : Fin grid0.N, _)
theorem idx3 : ∀ t : Fin cfg0.N, win0_3.index t (0 : Fin 2) = 0 ∧ win0_3.index t (1 : Fin 2) = t.val % 11 :=
  (by decide +kernel : ∀ t : Fin grid0.N, _)
theorem idx4 : ∀ t : Fin cfg0.N, win0_4.index t (0 : Fin 2) = t.val % 11 ∧ win0_4.index t (1 : Fin 2) = 0 :=
  (by decide +kernel : ∀ t : Fin grid0.N, _)
theorem idx5 : ∀ t : Fin cfg0.N, win0_5.index t (0 : Fin 2) = t.val / 11 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

theorem iblk0_rd (c : Dev nD) (t : Fin cfg0.N) (y : S1024x2048.Idx) :
    iblk m c 0 t y = rd (A0 m c) (1024 * (t.val / 11) + (y 0).val) (y 1).val := by
  obtain ⟨e0, e1⟩ := idx0 t
  refine (V_v4 m c (((cfg0.win 0).blk t).view.emb y)).trans (rd_eq (A0 m c) _ _ _ ?_ ?_)
  · show win0_0.index t (0 : Fin 2) * 1024 + 1 * (y 0).val = _; rw [e0]; omega
  · show win0_0.index t (1 : Fin 2) * 2048 + 1 * (y 1).val = _; rw [e1]; omega

theorem iblk1_rd (c : Dev nD) (t : Fin cfg0.N) (y : S1x2048x1024.Idx) (s : ℕ) (hs : 512 * s ≤ (y 2).val) (h2 : (y 2).val < 512 * s + 512) (hs2 : s < 2) :
    iblk m c 1 t y = rd (A2 m c) (y 1).val (5632 * s + 512 * (t.val % 11) + ((y 2).val - 512 * s)) := by
  obtain ⟨e0, e1, e2⟩ := idx1 t
  have hz : (y 0).val < 1 := (y 0).isLt
  have v0 : (((cfg0.win 1).blk t).view.emb y 0).val = t.val % 11 := by
    show win0_1.index t (0 : Fin 3) * 1 + 1 * (y 0).val = _; rw [e0]; omega
  have v1 : (((cfg0.win 1).blk t).view.emb y 1).val = (y 1).val := by
    show win0_1.index t (1 : Fin 3) * 2048 + 1 * (y 1).val = _; rw [e1]; omega
  have v2 : (((cfg0.win 1).blk t).view.emb y 2).val = (y 2).val := by
    show win0_1.index t (2 : Fin 3) * 1024 + 1 * (y 2).val = _; rw [e2]; omega
  refine (v3_rd m c (((cfg0.win 1).blk t).view.emb y) s (by rw [v2]; omega) (by rw [v2]; omega) hs2).trans ?_
  rw [v0, v1, v2]

theorem iblk2_rd (c : Dev nD) (t : Fin cfg0.N) (y : S3x512.Idx) :
    iblk m c 2 t y = rd (A3 m c) (y 0).val (512 * (t.val % 11) + (y 1).val) := by
  obtain ⟨e0, e1⟩ := idx2 t
  refine (congrFun (V_main_arg3 m c) (((cfg0.win 2).blk t).view.emb y)).trans (rd_eq (A3 m c) _ _ _ ?_ ?_)
  · show win0_2.index t (0 : Fin 2) * 3 + 1 * (y 0).val = _; rw [e0]; omega
  · show win0_2.index t (1 : Fin 2) * 512 + 1 * (y 1).val = _; rw [e1]; omega

theorem iblk3_rd (c : Dev nD) (t : Fin cfg0.N) (y : S1x512.Idx) :
    iblk m c 3 t y = rd1 (A4 m c) (512 * (t.val % 11) + (y 1).val) := by
  obtain ⟨e0, e1⟩ := idx3 t
  refine v5_rd m c (((cfg0.win 3).blk t).view.emb y) _ ?_
  show win0_3.index t (1 : Fin 2) * 512 + 1 * (y 1).val = _; rw [e1]; omega

theorem iblk4_rd (c : Dev nD) (t : Fin cfg0.N) (y : S512x2048.Idx) :
    iblk m c 4 t y = rd (A5 m c) (512 * (t.val % 11) + (y 0).val) (y 1).val := by
  obtain ⟨e0, e1⟩ := idx4 t
  refine (V_v6 m c (((cfg0.win 4).blk t).view.emb y)).trans (rd_eq (A5 m c) _ _ _ ?_ ?_)
  · show win0_4.index t (0 : Fin 2) * 512 + 1 * (y 0).val = _; rw [e0]; omega
  · show win0_4.index t (1 : Fin 2) * 2048 + 1 * (y 1).val = _; rw [e1]; omega

theorem iblk5_rd (c : Dev nD) (t : Fin cfg0.N) (y : S1024x2048.Idx) :
    iblk m c 5 t y = rd (A1 m c) (1024 * (t.val / 11) + (y 0).val) (y 1).val := by
  obtain ⟨e0, e1⟩ := idx5 t
  refine (congrFun (V_main_arg1 m c) (((cfg0.win 5).blk t).view.emb y)).trans (rd_eq (A1 m c) _ _ _ ?_ ?_)
  · show win0_5.index t (0 : Fin 2) * 1024 + 1 * (y 0).val = _; rw [e0]; omega
  · show win0_5.index t (1 : Fin 2) * 2048 + 1 * (y 1).val = _; rw [e1]; omega

theorem iblk6_rd (c : Dev nD) (t : Fin cfg0.N) (y : S1x2048.Idx) : iblk m c 6 t y = rd1 (A6 m c) (y 1).val := by
  obtain ⟨e0, e1⟩ := idx6 t
  refine v7_rd m c (((cfg0.win 6).blk t).view.emb y) _ ?_
  show win0_6.index t (1 : Fin 2) * 2048 + 1 * (y 1).val = _; rw [e1]; omega

end Cert.Kernel2Ideal.Glu

end
-- ==== Proof.GluVal.lean ====
/-
  Hand-written. The gated convolution's kernel over the extended reals: a point adds its feature tile's part of the down
  projection to the accumulator, so after the last of the eleven the accumulator is the whole of it, which the norm closes.
-/
module

public import proofs.«01_k».proof.Proof.GluBlk

@[expose] public section

set_option maxRecDepth 16384

noncomputable section

namespace Cert.Kernel2Ideal.Glu

open Cert.Kernel2Ideal.Gen Cert.GluSpec

open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The payloads at an index -/

theorem bc512 (v : Vec Ideal S1x512 .f32) (r : Fin 1024) (j : Fin 512) :
    broadcastTo S1024x512 v broadcasts_S1x512_S1024x512 (ix2 r j) = v (ix2 (0 : Fin 1) j) :=
  broadcastTo_apply v broadcasts_S1x512_S1024x512 _ _ (fun a => by
    match a with
    | ⟨0, _⟩ => show 0 = if (1 : ℕ) = 1 then 0 else _; rw [if_pos rfl]
    | ⟨1, _⟩ => show j.val = if (512 : ℕ) = 1 then 0 else j.val; rw [if_neg (by decide)])

theorem bc2048 (v : Vec Ideal S1x2048 .f32) (r : Fin 1024) (j : Fin 2048) :
    broadcastTo S1024x2048 v broadcasts_S1x2048_S1024x2048 (ix2 r j) = v (ix2 (0 : Fin 1) j) :=
  broadcastTo_apply v broadcasts_S1x2048_S1024x2048 _ _ (fun a => by
    match a with
    | ⟨0, _⟩ => show 0 = if (1 : ℕ) = 1 then 0 else _; rw [if_pos rfl]
    | ⟨1, _⟩ => show j.val = if (2048 : ℕ) = 1 then 0 else j.val; rw [if_neg (by decide)])

theorem bcCol (v : Vec Ideal S1024x1 .f32) (r : Fin 1024) (j : Fin 2048) :
    broadcastTo S1024x2048 v broadcasts_S1024x1_S1024x2048 (ix2 r j) = v (ix2 r (0 : Fin 1)) :=
  broadcastTo_apply v broadcasts_S1024x1_S1024x2048 _ _ (fun a => by
    match a with
    | ⟨0, _⟩ => show r.val = if (1024 : ℕ) = 1 then 0 else r.val; rw [if_neg (by decide)]
    | ⟨1, _⟩ => show 0 = if (1 : ℕ) = 1 then 0 else _; rw [if_pos rfl])

theorem pay2_apply (x0 : Vec Ideal S1024x2048 .bf16) (x1 : Vec Ideal S1x2048x1024 .bf16) (r : Fin 1024) (j : Fin 1024) :
    k0_pay2 (F := Ideal) x0 x1 (ix2 r j) = ∑ k : Fin 2048, (x0 (ix2 r k) : EReal) * x1 (ix3 (0 : Fin 1) k j) := by
  unfold k0_pay2
  show FloatOps.matmul dot_S1024x2048_S2048x1024_S1024x1024_1_0_0_1_n_n none _ _ (constant S1024x1024 .f32 0x00000000#32) _ = _
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 r j) ((contrEquiv1 dot_S1024x2048_S2048x1024_S1024x1024_1_0_0_1_n_n 2048 rfl rfl).symm k) = ix2 r k := funext fun a => Fin.ext (by
    match a with
    | ⟨0, _⟩ => rfl
    | ⟨1, _⟩ => exact hk)
  have er : dot_S1024x2048_S2048x1024_S1024x1024_1_0_0_1_n_n.rhsIdx (ix2 r j) ((contrEquiv1 dot_S1024x2048_S2048x1024_S1024x1024_1_0_0_1_n_n 2048 rfl rfl).symm k) = ix2 k j := funext fun a => Fin.ext (by
    match a with
    | ⟨0, _⟩ => exact hk
    | ⟨1, _⟩ => rfl)
  rw [el, er, shapeCast_apply x0 shapeCasts_S1024x2048_S1024x2048 (ix2 r k) (ix2 r k) rfl,
    shapeCast_apply x1 shapeCasts_S1x2048x1024_S2048x1024 (ix2 k j) (ix3 (0 : Fin 1) k j) (by
      rewrite [Shape.rowMajor_val_two, Shape.rowMajor_val_three]
      show (0 * 2048 + k.val) * 1024 + j.val = k.val * 1024 + j.val
      omega)]

theorem pay8_apply (v26 : Vec Ideal S1024x512 .f32) (v28 : Vec Ideal S1x512 .f32) (v29 : Vec Ideal S1024x512 .f32) (v30 : Vec Ideal S1x512 .f32)
    (v35 : Vec Ideal S1024x512 .f32) (v36 : Vec Ideal S1x512 .f32) (v40 : Vec Ideal S1024x512 .f32) (v41 : Vec Ideal S1x512 .f32)
    (v55 : Vec Ideal S1024x2048 .f32) (v57 : Vec Ideal S512x2048 .bf16) (r : Fin 1024) (n : Fin 2048) (g : Fin 512 → EReal)
    (hg : ∀ j : Fin 512, ((v28 (ix2 (0 : Fin 1) j) + v29 (ix2 r j) * v30 (ix2 (0 : Fin 1) j)) + v35 (ix2 r j) * v36 (ix2 (0 : Fin 1) j)
      + v40 (ix2 r j) * v41 (ix2 (0 : Fin 1) j) : EReal) = g j) :
    k0_pay8 (F := Ideal) v26 v28 v29 v30 v35 v36 v40 v41 v55 v57 (ix2 r n)
      = (v55 (ix2 r n) : EReal) + ∑ j : Fin 512, (g j * Ideal.div 1 (1 + Ideal.exp (-g j)) * v26 (ix2 r j)) * v57 (ix2 j n) := by
  unfold k0_pay8
  show (shapeCast S1024x2048 v55 shapeCasts_S1024x2048_S1024x2048 (ix2 r n) : EReal)
    + FloatOps.matmul (F := Ideal) dot_S1024x512_S512x2048_S1024x2048_1_0_0_1_n_n none _ _ (constant S1024x2048 .f32 0x00000000#32) (ix2 r n) = _
  rw [shapeCast_apply v55 shapeCasts_S1024x2048_S1024x2048 (ix2 r n) (ix2 r n) rfl]
  refine congrArg (fun z : EReal => v55 (ix2 r n) + z) ?_
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 r n) ((contrEquiv1 dot_S1024x512_S512x2048_S1024x2048_1_0_0_1_n_n 512 rfl rfl).symm k) = ix2 r k := funext fun a => Fin.ext (by
    match a with
    | ⟨0, _⟩ => rfl
    | ⟨1, _⟩ => exact hk)
  have er : dot_S1024x512_S512x2048_S1024x2048_1_0_0_1_n_n.rhsIdx (ix2 r n) ((contrEquiv1 dot_S1024x512_S512x2048_S1024x2048_1_0_0_1_n_n 512 rfl rfl).symm k) = ix2 k n := funext fun a => Fin.ext (by
    match a with
    | ⟨0, _⟩ => exact hk
    | ⟨1, _⟩ => rfl)
  have e4 : (((broadcastTo S1024x512 v28 broadcasts_S1x512_S1024x512 (ix2 r k) + v29 (ix2 r k) * broadcastTo S1024x512 v30 broadcasts_S1x512_S1024x512 (ix2 r k))
      + v35 (ix2 r k) * broadcastTo S1024x512 v36 broadcasts_S1x512_S1024x512 (ix2 r k))
      + v40 (ix2 r k) * broadcastTo S1024x512 v41 broadcasts_S1x512_S1024x512 (ix2 r k) : EReal) = g k := by
    rw [bc512, bc512, bc512, bc512]; exact hg k
  rw [el, er, shapeCast_apply v57 shapeCasts_S512x2048_S512x2048 (ix2 k n) (ix2 k n) rfl]
  refine congrArg (fun z : EReal => z * v57 (ix2 k n)) ?_
  rw [← e4]
  show _ * Ideal.div (Ideal.ofBits .f32 0x3F800000#32) (Ideal.ofBits .f32 0x3F800000#32 + Ideal.exp (Ideal.ofBits .f32 0x00000000#32 - _)) * _ = _
  rw [Ideal.ofBits_one_f32, Ideal.ofBits_zero_f32, zero_sub]
  rfl

theorem pay9_apply (v65 : Vec Ideal S1024x2048 .f32) (v77 : Vec Ideal S1x2048 .f32) (r : Fin 1024) (n : Fin 2048) :
    k0_pay9 (F := Ideal) v65 v77 (ix2 r n)
      = (v65 (ix2 r n) : EReal) * Ideal.rsqrt (Ideal.div (∑ k : Fin 2048, (v65 (ix2 r k) : EReal) * v65 (ix2 r k)) (Ideal.ofBits .f32 0x45000000#32)
          + Ideal.ofBits .f32 0x358637BD#32) * v77 (ix2 (0 : Fin 1) n) := by
  have e : shapeCast S1024x2048 v65 shapeCasts_S1024x2048_S1024x2048 = v65 := funext fun y => shapeCast_apply v65 shapeCasts_S1024x2048_S1024x2048 y y rfl
  have e' : shapeCast S1x2048 v77 shapeCasts_S1x2048_S1x2048 = v77 := funext fun y => shapeCast_apply v77 shapeCasts_S1x2048_S1x2048 y y rfl
  unfold k0_pay9
  dsimp only
  rw [e, e']
  show (v65 (ix2 r n) : EReal) * broadcastTo S1024x2048 _ broadcasts_S1024x1_S1024x2048 (ix2 r n) * broadcastTo S1024x2048 v77 broadcasts_S1x2048_S1024x2048 (ix2 r n) = _
  rw [bcCol, bc2048]
  refine congrArg (fun z : EReal => v65 (ix2 r n) * z * v77 (ix2 (0 : Fin 1) n)) ?_
  show Ideal.rsqrt (Ideal.div (shapeCast S1024x1 (multiReduction (F := Ideal) .add [1] S1024 (mulf (F := Ideal) (φ := .f32) v65 v65) 0x00000000#32 reduces_S1024x2048_S1024 (.inl rfl) rfl) shapeCasts_S1024_S1024x1 (ix2 r (0 : Fin 1)))
    (Ideal.ofBits .f32 0x45000000#32) + Ideal.ofBits .f32 0x358637BD#32) = _
  rw [shapeCast_apply _ shapeCasts_S1024_S1024x1 (ix2 r (0 : Fin 1)) (ix1 r) (by
    rewrite [Shape.rowMajor_val_two, Shape.rowMajor_val_one]; show r.val = r.val * 1 + 0; omega)]
  refine congrArg (fun z : EReal => Ideal.rsqrt (Ideal.div z (Ideal.ofBits .f32 0x45000000#32) + Ideal.ofBits .f32 0x358637BD#32))
    ((Ideal.multiReduction_add_single (mulf (F := Ideal) (φ := .f32) v65 v65) 0x00000000#32 reduces_S1024x2048_S1024 (.inl rfl) rfl (ix1 r)).trans (Finset.sum_congr rfl fun k _ => ?_))
  have el : reduces_S1024x2048_S1024.lift (ix1 r) k = (ix2 r k : S1024x2048.Idx) := funext fun a => Fin.ext (by
    match a with | ⟨0, _⟩ => rfl | ⟨1, _⟩ => rfl)
  show (v65 _ : EReal) * v65 _ = _
  rw [el]

/-! ## A point's values -/

/-- The point's projection, gate columns (`s = 0`) and value columns (`s = 1`). -/
theorem pay2_spec (c : Dev nD) (t : Fin cfg0.N) (r : Fin 1024) (j : Fin 1024) (s : ℕ) (h1 : 512 * s ≤ j.val) (h2 : j.val < 512 * s + 512) (hs : s < 2) :
    k0_pay2 (F := Ideal) (iblk m c 0 t) (iblk m c 1 t) (ix2 r j)
      = up (A0 m c) (A2 m c) (1024 * (t.val / 11) + r.val) (5632 * s + 512 * (t.val % 11) + (j.val - 512 * s)) := by
  rw [pay2_apply]
  unfold up
  exact Finset.sum_congr rfl fun k _ => congrArg₂ (fun a b : EReal => a * b) (iblk0_rd m c t (ix2 r k)) (iblk1_rd m c t (ix3 (0 : Fin 1) k j) s h1 h2 hs)

theorem pay4_spec (c : Dev nD) (t : Fin cfg0.N) (y : S1024x512.Idx) (R q : ℕ) (hR : 1024 * (t.val / 11) + (y 0).val = R) (hq : 512 * (t.val % 11) + (y 1).val = q) :
    k0_pay4 (F := Ideal) (iblk m c 0 t) (iblk m c 1 t) y = up (A0 m c) (A2 m c) R q := by
  have hb0 : (y 0).val < 1024 := (y 0).isLt
  have hb1 : (y 1).val < 512 := (y 1).isLt
  unfold k0_pay4
  rw [shapeCast_apply _ shapeCasts_S1024x512_S1024x512 y y rfl,
    extractStridedSlice_apply ![0, 0] _ slices_S1024x1024_o0_0_S1024x512 y (ix2 (⟨(y 0).val, hb0⟩ : Fin 1024) (⟨(y 1).val, by omega⟩ : Fin 1024)) (fun a => by
      match a with
      | ⟨0, _⟩ => show (y 0).val = 0 + (y 0).val; omega
      | ⟨1, _⟩ => show (y 1).val = 0 + (y 1).val; omega),
    pay2_spec m c t _ _ 0 (by omega) (by show (y 1).val < 512 * 0 + 512; omega) (by omega)]
  refine congrArg₂ (up (A0 m c) (A2 m c)) hR ?_
  show 5632 * 0 + 512 * (t.val % 11) + ((y 1).val - 512 * 0) = _
  omega

theorem pay6_spec (c : Dev nD) (t : Fin cfg0.N) (r : Fin 1024) (j : Fin 512) :
    k0_pay6 (F := Ideal) (iblk m c 0 t) (iblk m c 1 t) (ix2 r j)
      = up (A0 m c) (A2 m c) (1024 * (t.val / 11) + r.val) (5632 + (512 * (t.val % 11) + j.val)) := by
  unfold k0_pay6
  rw [extractStridedSlice_apply ![0, 512] _ slices_S1024x1024_o0_512_S1024x512 (ix2 r j) (ix2 r (⟨512 + j.val, by omega⟩ : Fin 1024)) (fun a => by
      match a with
      | ⟨0, _⟩ => show r.val = 0 + r.val; omega
      | ⟨1, _⟩ => show 512 + j.val = 512 + j.val; rfl),
    pay2_spec m c t _ _ 1 (by show 512 * 1 ≤ 512 + j.val; omega) (by show 512 + j.val < 512 * 1 + 512; omega) (by omega)]
  show up _ _ _ (5632 * 1 + 512 * (t.val % 11) + (512 + j.val - 512 * 1)) = _
  congr 1; omega

/-- The carried tail a point reads. -/
theorem tail_spec (c : Dev nD) (t : Fin cfg0.N) (y : S8x512.Idx) (R d : ℕ) (h6 : 6 ≤ (y 0).val) (hR : 1024 * (t.val / 11) + (y 0).val = R + d + 6) :
    k0_pay3 (F := Ideal) (tlIn m c t) y = gh (A0 m c) (A2 m c) R d (512 * (t.val % 11) + (y 1).val) := by
  have hb0 : (y 0).val < 8 := (y 0).isLt
  have hb1 : (y 1).val < 512 := (y 1).isLt
  unfold k0_pay3
  dsimp only
  rw [shapeCast_apply _ shapeCasts_S8x512_S8x512 y y rfl,
    shapeCast_apply _ shapeCasts_S1x8x512_S8x512 y (ix3 (0 : Fin 1) (⟨(y 0).val, hb0⟩ : Fin 8) (⟨(y 1).val, hb1⟩ : Fin 512)) (by
      rewrite [Shape.rowMajor_val_two, Shape.rowMajor_val_three]
      show (0 * 8 + (y 0).val) * 512 + (y 1).val = (y 0).val * 512 + (y 1).val
      omega)]
  unfold tlIn gh
  by_cases h : t.val < 11
  · rw [if_pos h, if_neg (by omega)]
    show Ideal.ofBits .f32 0x00000000#32 = 0
    exact Ideal.ofBits_zero_f32
  · rw [if_neg h, if_pos (by omega)]
    unfold tailG k0_pay5
    dsimp only
    rw [shapeCast_apply _ shapeCasts_S8x512_S1x8x512 _ (ix2 (⟨(y 0).val, hb0⟩ : Fin 8) (⟨(y 1).val, hb1⟩ : Fin 512)) (by
      rewrite [Shape.rowMajor_val_two, Shape.rowMajor_val_three]
      show (y 0).val * 512 + (y 1).val = (0 * 8 + (y 0).val) * 512 + (y 1).val
      omega)]
    unfold VecWindow.window
    refine pay4_spec m c ⟨t.val - 11, Nat.lt_of_le_of_lt (Nat.sub_le _ _) t.isLt⟩ _ _ _ ?_ ?_
    · show 1024 * ((t.val - 11) / 11) + (1016 + 1 * (y 0).val) = _; omega
    · show 512 * ((t.val - 11) % 11) + (0 + 1 * (y 1).val) = _; omega

/-- The gate buffer a point's taps are read from. -/
theorem buf_spec (c : Dev nD) (t : Fin cfg0.N) (y : S1032x512.Idx) (R d q : ℕ) (h6 : 6 ≤ (y 0).val) (hR : 1024 * (t.val / 11) + (y 0).val = R + d + 6)
    (hq : 512 * (t.val % 11) + (y 1).val = q) :
    bufOf (F := Ideal) (iblk m c 0 t) (iblk m c 1 t) (tlIn m c t) y = gh (A0 m c) (A2 m c) R d q := by
  have hb0 : (y 0).val < 1032 := (y 0).isLt
  have hb1 : (y 1).val < 512 := (y 1).isLt
  subst hq
  unfold bufOf bufV
  by_cases h : (y 0).val < 8
  · rw [dif_pos h]
    exact tail_spec m c t _ R d h6 hR
  · rw [dif_neg h]
    unfold gh
    rw [if_pos (by omega)]
    refine pay4_spec m c t _ _ _ ?_ ?_
    · show 1024 * (t.val / 11) + ((y 0).val - 8) = _; omega
    · show 512 * (t.val % 11) + ((y 1).val - 0) = _; omega

/-- One point: its feature tile's part of the down projection, added. -/
theorem step_spec (c : Dev nD) (t : Fin cfg0.N) (acc : Vec Ideal S1024x2048 .f32) (r : Fin 1024) (n : Fin 2048) :
    stepV (F := Ideal) (iblk m c 0 t) (iblk m c 1 t) (iblk m c 2 t) (iblk m c 3 t) (iblk m c 4 t) (tlIn m c t) acc (ix2 r n)
      = (acc (ix2 r n) : EReal) + ∑ j : Fin 512, act (A0 m c) (A2 m c) (A3 m c) (A4 m c) (1024 * (t.val / 11) + r.val) (512 * (t.val % 11) + j.val)
          * rd (A5 m c) (512 * (t.val % 11) + j.val) n.val := by
  unfold stepV
  rw [pay8_apply _ _ _ _ _ _ _ _ _ _ r n (fun j => pre (A0 m c) (A2 m c) (A3 m c) (A4 m c) (1024 * (t.val / 11) + r.val) (512 * (t.val % 11) + j.val)) (fun j => by
    have e7 : (k0_pay7 (F := Ideal) (iblk m c 3 t) (ix2 (0 : Fin 1) j) : EReal) = rd1 (A4 m c) (512 * (t.val % 11) + j.val) := by
      unfold k0_pay7
      exact (shapeCast_apply (iblk m c 3 t) shapeCasts_S1x512_S1x512 (ix2 (0 : Fin 1) j) (ix2 (0 : Fin 1) j) rfl).trans (iblk3_rd m c t (ix2 (0 : Fin 1) j))
    unfold pre
    refine congrArg₂ (fun a b : EReal => a + b) (congrArg₂ (fun a b : EReal => a + b) (congrArg₂ (fun a b : EReal => a + b) e7
      (congrArg₂ (fun a b : EReal => a * b) ?_ ?_)) (congrArg₂ (fun a b : EReal => a * b) ?_ ?_)) (congrArg₂ (fun a b : EReal => a * b) ?_ ?_)
    · exact buf_spec m c t _ _ 0 _ (by show 6 ≤ 6 + 1 * r.val; omega) (by show 1024 * (t.val / 11) + (6 + 1 * r.val) = _; omega) (by show 512 * (t.val % 11) + (0 + 1 * j.val) = _; omega)
    · refine (iblk2_rd m c t _).trans (congrArg₂ (rd (A3 m c)) ?_ ?_)
      · rfl
      · show 512 * (t.val % 11) + (0 + 1 * j.val) = _; omega
    · exact buf_spec m c t _ _ 1 _ (by show 6 ≤ 7 + 1 * r.val; omega) (by show 1024 * (t.val / 11) + (7 + 1 * r.val) = _; omega) (by show 512 * (t.val % 11) + (0 + 1 * j.val) = _; omega)
    · refine (iblk2_rd m c t _).trans (congrArg₂ (rd (A3 m c)) ?_ ?_)
      · rfl
      · show 512 * (t.val % 11) + (0 + 1 * j.val) = _; omega
    · exact buf_spec m c t _ _ 2 _ (by show 6 ≤ 8 + 1 * r.val; omega) (by show 1024 * (t.val / 11) + (8 + 1 * r.val) = _; omega) (by show 512 * (t.val % 11) + (0 + 1 * j.val) = _; omega)
    · refine (iblk2_rd m c t _).trans (congrArg₂ (rd (A3 m c)) ?_ ?_)
      · rfl
      · show 512 * (t.val % 11) + (0 + 1 * j.val) = _; omega)]
  refine congrArg (fun z : EReal => acc (ix2 r n) + z) (Finset.sum_congr rfl fun j _ => ?_)
  rw [pay6_spec]
  exact congrArg (fun z : EReal => act (A0 m c) (A2 m c) (A3 m c) (A4 m c) (1024 * (t.val / 11) + r.val) (512 * (t.val % 11) + j.val) * z) (iblk4_rd m c t (ix2 j n))

/-- The step onto an accumulator that holds the features before the tile's. -/
theorem step_part (c : Dev nD) (t : Fin cfg0.N) (acc : Vec Ideal S1024x2048 .f32) (r : Fin 1024) (n : Fin 2048)
    (h : (acc (ix2 r n) : EReal) = part (A0 m c) (A1 m c) (A2 m c) (A3 m c) (A4 m c) (A5 m c) (1024 * (t.val / 11) + r.val) n.val (512 * (t.val % 11))) :
    stepV (F := Ideal) (iblk m c 0 t) (iblk m c 1 t) (iblk m c 2 t) (iblk m c 3 t) (iblk m c 4 t) (tlIn m c t) acc (ix2 r n)
      = part (A0 m c) (A1 m c) (A2 m c) (A3 m c) (A4 m c) (A5 m c) (1024 * (t.val / 11) + r.val) n.val (512 * (t.val % 11) + 512) := by
  rw [step_spec, h, part_add]

/-- The accumulator before a row tile's last point. -/
theorem outN_part (c : Dev nD) : ∀ (f : ℕ), f < 10 → ∀ (t : Fin cfg0.N), t.val % 11 = f → ∀ (r : Fin 1024) (n : Fin 2048),
    (outN m c t.val t.isLt (ix2 r n) : EReal)
      = part (A0 m c) (A1 m c) (A2 m c) (A3 m c) (A4 m c) (A5 m c) (1024 * (t.val / 11) + r.val) n.val (512 * f + 512) := by
  intro f
  induction f with
  | zero =>
    intro _ t ht r n
    rw [outN_first m c t ht]
    unfold ptV
    rw [if_neg (by omega), step_part m c t _ r n (by
      rw [ht]
      exact (iblk5_rd m c t (ix2 r n)).trans (part_zero _ _ _ _ _ _ _ _).symm), ht]
  | succ f ih =>
    intro hf t ht r n
    rw [outN_next m c t (by omega)]
    unfold ptV
    rw [if_neg (by omega), step_part m c t _ r n (by
      have e := ih (by omega) ⟨t.val - 1, Nat.lt_of_le_of_lt (Nat.sub_le _ _) t.isLt⟩ (by show (t.val - 1) % 11 = f; omega) r n
      rw [ht]
      refine e.trans ?_
      show part _ _ _ _ _ _ (1024 * ((t.val - 1) / 11) + r.val) _ _ = _
      rw [show (t.val - 1) / 11 = t.val / 11 by omega, Nat.mul_succ]), ht]

/-- The row tile's last point: the norm of the whole. -/
theorem outN_last (c : Dev nD) (t : Fin cfg0.N) (ht : t.val % 11 = 10) (r : Fin 1024) (n : Fin 2048) :
    (outN m c t.val t.isLt (ix2 r n) : EReal)
      = out (A0 m c) (A1 m c) (A2 m c) (A3 m c) (A4 m c) (A5 m c) (A6 m c) (1024 * (t.val / 11) + r.val) n.val := by
  rw [outN_next m c t (by omega)]
  unfold ptV
  rw [if_pos ht]
  have e : ∀ n : Fin 2048, (stepV (F := Ideal) (iblk m c 0 t) (iblk m c 1 t) (iblk m c 2 t) (iblk m c 3 t) (iblk m c 4 t) (tlIn m c t)
      (outN m c (t.val - 1) (Nat.lt_of_le_of_lt (Nat.sub_le _ _) t.isLt)) (ix2 r n) : EReal)
      = res (A0 m c) (A1 m c) (A2 m c) (A3 m c) (A4 m c) (A5 m c) (1024 * (t.val / 11) + r.val) n.val := fun n => by
    rw [step_part m c t _ r n (by
      have e := outN_part m c 9 (by omega) ⟨t.val - 1, Nat.lt_of_le_of_lt (Nat.sub_le _ _) t.isLt⟩ (by show (t.val - 1) % 11 = 9; omega) r n
      rw [ht]
      refine e.trans ?_
      show part _ _ _ _ _ _ (1024 * ((t.val - 1) / 11) + r.val) _ _ = _
      rw [show (t.val - 1) / 11 = t.val / 11 by omega]), ht]
    rfl
  rw [pay9_apply, e n, Finset.sum_congr rfl fun k _ => by rw [e k]]
  unfold out
  exact congrArg (fun z : EReal => _ * z) (iblk6_rd m c t (ix2 (0 : Fin 1) n))

/-- The kernel's result, entry by entry. -/
theorem G7_spec (c : Dev nD) (i : S16384x2048.Idx) :
    (G7 m c i : EReal) = out (A0 m c) (A1 m c) (A2 m c) (A3 m c) (A4 m c) (A5 m c) (A6 m c) (i 0).val (i 1).val := by
  have hb0 : (i 0).val < 16384 := (i 0).isLt
  have hb1 : (i 1).val < 2048 := (i 1).isLt
  have hp : pt7Of i = 11 * ((i 0).val / 1024) + 10 := by
    show 11 * (1 * ((i 0).val / 1024 - 0) + 1 * ((i 1).val / 2048 - 0)) + 10 = _; omega
  have hN : pt7Of i < cfg0.N := lt_of_lt_of_eq (by rw [hp]; omega) N_0.symm
  unfold G7
  rw [dif_pos hN]
  have el : loc7Of i = ix2 (⟨(i 0).val % 1024, Nat.mod_lt _ (by decide)⟩ : Fin 1024) (⟨(i 1).val, hb1⟩ : Fin 2048) := funext fun a => Fin.ext (by
    match a with
    | ⟨0, _⟩ => rfl
    | ⟨1, _⟩ => show (i 1).val % 2048 = (i 1).val; omega)
  rw [el]
  refine (outN_last m c ⟨pt7Of i, hN⟩ (by show pt7Of i % 11 = 10; omega) _ _).trans ?_
  show out _ _ _ _ _ _ _ (1024 * (pt7Of i / 11) + (i 0).val % 1024) (i 1).val = _
  rw [show 1024 * (pt7Of i / 11) + (i 0).val % 1024 = (i 0).val by omega]

end Cert.Kernel2Ideal.Glu

end
-- ==== Proof.GluRef.lean ====
/-
  Hand-written. The reference of the gated convolution, read entry by entry, is the arithmetic of Proof/GluSpec.lean.
-/
module

public import proofs.«01_k».proof.Proof.GluSpec
public import proofs.«01_k».proof.Proof.Gen.Reference2Ideal.Read
public import Idealize.ShloMosaic.Lib.KernelVsHost

@[expose] public section

noncomputable section

namespace Cert.Reference2Ideal.Read

open Cert.Reference2Ideal Cert.Reference2Ideal.Gen Idealize.ShloMosaic Cert.GluSpec

variable (x0 x1 : (⟨S16384x2048, .f32⟩ : BufTy).Contents (Elt Ideal)) (x2 : (⟨S2048x11264, .f32⟩ : BufTy).Contents (Elt Ideal))
  (x3 : (⟨S3x5632, .f32⟩ : BufTy).Contents (Elt Ideal)) (x4 : (⟨S5632, .f32⟩ : BufTy).Contents (Elt Ideal))
  (x5 : (⟨S5632x2048, .f32⟩ : BufTy).Contents (Elt Ideal)) (x6 : (⟨S2048, .f32⟩ : BufTy).Contents (Elt Ideal))

theorem v0_spec (i : S16384x11264.Idx) (R C : ℕ) (h0 : (i 0).val = R) (h1 : (i 1).val = C) :
    val_main_v0 (F := Ideal) x0 x2 i = up x0 x2 R C := by
  rw [val_main_v0_apply]
  unfold up
  exact Finset.sum_congr rfl fun k _ => congrArg₂ (fun a b : EReal => a * b) (rd_eq x0 _ _ _ h0 rfl) (rd_eq x2 _ _ _ rfl h1)

/-- The padded gate: two rows of nothing, then the gate. -/
theorem v3_spec (i : S16386x5632.Idx) (R d q : ℕ) (h0 : (i 0).val = R + d) (h1 : (i 1).val = q) :
    val_main_v3 (F := Ideal) x0 x2 i = gh x0 x2 R d q := by
  have hb0 : (i 0).val < 16386 := (i 0).isLt
  have hb1 : (i 1).val < 5632 := (i 1).isLt
  unfold val_main_v3 gh
  by_cases h : 2 ≤ R + d
  · rw [if_pos h, pad_apply_of_inside ![2, 0] ![0, 0] ![0, 0] _ _ _ _ i
      ((fun a => match a with | ⟨0, _⟩ => ⟨(i 0).val - 2, by show (i 0).val - 2 < 16384; omega⟩ | ⟨1, _⟩ => ⟨(i 1).val, hb1⟩) : S16384x5632.Idx) (fun a => by
        match a with
        | ⟨0, _⟩ => show (i 0).val = 2 + ((i 0).val - 2) * (0 + 1); omega
        | ⟨1, _⟩ => show (i 1).val = 0 + (i 1).val * (0 + 1); omega), val_main_v1_apply]
    exact v0_spec x0 x2 _ _ _ (by show (i 0).val - 2 = _; omega) h1
  · rw [if_neg h, pad_apply_of_not_inside ![2, 0] ![0, 0] ![0, 0] (val_main_v1 (F := Ideal) x0 x2) (val_main_call0_v0 (F := Ideal)) pads_S16384x5632_S16386x5632_200_000 h_S_ i (0 : Fin 2) (fun hh => by
      have h2 : 2 ≤ (i 0).val := hh.1
      omega)]
    show Scalar.sitofp (F := Ideal) .f32 (0#32) = 0
    rw [Ideal.scalar_sitofp_def]; simp

theorem v26_spec (i : S16384x5632.Idx) :
    val_main_v26 (F := Ideal) x0 x2 x3 x4 i = pre x0 x2 x3 x4 (i 0).val (i 1).val := by
  have hb1 : (i 1).val < 5632 := (i 1).isLt
  have hm : (i 1).val % 5632 = (i 1).val := Nat.mod_eq_of_lt hb1
  rw [val_main_v26_apply, val_main_v19_apply, val_main_v12_apply, val_main_v9_apply, val_main_v18_apply, val_main_v25_apply,
    val_main_v11_apply, val_main_v10_apply,
    val_main_v4_apply, val_main_v13_apply, val_main_v20_apply,
    val_main_v8_apply, val_main_v7_apply, val_main_v6_apply, val_main_v5_apply,
    val_main_v17_apply, val_main_v16_apply, val_main_v15_apply, val_main_v14_apply,
    val_main_v24_apply, val_main_v23_apply, val_main_v22_apply, val_main_v21_apply,
    v3_spec x0 x2 (idx_main_v4 i) (i 0).val 0 (i 1).val rfl rfl,
    v3_spec x0 x2 (idx_main_v13 i) (i 0).val 1 (i 1).val (by show 1 + (i 0).val = _; omega) rfl,
    v3_spec x0 x2 (idx_main_v20 i) (i 0).val 2 (i 1).val (by show 2 + (i 0).val = _; omega) rfl,
    rd_eq x3 (idx_main_v5 _) 0 (i 1).val rfl hm, rd_eq x3 (idx_main_v14 _) 1 (i 1).val rfl hm, rd_eq x3 (idx_main_v21 _) 2 (i 1).val rfl hm,
    rd1_eq x4 _ (i 1).val rfl]
  rfl

theorem v28_spec (i : S16384x5632.Idx) :
    val_main_v28 (F := Ideal) x0 x2 x3 x4 i = act x0 x2 x3 x4 (i 0).val (i 1).val := by
  rw [val_main_v28_apply, val_main_v27_apply, val_main_call1_v5_apply, val_main_call1_v4_apply, val_main_call1_cst_0_apply,
    val_main_call1_v3_apply, val_main_call1_v2_apply, val_main_call1_cst_apply, val_main_call1_v1_apply, val_main_call1_v0_apply,
    v26_spec, val_main_v2_apply, v0_spec x0 x2 (idx_main_v2 i) (i 0).val (5632 + (i 1).val) rfl rfl]
  unfold act
  show _ * Ideal.div (Ideal.ofBits .f32 0x3F800000#32) (Ideal.ofBits .f32 0x3F800000#32 + Ideal.exp (- _)) * _ = _
  rw [Ideal.ofBits_one_f32]

theorem v30_spec (i : S16384x2048.Idx) (R C : ℕ) (h0 : (i 0).val = R) (h1 : (i 1).val = C) :
    val_main_v30 (F := Ideal) x0 x1 x2 x3 x4 x5 i = res x0 x1 x2 x3 x4 x5 R C := by
  rw [val_main_v30_apply, val_main_v29_apply]
  unfold res part
  rw [← Fin.sum_univ_eq_sum_range (fun q => act x0 x2 x3 x4 R q * rd x5 q C)]
  refine congrArg₂ (fun a b : EReal => a + b) (rd_eq x1 _ _ _ h0 h1) (Finset.sum_congr rfl fun k _ => ?_)
  rw [v28_spec, rd_eq x5 (ridx_main_v29 i k) k.val C rfl h1]
  subst h0
  rfl

/-- The reference's result, entry by entry. -/
theorem v43_spec (i : S16384x2048.Idx) :
    val_main_v43 (F := Ideal) x0 x1 x2 x3 x4 x5 x6 i = out x0 x1 x2 x3 x4 x5 x6 (i 0).val (i 1).val := by
  rw [val_main_v43_apply, val_main_v42_apply, val_main_v41_apply, val_main_v40_apply, val_main_v39_apply, val_main_v38_apply,
    val_main_v37_apply, val_main_v36_apply, val_main_cst_1_apply, val_main_v35_apply, val_main_v34_apply, val_main_cst_0_apply,
    val_main_v33_apply, val_main_v32_apply, val_main_cst_apply, v30_spec x0 x1 x2 x3 x4 x5 i _ _ rfl rfl, rd1_eq x6 _ (i 1).val rfl]
  have hs : ∀ k : Fin 2048, val_main_v31 (F := Ideal) x0 x1 x2 x3 x4 x5 (idx_main_v32 (idx_main_v33 (idx_main_v39 i)) k)
      = res x0 x1 x2 x3 x4 x5 (i 0).val k.val * res x0 x1 x2 x3 x4 x5 (i 0).val k.val := fun k => by
    rw [val_main_v31_apply, v30_spec x0 x1 x2 x3 x4 x5 (idx_main_v32 (idx_main_v33 (idx_main_v39 i)) k) (i 0).val k.val rfl rfl]; rfl
  rw [Finset.sum_congr rfl fun k _ => hs k]
  unfold out
  show _ * Ideal.rsqrt (Ideal.div (Ideal.ofBits .f32 0x00000000#32 + _) _ + _) * _ = _
  rw [Ideal.ofBits_zero_f32, zero_add]
  rfl

end Cert.Reference2Ideal.Read

end
-- ==== Proof.LinSpec.lean ====
/-
  Hand-written. The two projections' arithmetic, entry by entry over the extended reals, and the two operations their
  bodies are made of: a product of a block of rows with a whole matrix, and the root mean square norm of a block of rows.
-/
module

public import proofs.«01_k».proof.Proof.GluSpec
public import Idealize.ShloMosaic.Lib.Pipeline.Value
public import Idealize.ShloMosaic.Lib.ValueIdx

@[expose] public section

noncomputable section

namespace Cert.LinSpec

open Idealize.ShloMosaic Idealize.ShloMosaic.ValueIdx Cert.GluSpec

/-- A product over 2048 terms. -/
def mm (f g : ℕ → ℕ → EReal) (R C : ℕ) : EReal := ∑ k : Fin 2048, f R k.val * g k.val C

/-- The norm of a row of 2048 entries, times the gains. -/
def nrm (f : ℕ → ℕ → EReal) (g : ℕ → EReal) (R C : ℕ) : EReal :=
  f R C * Ideal.rsqrt (Ideal.div (∑ k : Fin 2048, f R k.val * f R k.val) (Ideal.ofBits .f32 0x45000000#32)
    + Ideal.ofBits .f32 0x358637BD#32) * g C

/-- The up projection's weights in tiles of 512 features: gate columns, then value columns. -/
def tile (w : ℕ → ℕ → EReal) (f k j : ℕ) : EReal := w k (5632 * (j / 512) + 512 * f + j % 512)

theorem ix2_eta {a b : ℕ} (y : (⟨2, ![a, b]⟩ : Shape).Idx) : y = ix2 (y 0) (y 1) :=
  funext fun d => by match d with | ⟨0, _⟩ => rfl | ⟨1, _⟩ => rfl

theorem mat_apply {N C : ℕ} {φ : FTy} (d : DotDims ⟨2, ![N, 2048]⟩ ⟨2, ![2048, C]⟩ ⟨2, ![N, C]⟩) (hr : d.contr.rank = 1)
    (hs : d.contr.size ⟨0, by omega⟩ = 2048) (a : FVec Ideal ⟨2, ![N, 2048]⟩ φ) (b : FVec Ideal ⟨2, ![2048, C]⟩ φ) (r : Fin N) (n : Fin C)
    (l0 : ∀ q, (d.lhsIdx (ix2 r n) q 0).val = r.val) (l1 : ∀ q, (d.lhsIdx (ix2 r n) q 1).val = (q ⟨0, by omega⟩).val)
    (r0 : ∀ q, (d.rhsIdx (ix2 r n) q 0).val = (q ⟨0, by omega⟩).val) (r1 : ∀ q, (d.rhsIdx (ix2 r n) q 1).val = n.val) :
    FloatOps.matmul d none a b (constant ⟨2, ![N, C]⟩ .f32 0x00000000#32) (ix2 r n) = ∑ k : Fin 2048, (a (ix2 r k) : EReal) * b (ix2 k n) := by
  rw [Ideal.matmul_constant_zero_apply, ← Equiv.sum_comp (contrEquiv1 d 2048 hr hs).symm]
  refine Finset.sum_congr rfl fun k _ => ?_
  have hk := contrEquiv1_symm_val d 2048 hr hs k
  have el : d.lhsIdx (ix2 r n) ((contrEquiv1 d 2048 hr hs).symm k) = ix2 r k := funext fun a => Fin.ext (by
    match a with
    | ⟨0, _⟩ => exact l0 _
    | ⟨1, _⟩ => exact (l1 _).trans hk)
  have er : d.rhsIdx (ix2 r n) ((contrEquiv1 d 2048 hr hs).symm k) = ix2 k n := funext fun a => Fin.ext (by
    match a with
    | ⟨0, _⟩ => exact (r0 _).trans hk
    | ⟨1, _⟩ => exact r1 _)
  rw [el, er]

/-- The norm of a block of 512 rows as the bodies write it. -/
theorem nrm_apply (v : FVec Ideal ⟨2, ![512, 2048]⟩ .f32) (g : FVec Ideal ⟨2, ![1, 2048]⟩ .f32)
    (h : (⟨2, ![512, 2048]⟩ : Shape).Reduces [1] ⟨1, ![512]⟩) (hc : (⟨1, ![512]⟩ : Shape).ShapeCasts ⟨2, ![512, 1]⟩)
    (hb : (⟨2, ![512, 1]⟩ : Shape).Broadcasts ⟨2, ![512, 2048]⟩) (hg : (⟨2, ![1, 2048]⟩ : Shape).ShapeCasts ⟨2, ![1, 2048]⟩)
    (hw : (⟨2, ![1, 2048]⟩ : Shape).Broadcasts ⟨2, ![512, 2048]⟩) (hφ) (hz)
    (f : ℕ → ℕ → EReal) (q : ℕ → EReal) (R : ℕ) (r : Fin 512) (n : Fin 2048)
    (hf : ∀ k : Fin 2048, (v (ix2 r k) : EReal) = f R k.val) (hq : (g (ix2 (0 : Fin 1) n) : EReal) = q n.val) :
    (mulf (mulf v (broadcastTo ⟨2, ![512, 2048]⟩ (rsqrt (addf (divf (shapeCast ⟨2, ![512, 1]⟩ (multiReduction (F := Ideal) .add [1] ⟨1, ![512]⟩ (mulf v v) 0x00000000#32 h hφ hz) hc)
      (broadcast ⟨2, ![512, 1]⟩ (Scalar.ofBits .f32 0x45000000#32))) (broadcast ⟨2, ![512, 1]⟩ (Scalar.ofBits .f32 0x358637BD#32)))) hb))
      (broadcastTo ⟨2, ![512, 2048]⟩ (shapeCast ⟨2, ![1, 2048]⟩ g hg) hw) (ix2 r n) : EReal) = nrm f q R n.val := by
  have e : shapeCast ⟨2, ![1, 2048]⟩ g hg = g := funext fun y => shapeCast_apply g hg y y rfl
  rw [e]
  show (v (ix2 r n) : EReal) * broadcastTo ⟨2, ![512, 2048]⟩ _ hb (ix2 r n) * broadcastTo ⟨2, ![512, 2048]⟩ g hw (ix2 r n) = _
  rw [broadcastTo_apply _ hb _ (ix2 r (0 : Fin 1)) (fun a => by
      match a with
      | ⟨0, _⟩ => show r.val = if (512 : ℕ) = 1 then 0 else r.val; rw [if_neg (by decide)]
      | ⟨1, _⟩ => show 0 = if (1 : ℕ) = 1 then 0 else _; rw [if_pos rfl]),
    broadcastTo_apply g hw _ (ix2 (0 : Fin 1) n) (fun a => by
      match a with
      | ⟨0, _⟩ => show 0 = if (1 : ℕ) = 1 then 0 else _; rw [if_pos rfl]
      | ⟨1, _⟩ => show n.val = if (2048 : ℕ) = 1 then 0 else n.val; rw [if_neg (by decide)]), hf, hq]
  unfold nrm
  refine congrArg (fun z : EReal => f R n.val * z * q n.val) ?_
  show Ideal.rsqrt (Ideal.div (shapeCast ⟨2, ![512, 1]⟩ (multiReduction (F := Ideal) .add [1] ⟨1, ![512]⟩ (mulf (F := Ideal) (φ := .f32) v v) 0x00000000#32 h hφ hz) hc (ix2 r (0 : Fin 1)))
    (Ideal.ofBits .f32 0x45000000#32) + Ideal.ofBits .f32 0x358637BD#32) = _
  rw [shapeCast_apply _ hc (ix2 r (0 : Fin 1)) (ix1 r) (by
    rewrite [Shape.rowMajor_val_two, Shape.rowMajor_val_one]; show r.val = r.val * 1 + 0; omega)]
  refine congrArg (fun z : EReal => Ideal.rsqrt (Ideal.div z (Ideal.ofBits .f32 0x45000000#32) + Ideal.ofBits .f32 0x358637BD#32))
    ((Ideal.multiReduction_add_single (mulf (F := Ideal) (φ := .f32) v v) 0x00000000#32 h hφ hz (ix1 r)).trans (Finset.sum_congr rfl fun k _ => ?_))
  have el : h.lift (ix1 r) k = ix2 r k := funext fun a => Fin.ext (by
    match a with | ⟨0, _⟩ => rfl | ⟨1, _⟩ => rfl)
  show (v _ : EReal) * v _ = _
  rw [el]
  exact congrArg₂ (fun a b : EReal => a * b) (hf k) (hf k)

/-- A vector of gains laid out as one row. -/
theorem row_rd (a : FVec Ideal ⟨1, ![2048]⟩ .f32) (hc : (⟨1, ![2048]⟩ : Shape).ShapeCasts ⟨2, ![1, 2048]⟩) (y : (⟨2, ![1, 2048]⟩ : Shape).Idx) (q : ℕ)
    (h : (y 1).val = q) : (shapeCast ⟨2, ![1, 2048]⟩ a hc y : EReal) = rd1 a q := by
  have hz : (y 0).val < 1 := (y 0).isLt
  rw [shapeCast_apply a hc y (ix1 (⟨(y 1).val, (y 1).isLt⟩ : Fin 2048)) (by
    rewrite [Shape.rowMajor_val_two, Shape.rowMajor_val_one]
    show (y 1).val = (y 0).val * 2048 + (y 1).val
    omega)]
  exact rd1_eq a _ q h

end Cert.LinSpec

end
-- ==== Proof.OutProj.lean ====
/-
  Hand-written. The output projection: what the kernel's two arrays end holding, and what its reference computes, are the
  arithmetic of Proof/LinSpec.lean.
-/
module

public import proofs.«01_k».proof.Proof.LinSpec
public import proofs.«01_k».proof.Proof.Gen.Kernel3Ideal.Value
public import proofs.«01_k».proof.Proof.Gen.Reference3Ideal.Read
public import Idealize.ShloMosaic.Lib.StableHlo.RunRead

@[expose] public section

set_option maxRecDepth 16384

noncomputable section

namespace Cert.LinSpec

open Idealize.ShloMosaic Cert.GluSpec

/-- The residual stream after the projection. -/
def hid (x w : ℕ → ℕ → EReal) (mix : ℕ → ℕ → EReal) (R C : ℕ) : EReal := x R C + mm mix w R C

end Cert.LinSpec

namespace Cert.Kernel3Ideal.Out

open Cert.Kernel3Ideal.Gen Cert.GluSpec Cert.LinSpec
open Idealize.ShloMosaic Idealize.ShloMosaic.TcCoe Idealize.ShloMosaic.ValueIdx

variable (m : (ℓ : Loc nD τ sig) → Buf (Elt Ideal) ℓ) (c : Dev nD)

abbrev A0 : (⟨2, ![16384, 2048]⟩ : Shape).Idx → EReal := m ((c : Thread nD τ).loc main_arg0)
abbrev A1 : (⟨2, ![16384, 2048]⟩ : Shape).Idx → EReal := m ((c : Thread nD τ).loc main_arg1)
abbrev A2 : (⟨1, ![2048]⟩ : Shape).Idx → EReal := m ((c : Thread nD τ).loc main_arg2)
abbrev A3 : (⟨2, ![2048, 2048]⟩ : Shape).Idx → EReal := m ((c : Thread nD τ).loc main_arg3)

theorem V_v0 (y : S16384x2048.Idx) : V m c main_v0 y = A0 m c y := by
  show StableHlo.after hostOps0 _ (Proc.devRef .tc main_v0) y = _
  after_results
  rfl
theorem V_v1 : V m c main_v1 = shapeCast S1x2048 (A2 m c) shapeCasts_S2048_S1x2048 := by
  show StableHlo.after hostOps0 _ (Proc.devRef .tc main_v1) = _
  after_results
  rfl
theorem V_v2 (y : S2048x2048.Idx) : V m c main_v2 y = A3 m c y := by
  show StableHlo.after hostOps0 _ (Proc.devRef .tc main_v2) y = _
  after_results
  rfl

/-! The windows' index maps: the point's block of rows, or the whole array. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem fl4 : ∀ t : Fin cfg0.N, (cfg0.win 4).flush t = true := (by decide +kernel : ∀ t : Fin grid0.N, win0_4.flush t = true)
theorem fl5 : ∀ t : Fin cfg0.N, (cfg0.win 5).flush t = true := (by decide +kernel : ∀ t : Fin grid0.N, win0_5.flush t = true)

variable (t : Fin cfg0.N)

theorem iblk0_rd (r : Fin 512) (k : Fin 2048) : iblk m c 0 t (ix2 r k) = rd (A0 m c) (512 * t.val + r.val) k.val := by
  obtain ⟨e0, e1⟩ := idx0 t
  refine (V_v0 m c (((cfg0.win 0).blk t).view.emb (ix2 r k))).trans (rd_eq (A0 m c) _ _ _ ?_ ?_)
  · show win0_0.index t (0 : Fin 2) * 512 + 1 * r.val = _; rw [e0]; omega
  · show win0_0.index t (1 : Fin 2) * 2048 + 1 * k.val = _; rw [e1]; omega
theorem iblk1_rd (r : Fin 512) (k : Fin 2048) : iblk m c 1 t (ix2 r k) = rd (A1 m c) (512 * t.val + r.val) k.val := by
  obtain ⟨e0, e1⟩ := idx1 t
  refine (congrFun (V_main_arg1 m c) (((cfg0.win 1).blk t).view.emb (ix2 r k))).trans (rd_eq (A1 m c) _ _ _ ?_ ?_)
  · show win0_1.index t (0 : Fin 2) * 512 + 1 * r.val = _; rw [e0]; omega
  · show win0_1.index t (1 : Fin 2) * 2048 + 1 * k.val = _; rw [e1]; omega
theorem iblk2_rd (k : Fin 2048) : iblk m c 2 t (ix2 (0 : Fin 1) k) = rd1 (A2 m c) k.val := by
  obtain ⟨e0, e1⟩ := idx2 t
  refine (congrFun (V_v1 m c) (((cfg0.win 2).blk t).view.emb (ix2 (0 : Fin 1) k))).trans (row_rd (A2 m c) shapeCasts_S2048_S1x2048 _ _ ?_)
  show win0_2.index t (1 : Fin 2) * 2048 + 1 * k.val = _; rw [e1]; omega
theorem iblk3_rd (k n : Fin 2048) : iblk m c 3 t (ix2 k n) = rd (A3 m c) k.val n.val := by
  obtain ⟨e0, e1⟩ := idx3 t
  refine (V_v2 m c (((cfg0.win 3).blk t).view.emb (ix2 k n))).trans (rd_eq (A3 m c) _ _ _ ?_ ?_)
  · show win0_3.index t (0 : Fin 2) * 2048 + 1 * k.val = _; rw [e0]; omega
  · show win0_3.index t (1 : Fin 2) * 2048 + 1 * n.val = _; rw [e1]; omega

/-- The residual stream, and its norm. -/
abbrev H : ℕ → ℕ → EReal := hid (rd (A1 m c)) (rd (A3 m c)) (rd (A0 m c))
abbrev Hn : ℕ → ℕ → EReal := nrm (H m c) (rd1 (A2 m c))

theorem pay1_rd (r : Fin 512) (n : Fin 2048) :
    k0_pay1 (F := Ideal) (iblk m c 1 t) (iblk m c 0 t) (iblk m c 3 t) (ix2 r n) = H m c (512 * t.val + r.val) n.val := by
  unfold k0_pay1
  show @HAdd.hAdd EReal EReal EReal _ (iblk m c 1 t (ix2 r n))
    (FloatOps.matmul (F := Ideal) dot_S512x2048_S2048x2048_S512x2048_1_0_0_1_n_n none _ _ (constant S512x2048 .f32 0x00000000#32) (ix2 r n)) = _
  rw [mat_apply dot_S512x2048_S2048x2048_S512x2048_1_0_0_1_n_n rfl rfl _ _ r n (fun _ => rfl) (fun _ => rfl) (fun _ => rfl) (fun _ => rfl), iblk1_rd]
  unfold H hid mm
  refine congrArg (fun z : EReal => _ + z) (Finset.sum_congr rfl fun k _ => ?_)
  rw [shapeCast_apply (iblk m c 0 t) shapeCasts_S512x2048_S512x2048 (ix2 r k) (ix2 r k) rfl,
    shapeCast_apply (iblk m c 3 t) shapeCasts_S2048x2048_S2048x2048 (ix2 k n) (ix2 k n) rfl]
  exact congrArg₂ (fun a b : EReal => a * b) (iblk0_rd m c t r k) (iblk3_rd m c t k n)

theorem pay2_rd (r : Fin 512) (n : Fin 2048) :
    k0_pay2 (F := Ideal) (iblk m c 1 t) (iblk m c 0 t) (iblk m c 3 t) (iblk m c 2 t) (ix2 r n) = Hn m c (512 * t.val + r.val) n.val :=
  nrm_apply (k0_pay1 (F := Ideal) (iblk m c 1 t) (iblk m c 0 t) (iblk m c 3 t)) (iblk m c 2 t) reduces_S512x2048_S512 shapeCasts_S512_S512x1
    broadcasts_S512x1_S512x2048 shapeCasts_S1x2048_S1x2048 broadcasts_S1x2048_S512x2048 (.inl rfl) rfl _ _ _ r n
    (fun k => pay1_rd m c t r k) (iblk2_rd m c t n)

def G4 : Buf (Elt Ideal) ((c : Thread nD τ).loc main_v3_0) := fun i : S16384x2048.Idx => H m c (i 0).val (i 1).val
def G5 : Buf (Elt Ideal) ((c : Thread nD τ).loc main_v3_1) := fun i : S16384x2048.Idx => Hn m c (i 0).val (i 1).val

theorem z2 : (![0, 0] : Fin 2 → ℕ) = fun _ => 0 := by decide

theorem flushed4_eq : (dats m 0 c).flushed 4 t = ((cfg0.win 4).blk t).view.read (Elt Ideal) (G4 m c) := by
  rw [Value.flushed4]
  obtain ⟨e0, e1⟩ := idx4 t
  have e : out0_4 (F := Ideal) (iblk m c 0 t) (iblk m c 1 t) (iblk m c 2 t) (iblk m c 3 t) = k0_pay1 (F := Ideal) (iblk m c 1 t) (iblk m c 0 t) (iblk m c 3 t) := by
    unfold out0_4
    rw [View.canon_unit_zero z2, View.ld_unit_zero z2, View.ld_unit_zero z2, View.ld_unit_zero z2]
  rw [e]
  funext y
  refine (congrArg (k0_pay1 (F := Ideal) (iblk m c 1 t) (iblk m c 0 t) (iblk m c 3 t)) (ix2_eta ((cfg0.win 4).xinj (grid0.coords t) y))).trans ((pay1_rd m c t _ _).trans ?_)
  show _ = H m c (win0_4.index t (0 : Fin 2) * 512 + 1 * (y 0).val) (win0_4.index t (1 : Fin 2) * 2048 + 1 * (y 1).val)
  rw [e0, e1, Nat.mul_comm 512, one_mul, one_mul, Nat.zero_mul, Nat.zero_add]

theorem flushed5_eq : (dats m 0 c).flushed 5 t = ((cfg0.win 5).blk t).view.read (Elt Ideal) (G5 m c) := by
  rw [Value.flushed5]
  obtain ⟨e0, e1⟩ := idx5 t
  have e : out0_5 (F := Ideal) (iblk m c 0 t) (iblk m c 1 t) (iblk m c 2 t) (iblk m c 3 t) = k0_pay2 (F := Ideal) (iblk m c 1 t) (iblk m c 0 t) (iblk m c 3 t) (iblk m c 2 t) := by
    unfold out0_5
    rw [View.canon_unit_zero z2, View.ld_unit_zero z2, View.ld_unit_zero z2, View.ld_unit_zero z2, View.ld_unit_zero z2]
  rw [e]
  funext y
  refine (congrArg (k0_pay2 (F := Ideal) (iblk m c 1 t) (iblk m c 0 t) (iblk m c 3 t) (iblk m c 2 t)) (ix2_eta ((cfg0.win 5).xinj (grid0.coords t) y))).trans ((pay2_rd m c t _ _).trans ?_)
  show _ = Hn m c (win0_5.index t (0 : Fin 2) * 512 + 1 * (y 0).val) (win0_5.index t (1 : Fin 2) * 2048 + 1 * (y 1).val)
  rw [e0, e1, Nat.mul_comm 512, one_mul, one_mul, Nat.zero_mul, Nat.zero_add]

theorem mem4 (i : S16384x2048.Idx) (h : (i 0).val / 512 = t.val) : i ∈ ((cfg0.win 4).blk t).view.set := by
  have h1 : (i 1).val < 2048 := (i 1).isLt
  obtain ⟨e0, e1⟩ := idx4 t
  show i ∈ ((View.whole main_v3_0).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

theorem final4 : (dats m 0 c).arrAt 4 cfg0.N = G4 m c :=
  (dats m 0 c).arrAt_eq_of_cover 4 _ (fun t _ => flushed4_eq m c t) (fun (i : S16384x2048.Idx) =>
    have h0 : (i 0).val < 16384 := (i 0).isLt
    ⟨⟨(i 0).val / 512, lt_of_lt_of_eq (by omega) N_0.symm⟩, fl4 _, mem4 _ i rfl⟩)

theorem mem5 (i : S16384x2048.Idx) (h : (i 0).val / 512 = t.val) : i ∈ ((cfg0.win 5).blk t).view.set := by
  have h1 : (i 1).val < 2048 := (i 1).isLt
  obtain ⟨e0, e1⟩ := idx5 t
  show i ∈ ((View.whole main_v3_1).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

theorem final5 : (dats m 0 c).arrAt 5 cfg0.N = G5 m c :=
  (dats m 0 c).arrAt_eq_of_cover 5 _ (fun t _ => flushed5_eq m c t) (fun (i : S16384x2048.Idx) =>
    have h0 : (i 0).val < 16384 := (i 0).isLt
    ⟨⟨(i 0).val / 512, lt_of_lt_of_eq (by omega) N_0.symm⟩, fl5 _, mem5 _ i rfl⟩)

end Cert.Kernel3Ideal.Out

namespace Cert.Reference3Ideal.Read

open Cert.Reference3Ideal Cert.Reference3Ideal.Gen Idealize.ShloMosaic Cert.GluSpec Cert.LinSpec

variable (x0 x1 : (⟨S16384x2048, .f32⟩ : BufTy).Contents (Elt Ideal)) (x2 : (⟨S2048, .f32⟩ : BufTy).Contents (Elt Ideal))
  (x3 : (⟨S2048x2048, .f32⟩ : BufTy).Contents (Elt Ideal))

theorem v1_spec (i : S16384x2048.Idx) (R C : ℕ) (h0 : (i 0).val = R) (h1 : (i 1).val = C) :
    val_main_v1 (F := Ideal) x0 x1 x3 i = hid (rd x1) (rd x3) (rd x0) R C := by
  rw [val_main_v1_apply, val_main_v0_apply, rd_eq x1 i R C h0 h1]
  unfold hid mm
  exact congrArg (fun z : EReal => rd x1 R C + z) (Finset.sum_congr rfl fun k _ => congrArg₂ (fun a b : EReal => a * b) (rd_eq x0 _ _ _ h0 rfl) (rd_eq x3 _ _ _ rfl h1))

theorem v15_spec (i : S16384x2048.Idx) :
    val_main_v15 (F := Ideal) x0 x1 x2 x3 i = nrm (hid (rd x1) (rd x3) (rd x0)) (rd1 x2) (i 0).val (i 1).val := by
  rw [val_main_v15_apply, val_main_v14_apply, val_main_v11_apply, val_main_v10_apply, val_main_v9_apply, val_main_v8_apply, val_main_v6_apply,
    val_main_v4_apply, val_main_v3_apply, val_main_cst_apply, val_main_v5_apply, val_main_cst_0_apply, val_main_v7_apply, val_main_cst_1_apply,
    val_main_v13_apply, val_main_v12_apply, v1_spec x0 x1 x3 i _ _ rfl rfl, rd1_eq x2 _ (i 1).val rfl]
  have hs : ∀ k : Fin 2048, val_main_v2 (F := Ideal) x0 x1 x3 (idx_main_v3 (idx_main_v4 (idx_main_v10 i)) k)
      = hid (rd x1) (rd x3) (rd x0) (i 0).val k.val * hid (rd x1) (rd x3) (rd x0) (i 0).val k.val := fun k => by
    rw [val_main_v2_apply, v1_spec x0 x1 x3 (idx_main_v3 (idx_main_v4 (idx_main_v10 i)) k) (i 0).val k.val rfl rfl]; rfl
  rw [Finset.sum_congr rfl fun k _ => hs k]
  unfold nrm
  show _ * Ideal.rsqrt (Ideal.div (Ideal.ofBits .f32 0x00000000#32 + _) _ + _) * _ = _
  rw [Ideal.ofBits_zero_f32, zero_add]
  rfl

end Cert.Reference3Ideal.Read

end
-- ==== Proof.InProj.lean ====
/-
  Hand-written. The input projection: what the kernel's four arrays end holding, and what its reference computes, are the
  arithmetic of Proof/LinSpec.lean.
-/
module

public import proofs.«01_k».proof.Proof.LinSpec
public import proofs.«01_k».proof.Proof.Gen.Kernel4Ideal.Value
public import proofs.«01_k».proof.Proof.Gen.Reference4Ideal.Read
public import Idealize.ShloMosaic.Lib.StableHlo.RunRead
public import Idealize.ShloMosaic.Lib.Pipeline.ValueKit.Tiles

@[expose] public section

set_option maxRecDepth 16384

noncomputable section

namespace Cert.Kernel4Ideal.In

open Cert.Kernel4Ideal.Gen Cert.GluSpec Cert.LinSpec
open Idealize.ShloMosaic Idealize.ShloMosaic.TcCoe Idealize.ShloMosaic.ValueIdx

variable (m : (ℓ : Loc nD τ sig) → Buf (Elt Ideal) ℓ) (c : Dev nD)

abbrev A0 : (⟨2, ![16384, 2048]⟩ : Shape).Idx → EReal := m ((c : Thread nD τ).loc main_arg0)
abbrev A1 : (⟨2, ![2048, 4352]⟩ : Shape).Idx → EReal := m ((c : Thread nD τ).loc main_arg1)
abbrev A2 : (⟨1, ![2048]⟩ : Shape).Idx → EReal := m ((c : Thread nD τ).loc main_arg2)
abbrev A3 : (⟨2, ![2048, 2048]⟩ : Shape).Idx → EReal := m ((c : Thread nD τ).loc main_arg3)
abbrev A4 : (⟨2, ![2048, 11264]⟩ : Shape).Idx → EReal := m ((c : Thread nD τ).loc main_arg4)
abbrev A5 : (⟨2, ![5632, 2048]⟩ : Shape).Idx → EReal := m ((c : Thread nD τ).loc main_arg5)

theorem V_v0 : V m c main_v0 = shapeCast S1x2048 (A2 m c) shapeCasts_S2048_S1x2048 := by
  show StableHlo.after hostOps0 _ (Proc.devRef .tc main_v0) = _
  after_results
  rfl
theorem V_v1 (y : S2048x4352.Idx) : V m c main_v1 y = A1 m c y := by
  show StableHlo.after hostOps0 _ (Proc.devRef .tc main_v1) y = _
  after_results
  rfl

/-! The windows' index maps: the point's block of rows, or the whole array. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 ∧ win0_6.flush t = true := (by decide +kernel : ∀ t : Fin grid0.N, _)
theorem idx7 : ∀ t : Fin cfg0.N, win0_7.index t (0 : Fin 2) = t.val ∧ win0_7.index t (1 : Fin 2) = 0 ∧ win0_7.flush t = true := (by decide +kernel : ∀ t : Fin grid0.N, _)
theorem idx8 : ∀ t : Fin cfg0.N, win0_8.index t (0 : Fin 3) = 0 ∧ win0_8.index t (1 : Fin 3) = t.val ∧ win0_8.index t (2 : Fin 3) = 0 ∧ win0_8.flush t = true := (by decide +kernel : ∀ t : Fin grid0.N, _)
theorem idx9 : ∀ t : Fin cfg0.N, win0_9.index t (0 : Fin 2) = t.val ∧ win0_9.index t (1 : Fin 2) = 0 ∧ win0_9.flush t = true := (by decide +kernel : ∀ t : Fin grid0.N, _)

variable (t : Fin cfg0.N)

theorem iblk0_rd (r : Fin 512) (k : Fin 2048) : iblk m c 0 t (ix2 r k) = rd (A0 m c) (512 * t.val + r.val) k.val := by
  obtain ⟨e0, e1⟩ := idx0 t
  refine (congrFun (V_main_arg0 m c) (((cfg0.win 0).blk t).view.emb (ix2 r k))).trans (rd_eq (A0 m c) _ _ _ ?_ ?_)
  · show win0_0.index t (0 : Fin 2) * 512 + 1 * r.val = _; omega
  · show win0_0.index t (1 : Fin 2) * 2048 + 1 * k.val = _; omega
theorem iblk1_rd (k : Fin 2048) : iblk m c 1 t (ix2 (0 : Fin 1) k) = rd1 (A2 m c) k.val := by
  obtain ⟨e0, e1⟩ := idx1 t
  refine (congrFun (V_v0 m c) (((cfg0.win 1).blk t).view.emb (ix2 (0 : Fin 1) k))).trans (row_rd (A2 m c) shapeCasts_S2048_S1x2048 _ _ ?_)
  show win0_1.index t (1 : Fin 2) * 2048 + 1 * k.val = _; omega
theorem iblk2_rd (k : Fin 2048) (n : Fin 4352) : iblk m c 2 t (ix2 k n) = rd (A1 m c) k.val n.val := by
  obtain ⟨e0, e1⟩ := idx2 t
  refine (V_v1 m c (((cfg0.win 2).blk t).view.emb (ix2 k n))).trans (rd_eq (A1 m c) _ _ _ ?_ ?_)
  · show win0_2.index t (0 : Fin 2) * 2048 + 1 * k.val = _; omega
  · show win0_2.index t (1 : Fin 2) * 4352 + 1 * n.val = _; omega
theorem iblk3_rd (y : S64x2048.Idx) (R C : ℕ) (h0 : 64 * t.val + (y 0).val = R) (h1 : (y 1).val = C) : iblk m c 3 t y = rd (A3 m c) R C := by
  obtain ⟨e0, e1⟩ := idx3 t
  refine (congrFun (V_main_arg3 m c) (((cfg0.win 3).blk t).view.emb y)).trans (rd_eq (A3 m c) _ _ _ ?_ ?_)
  · show win0_3.index t (0 : Fin 2) * 64 + 1 * (y 0).val = _; omega
  · show win0_3.index t (1 : Fin 2) * 2048 + 1 * (y 1).val = _; omega
theorem iblk4_rd (y : S64x11264.Idx) (R C : ℕ) (h0 : 64 * t.val + (y 0).val = R) (h1 : (y 1).val = C) : iblk m c 4 t y = rd (A4 m c) R C := by
  obtain ⟨e0, e1⟩ := idx4 t
  refine (congrFun (V_main_arg4 m c) (((cfg0.win 4).blk t).view.emb y)).trans (rd_eq (A4 m c) _ _ _ ?_ ?_)
  · show win0_4.index t (0 : Fin 2) * 64 + 1 * (y 0).val = _; omega
  · show win0_4.index t (1 : Fin 2) * 11264 + 1 * (y 1).val = _; omega
theorem iblk5_rd (y : S176x2048.Idx) (R C : ℕ) (h0 : 176 * t.val + (y 0).val = R) (h1 : (y 1).val = C) : iblk m c 5 t y = rd (A5 m c) R C := by
  obtain ⟨e0, e1⟩ := idx5 t
  refine (congrFun (V_main_arg5 m c) (((cfg0.win 5).blk t).view.emb y)).trans (rd_eq (A5 m c) _ _ _ ?_ ?_)
  · show win0_5.index t (0 : Fin 2) * 176 + 1 * (y 0).val = _; omega
  · show win0_5.index t (1 : Fin 2) * 2048 + 1 * (y 1).val = _; omega

/-- The projection of the norm. -/
abbrev P : ℕ → ℕ → EReal := mm (nrm (rd (A0 m c)) (rd1 (A2 m c))) (rd (A1 m c))

theorem pay6_rd (r : Fin 512) (n : Fin 4352) :
    k0_pay6 (F := Ideal) (iblk m c 0 t) (iblk m c 1 t) (iblk m c 2 t) (ix2 r n) = P m c (512 * t.val + r.val) n.val := by
  unfold k0_pay6
  show FloatOps.matmul (F := Ideal) dot_S512x2048_S2048x4352_S512x4352_1_0_0_1_n_n none _ _ (constant S512x4352 .f32 0x00000000#32) (ix2 r n) = _
  rw [mat_apply dot_S512x2048_S2048x4352_S512x4352_1_0_0_1_n_n rfl rfl _ _ r n (fun _ => rfl) (fun _ => rfl) (fun _ => rfl) (fun _ => rfl)]
  unfold P mm
  refine Finset.sum_congr rfl fun k _ => congrArg₂ (fun a b : EReal => a * b) ?_ ?_
  · exact nrm_apply (iblk m c 0 t) (iblk m c 1 t) reduces_S512x2048_S512 shapeCasts_S512_S512x1
      broadcasts_S512x1_S512x2048 shapeCasts_S1x2048_S1x2048 broadcasts_S1x2048_S512x2048 (.inl rfl) rfl _ _ _ r k
      (fun k => iblk0_rd m c t r k) (iblk1_rd m c t k)
  · exact (shapeCast_apply (iblk m c 2 t) shapeCasts_S2048x4352_S2048x4352 (ix2 k n) (ix2 k n) rfl).trans (iblk2_rd m c t k n)

/-- One store of the tiled weights: 512 columns of a slab, gate or value. -/
theorem tile8 (f p o : ℕ) (inb : ∀ a, (![0, o] : Fin 2 → ℕ) a + S64x512.size a ≤ S64x11264.size a) (y : S11x64x1024.Idx)
    (w : Vec Ideal S1x64x512 .bf16) (ho : o = 5632 * (p / 512) + 512 * f) (hp : p % 512 = 0)
    (hw : w = shapeCast S1x64x512 (truncf (F := Ideal) .bf16 (View.ld (iblk m c 4 t : Vec Ideal S64x11264 .f32) (Rect.unit (s := S64x11264) ![0, o] S64x512.size inb) : FVec Ideal S64x512 .f32) bitsLt_bf16_f32) shapeCasts_S64x512_S1x64x512) :
    View.TileAt (Val := Elt Ideal) (e := .bf16) y (![f, 0, p] : Fin 3 → ℕ) S1x64x512.size w (tile (rd (A4 m c)) (y 0).val (64 * t.val + (y 1).val) (y 2).val) := by
  intro x hx
  have h0 : (y 0).val = f + (x 0).val := hx (0 : Fin 3)
  have h1 : (y 1).val = 0 + (x 1).val := hx (1 : Fin 3)
  have h2 : (y 2).val = p + (x 2).val := hx (2 : Fin 3)
  have b0 : (x 0).val < 1 := (x 0).isLt
  have b1 : (x 1).val < 64 := (x 1).isLt
  have b2 : (x 2).val < 512 := (x 2).isLt
  rw [hw]
  refine (shapeCast_apply _ shapeCasts_S64x512_S1x64x512 x (ix2 (⟨(x 1).val, b1⟩ : Fin 64) (⟨(x 2).val, b2⟩ : Fin 512)) (by
    rewrite [Shape.rowMajor_val_two, Shape.rowMajor_val_three]
    show (x 1).val * 512 + (x 2).val = ((x 0).val * 64 + (x 1).val) * 512 + (x 2).val
    omega)).trans ?_
  unfold tile
  refine iblk4_rd m c t _ _ _ ?_ ?_
  · show 64 * t.val + (0 + 1 * (x 1).val) = _; omega
  · show o + 1 * (x 2).val = _; omega

theorem out8_rd (y : S11x64x1024.Idx) :
    out0_8 (F := Ideal) (iblk m c 0 t) (iblk m c 1 t) (iblk m c 2 t) (iblk m c 3 t) (iblk m c 4 t) (iblk m c 5 t) y
      = tile (rd (A4 m c)) (y 0).val (64 * t.val + (y 1).val) (y 2).val := by
  unfold out0_8
  refine View.canon_eq_of_allAt _ y _ (cover0_8 _ _ _ _ _ _ _ _ _ _ _ _ _ _ _ _ _ _ _ _ _ _ y) ?_
  iterate 22 refine View.allAt_cons_unit _ _ _ _ _ (tile8 m c t _ _ _ _ y _ (hw := rfl) (ho := rfl) (hp := rfl)) ?_
  exact View.allAt_nil _ _

def G6 : Buf (Elt Ideal) ((c : Thread nD τ).loc main_v2_0) := fun i : S16384x4352.Idx => P m c (i 0).val (i 1).val
def G7 : Buf (Elt Ideal) ((c : Thread nD τ).loc main_v2_1) := fun i : S2048x2048.Idx => rd (A3 m c) (i 0).val (i 1).val
def G8 : Buf (Elt Ideal) ((c : Thread nD τ).loc main_v2_2) := fun i : S11x2048x1024.Idx => tile (rd (A4 m c)) (i 0).val (i 1).val (i 2).val
def G9 : Buf (Elt Ideal) ((c : Thread nD τ).loc main_v2_3) := fun i : S5632x2048.Idx => rd (A5 m c) (i 0).val (i 1).val

theorem z2 : (![0, 0] : Fin 2 → ℕ) = fun _ => 0 := by decide

theorem flushed6_eq : (dats m 0 c).flushed 6 t = ((cfg0.win 6).blk t).view.read (Elt Ideal) (G6 m c) := by
  rw [Value.flushed6]
  obtain ⟨e0, e1, -⟩ := idx6 t
  unfold out0_6
  rw [View.canon_unit_zero z2, View.ld_unit_zero z2, View.ld_unit_zero z2, View.ld_unit_zero z2]
  funext y
  refine (congrArg (k0_pay6 (F := Ideal) (iblk m c 0 t) (iblk m c 1 t) (iblk m c 2 t)) (ix2_eta ((cfg0.win 6).xinj (grid0.coords t) y))).trans ((pay6_rd m c t _ _).trans ?_)
  show _ = P m c (win0_6.index t (0 : Fin 2) * 512 + 1 * (y 0).val) (win0_6.index t (1 : Fin 2) * 4352 + 1 * (y 1).val)
  rw [e0, e1, Nat.mul_comm 512, one_mul, one_mul, Nat.zero_mul, Nat.zero_add]

theorem flushed7_eq : (dats m 0 c).flushed 7 t = ((cfg0.win 7).blk t).view.read (Elt Ideal) (G7 m c) := by
  rw [Value.flushed7]
  obtain ⟨e0, e1, -⟩ := idx7 t
  unfold out0_7
  rw [View.canon_unit_zero z2, View.ld_unit_zero z2]
  funext y
  refine iblk3_rd m c t ((cfg0.win 7).xinj (grid0.coords t) y) _ _ ?_ ?_
  · show 64 * t.val + (y 0).val = win0_7.index t (0 : Fin 2) * 64 + 1 * (y 0).val; omega
  · show (y 1).val = win0_7.index t (1 : Fin 2) * 2048 + 1 * (y 1).val; omega

theorem flushed8_eq : (dats m 0 c).flushed 8 t = ((cfg0.win 8).blk t).view.read (Elt Ideal) (G8 m c) := by
  rw [Value.flushed8]
  obtain ⟨e0, e1, e2, -⟩ := idx8 t
  funext y
  refine (out8_rd m c t ((cfg0.win 8).xinj (grid0.coords t) y)).trans ?_
  show tile _ (y 0).val (64 * t.val + (y 1).val) (y 2).val = tile (rd (A4 m c)) (win0_8.index t (0 : Fin 3) * 11 + 1 * (y 0).val) (win0_8.index t (1 : Fin 3) * 64 + 1 * (y 1).val) (win0_8.index t (2 : Fin 3) * 1024 + 1 * (y 2).val)
  rw [e0, e1, e2, Nat.mul_comm 64, one_mul, one_mul, one_mul, Nat.zero_mul, Nat.zero_add, Nat.zero_add]

theorem flushed9_eq : (dats m 0 c).flushed 9 t = ((cfg0.win 9).blk t).view.read (Elt Ideal) (G9 m c) := by
  rw [Value.flushed9]
  obtain ⟨e0, e1, -⟩ := idx9 t
  unfold out0_9
  rw [View.canon_unit_zero z2, View.ld_unit_zero z2]
  funext y
  refine iblk5_rd m c t ((cfg0.win 9).xinj (grid0.coords t) y) _ _ ?_ ?_
  · show 176 * t.val + (y 0).val = win0_9.index t (0 : Fin 2) * 176 + 1 * (y 0).val; omega
  · show (y 1).val = win0_9.index t (1 : Fin 2) * 2048 + 1 * (y 1).val; omega

theorem mem6 (i : S16384x4352.Idx) (h : (i 0).val / 512 = t.val) : i ∈ ((cfg0.win 6).blk t).view.set := by
  have h1 : (i 1).val < 4352 := (i 1).isLt
  obtain ⟨e0, e1, -⟩ := idx6 t
  show i ∈ ((View.whole main_v2_0).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 4352 ≤ (i 1).val ∧ (i 1).val < win0_6.index t (1 : Fin 2) * 4352 + 4352; omega

theorem mem7 (i : S2048x2048.Idx) (h : (i 0).val / 64 = t.val) : i ∈ ((cfg0.win 7).blk t).view.set := by
  have h1 : (i 1).val < 2048 := (i 1).isLt
  obtain ⟨e0, e1, -⟩ := idx7 t
  show i ∈ ((View.whole main_v2_1).slice (win0_7.rect t)).set
  rw [View.set_slice_whole, Rect.mem_set_unit]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 2048 ≤ (i 1).val ∧ (i 1).val < win0_7.index t (1 : Fin 2) * 2048 + 2048; omega

theorem mem8 (i : S11x2048x1024.Idx) (h : (i 1).val / 64 = t.val) : i ∈ ((cfg0.win 8).blk t).view.set := by
  have h0 : (i 0).val < 11 := (i 0).isLt
  have h2 : (i 2).val < 1024 := (i 2).isLt
  obtain ⟨e0, e1, e2, -⟩ := idx8 t
  show i ∈ ((View.whole main_v2_2).slice (win0_8.rect t)).set
  rw [View.set_slice_whole, Rect.mem_set_unit]
  intro a
  match a with
  | ⟨0, _⟩ => show win0_8.index t (0 : Fin 3) * 11 ≤ (i 0).val ∧ (i 0).val < win0_8.index t (0 : Fin 3) * 11 + 11; omega
  | ⟨1, _⟩ => show win0_8.index t (1 : Fin 3) * 64 ≤ (i 1).val ∧ (i 1).val < win0_8.index t (1 : Fin 3) * 64 + 64; omega
  | ⟨2, _⟩ => show win0_8.index t (2 : Fin 3) * 1024 ≤ (i 2).val ∧ (i 2).val < win0_8.index t (2 : Fin 3) * 1024 + 1024; omega

theorem mem9 (i : S5632x2048.Idx) (h : (i 0).val / 176 = t.val) : i ∈ ((cfg0.win 9).blk t).view.set := by
  have h1 : (i 1).val < 2048 := (i 1).isLt
  obtain ⟨e0, e1, -⟩ := idx9 t
  show i ∈ ((View.whole main_v2_3).slice (win0_9.rect t)).set
  rw [View.set_slice_whole, Rect.mem_set_unit]
  intro a
  match a with
  | ⟨0, _⟩ => show win0_9.index t (0 : Fin 2) * 176 ≤ (i 0).val ∧ (i 0).val < win0_9.index t (0 : Fin 2) * 176 + 176; omega
  | ⟨1, _⟩ => show win0_9.index t (1 : Fin 2) * 2048 ≤ (i 1).val ∧ (i 1).val < win0_9.index t (1 : Fin 2) * 2048 + 2048; omega

theorem final6 : (dats m 0 c).arrAt 6 cfg0.N = G6 m c :=
  (dats m 0 c).arrAt_eq_of_cover 6 _ (fun t _ => flushed6_eq m c t) (fun (i : S16384x4352.Idx) =>
    have h0 : (i 0).val < 16384 := (i 0).isLt
    ⟨⟨(i 0).val / 512, lt_of_lt_of_eq (by omega) N_0.symm⟩, (idx6 _).2.2, mem6 _ i rfl⟩)
theorem final7 : (dats m 0 c).arrAt 7 cfg0.N = G7 m c :=
  (dats m 0 c).arrAt_eq_of_cover 7 _ (fun t _ => flushed7_eq m c t) (fun (i : S2048x2048.Idx) =>
    have h0 : (i 0).val < 2048 := (i 0).isLt
    ⟨⟨(i 0).val / 64, lt_of_lt_of_eq (by omega) N_0.symm⟩, (idx7 _).2.2, mem7 _ i rfl⟩)
theorem final8 : (dats m 0 c).arrAt 8 cfg0.N = G8 m c :=
  (dats m 0 c).arrAt_eq_of_cover 8 _ (fun t _ => flushed8_eq m c t) (fun (i : S11x2048x1024.Idx) =>
    have h0 : (i 1).val < 2048 := (i 1).isLt
    ⟨⟨(i 1).val / 64, lt_of_lt_of_eq (by omega) N_0.symm⟩, (idx8 _).2.2.2, mem8 _ i rfl⟩)
theorem final9 : (dats m 0 c).arrAt 9 cfg0.N = G9 m c :=
  (dats m 0 c).arrAt_eq_of_cover 9 _ (fun t _ => flushed9_eq m c t) (fun (i : S5632x2048.Idx) =>
    have h0 : (i 0).val < 5632 := (i 0).isLt
    ⟨⟨(i 0).val / 176, lt_of_lt_of_eq (by omega) N_0.symm⟩, (idx9 _).2.2, mem9 _ i rfl⟩)

end Cert.Kernel4Ideal.In

namespace Cert.Reference4Ideal.Read

open Cert.Reference4Ideal Cert.Reference4Ideal.Gen Idealize.ShloMosaic Cert.GluSpec Cert.LinSpec

variable (x0 : (⟨S16384x2048, .f32⟩ : BufTy).Contents (Elt Ideal)) (x1 : (⟨S2048x4352, .f32⟩ : BufTy).Contents (Elt Ideal))
  (x2 : (⟨S2048, .f32⟩ : BufTy).Contents (Elt Ideal)) (x4 : (⟨S2048x11264, .f32⟩ : BufTy).Contents (Elt Ideal))

theorem v12_spec (i : S16384x2048.Idx) :
    val_main_v12 (F := Ideal) x0 x2 i = nrm (rd x0) (rd1 x2) (i 0).val (i 1).val := by
  rw [val_main_v12_apply, val_main_v9_apply, val_main_v8_apply, val_main_v7_apply, val_main_v6_apply, val_main_v4_apply,
    val_main_v2_apply, val_main_v1_apply, val_main_cst_apply, val_main_v3_apply, val_main_cst_0_apply, val_main_v5_apply, val_main_cst_1_apply,
    val_main_v11_apply, val_main_v10_apply, rd_eq x0 i _ _ rfl rfl, rd1_eq x2 _ (i 1).val rfl]
  have hs : ∀ k : Fin 2048, val_main_v0 (F := Ideal) x0 (idx_main_v1 (idx_main_v2 (idx_main_v8 i)) k)
      = rd x0 (i 0).val k.val * rd x0 (i 0).val k.val := fun k => by
    rw [val_main_v0_apply, rd_eq x0 (idx_main_v1 (idx_main_v2 (idx_main_v8 i)) k) (i 0).val k.val rfl rfl]; rfl
  rw [Finset.sum_congr rfl fun k _ => hs k]
  unfold nrm
  show _ * Ideal.rsqrt (Ideal.div (Ideal.ofBits .f32 0x00000000#32 + _) _ + _) * _ = _
  rw [Ideal.ofBits_zero_f32, zero_add]
  rfl

theorem v17_spec (i : S16384x4352.Idx) :
    val_main_v17 (F := Ideal) x0 x1 x2 i = mm (nrm (rd x0) (rd1 x2)) (rd x1) (i 0).val (i 1).val := by
  rw [val_main_v17_apply, val_main_v16_apply]
  unfold mm
  exact Finset.sum_congr rfl fun k _ => congrArg₂ (fun a b : EReal => a * b) (v12_spec x0 x2 _) (rd_eq x1 _ _ _ rfl rfl)

theorem v19_spec (i : S11x2048x1024.Idx) :
    val_main_v19 (F := Ideal) x4 i = tile (rd x4) (i 0).val (i 1).val (i 2).val := by
  rw [val_main_v19_apply, val_main_v15_apply, val_main_v14_apply, val_main_v13_apply]
  have h0 : (i 0).val < 11 := (i 0).isLt
  have h1 : (i 1).val < 2048 := (i 1).isLt
  have h2 : (i 2).val < 1024 := (i 2).isLt
  have q0 : (((i 0).val * 2048 + (i 1).val) * 1024 + (i 2).val) / 2097152 = (i 0).val := by omega
  have q1 : (((i 0).val * 2048 + (i 1).val) * 1024 + (i 2).val) / 1024 % 2048 = (i 1).val := by omega
  have q2 : (((i 0).val * 2048 + (i 1).val) * 1024 + (i 2).val) / 512 % 2 = (i 2).val / 512 := by omega
  have q3 : (((i 0).val * 2048 + (i 1).val) * 1024 + (i 2).val) % 512 = (i 2).val % 512 := by omega
  unfold tile
  refine rd_eq x4 _ _ _ ?_ ?_
  · show ((((((i 0).val * 2048 + (i 1).val) * 1024 + (i 2).val) / 1024 % 2048 * 2 + (((i 0).val * 2048 + (i 1).val) * 1024 + (i 2).val) / 512 % 2) * 11
      + (((i 0).val * 2048 + (i 1).val) * 1024 + (i 2).val) / 2097152) * 512 + (((i 0).val * 2048 + (i 1).val) * 1024 + (i 2).val) % 512) / 11264 = _
    rw [q0, q1, q2, q3]; omega
  · show ((((((i 0).val * 2048 + (i 1).val) * 1024 + (i 2).val) / 1024 % 2048 * 2 + (((i 0).val * 2048 + (i 1).val) * 1024 + (i 2).val) / 512 % 2) * 11
      + (((i 0).val * 2048 + (i 1).val) * 1024 + (i 2).val) / 2097152) * 512 + (((i 0).val * 2048 + (i 1).val) * 1024 + (i 2).val) % 512) % 11264 = _
    rw [q0, q1, q2, q3]; omega

end Cert.Reference4Ideal.Read

end
-- ==== Proof.lean ====
/-
  Hand-written. The claims of this certificate. The gated convolution: both programs' frames from the one run
  (Proof/GluRun.lean), the reference's frame, and that kernel and reference end with the same result, entry by entry the
  arithmetic of Proof/GluSpec.lean (Proof/GluVal.lean, Proof/GluRef.lean). The two projections: the same claims, with the
  arithmetic of Proof/LinSpec.lean (Proof/OutProj.lean, Proof/InProj.lean). The attention: both programs' frames — the same text at the two instances, but each
  declares its own label of the loop, so each has its own run (Proof/RunAll.lean, Proof/KRunAll.lean) — and that the
  idealization preserves the kernel.
-/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.RunAll
public import proofs.«01_k».proof.Proof.KRunAll
public import proofs.«01_k».proof.Proof.GluVal
public import proofs.«01_k».proof.Proof.GluRef
public import proofs.«01_k».proof.Proof.OutProj
public import proofs.«01_k».proof.Proof.InProj
public import Idealize.ShloMosaic.Lib.Quiescent
public import Idealize.ShloMosaic.Lib.Claim

@[expose] public section

noncomputable section

namespace Cert.Proof

open Idealize.ShloMosaic Idealize.SL.Sem

/-- The frame of the idealized kernel. -/
theorem frame_kernelIdeal : Cert.quiescent_KernelIdeal (hKernelIdeal := Cert.KernelIdeal.Gen.facts) :=
  fun m ρ _ => Cert.KernelIdeal.Hand.run_main (F := Ideal) m ρ

/-- The frame of the kernel as compiled. -/
theorem frame_kernel : Cert.quiescent_Kernel (hKernel := Cert.Kernel.Gen.facts) :=
  fun m ρ _ => Cert.Kernel.Hand.run_main (F := Bits) m ρ

/-- The frame of the idealized gated convolution. -/
theorem frame_kernel2Ideal : Cert.quiescent_Kernel2Ideal (hKernel2Ideal := Cert.Kernel2Ideal.Gen.facts) :=
  fun m ρ _ => Cert.Kernel2Ideal.Glu.frame (F := Ideal) m ρ

/-- The kernels' body tables of the two texts are one table: a label is the one kernel's, and its body is the same. -/
theorem bodies_eq : @Cert.Kernel2.defs₀ Bits _ Cert.Kernel2.Gen.facts
    = @Cert.Kernel2Ideal.defs₀ Bits _ Cert.Kernel2Ideal.Gen.facts := by
  funext p
  cases p with
  | tc =>
    funext l a
    match l, a with
    | ⟨0, _⟩, (t, s) => rfl
  | scScalar _ => rfl
  | scVector _ _ => rfl

/-- So are the tables with the pipeline's region added. -/
theorem defs_eq : @Cert.Kernel2.defs Bits _ Cert.Kernel2.Gen.facts
    = @Cert.Kernel2Ideal.defs Bits _ Cert.Kernel2Ideal.Gen.facts :=
  congrArg (Idealize.ShloMosaic.Pipeline.defs (Cert.Kernel2.pcfgs (F := Bits))) bodies_eq

/-- The frame of the gated convolution as compiled: the same text's run at the machine's words. -/
theorem frame_kernel2 : Cert.quiescent_Kernel2 (hKernel2 := Cert.Kernel2.Gen.facts) := by
  intro m ρ _
  rw [defs_eq]
  exact Cert.Kernel2Ideal.Glu.frame (F := Bits) m ρ

/-- The reference's frame: it has no semaphores. -/
theorem frame_reference2Ideal : Cert.quiescent_Reference2Ideal (hReference2Ideal := Cert.Reference2Ideal.Gen.facts) :=
  fun m ρ _ => (θ_run (Cert.Reference2Ideal.defs (F := Ideal)) _ _).mono
    (fun r h => ⟨fun c => (h c).2, sem_eq_zero_of_no_sems rfl r.2⟩) (Cert.Reference2Ideal.Value.run (F := Ideal) m ρ)

/-- Kernel and reference end with the same result. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Glu.G7 (F := Ideal) m c, ?_, ?_⟩
  · exact (θ_run (Cert.Kernel2Ideal.defs (F := Ideal)) _ _).mono (fun r h c => ⟨h.1 c, h.2 c⟩)
      (θ_run_and (Cert.Kernel2Ideal.Glu.run_value (F := Ideal) m g) (Cert.Kernel2Ideal.Glu.unchanged (F := Ideal) m g))
  · refine (θ_run (Cert.Reference2Ideal.defs (F := Ideal)) _ _).mono (fun r h c => ⟨(h c).1.trans ?_, (h c).2⟩) (Cert.Reference2Ideal.Value.run (F := Ideal) m' g')
    obtain ⟨e0, e1, e2, e3, e4, e5, e6⟩ := hargs c
    rw [Cert.Reference2Ideal.Read.val_main_v43_eq]
    funext i
    refine (Cert.Reference2Ideal.Read.v43_spec _ _ _ _ _ _ _ i).trans (Eq.trans ?_ (Cert.Kernel2Ideal.Glu.G7_spec m c i).symm)
    rw [e0, e1, e2, e3, e4, e5, e6]

/-! ## The output projection -/

theorem frame_kernel3 : Cert.quiescent_Kernel3 (hKernel3 := Cert.Kernel3.Gen.facts) :=
  fun m ρ _ => Cert.Kernel3.Gen.frame (F := Bits) m ρ

theorem frame_kernel3Ideal : Cert.quiescent_Kernel3Ideal (hKernel3Ideal := Cert.Kernel3Ideal.Gen.facts) :=
  fun m ρ _ => Cert.Kernel3Ideal.Gen.frame (F := Ideal) m ρ

theorem frame_reference3Ideal : Cert.quiescent_Reference3Ideal (hReference3Ideal := Cert.Reference3Ideal.Gen.facts) :=
  fun m ρ _ => (θ_run (Cert.Reference3Ideal.defs (F := Ideal)) _ _).mono
    (fun r h => ⟨fun c => (h c).2.2, sem_eq_zero_of_no_sems rfl r.2⟩) (Cert.Reference3Ideal.Value.run (F := Ideal) m ρ)

/-- Kernel and reference end with the same two results. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Out.G4 m c, fun c => Cert.Kernel3Ideal.Out.G5 m c, ?_, ?_⟩
  · exact (θ_run (Cert.Kernel3Ideal.defs (F := Ideal)) _ _).mono (fun r h c =>
      ⟨(h c).1.trans (Cert.Kernel3Ideal.Out.final4 m c), (h c).2.1.trans (Cert.Kernel3Ideal.Out.final5 m c), (h c).2.2⟩)
      (Cert.Kernel3Ideal.Value.run_blocks (F := Ideal) m g)
  · refine (θ_run (Cert.Reference3Ideal.defs (F := Ideal)) _ _).mono (fun r h c => ⟨(h c).1.trans ?_, (h c).2.1.trans ?_, (h c).2.2⟩) (Cert.Reference3Ideal.Value.run (F := Ideal) m' g')
    all_goals obtain ⟨e0, e1, e2, e3⟩ := hargs c
    · rw [Cert.Reference3Ideal.Read.val_main_v1_eq]
      funext i
      refine (Cert.Reference3Ideal.Read.v1_spec _ _ _ i _ _ rfl rfl).trans ?_
      rw [e0, e1, e3]
      rfl
    · rw [Cert.Reference3Ideal.Read.val_main_v15_eq]
      funext i
      refine (Cert.Reference3Ideal.Read.v15_spec _ _ _ _ i).trans ?_
      rw [e0, e1, e2, e3]
      rfl

/-! ## The input projection -/

theorem frame_kernel4 : Cert.quiescent_Kernel4 (hKernel4 := Cert.Kernel4.Gen.facts) :=
  fun m ρ _ => Cert.Kernel4.Gen.frame (F := Bits) m ρ

theorem frame_kernel4Ideal : Cert.quiescent_Kernel4Ideal (hKernel4Ideal := Cert.Kernel4Ideal.Gen.facts) :=
  fun m ρ _ => Cert.Kernel4Ideal.Gen.frame (F := Ideal) m ρ

theorem frame_reference4Ideal : Cert.quiescent_Reference4Ideal (hReference4Ideal := Cert.Reference4Ideal.Gen.facts) :=
  fun m ρ _ => (θ_run (Cert.Reference4Ideal.defs (F := Ideal)) _ _).mono
    (fun r h => ⟨fun c => (h c).2.2.2.2, sem_eq_zero_of_no_sems rfl r.2⟩) (Cert.Reference4Ideal.Value.run (F := Ideal) m ρ)

/-- Kernel and reference end with the same four results. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.In.G6 m c, fun c => Cert.Kernel4Ideal.In.G7 m c, fun c => Cert.Kernel4Ideal.In.G8 m c, fun c => Cert.Kernel4Ideal.In.G9 m c, ?_, ?_⟩
  · exact (θ_run (Cert.Kernel4Ideal.defs (F := Ideal)) _ _).mono (fun r h c =>
      ⟨(h c).1.trans (Cert.Kernel4Ideal.In.final6 m c), (h c).2.1.trans (Cert.Kernel4Ideal.In.final7 m c),
        (h c).2.2.1.trans (Cert.Kernel4Ideal.In.final8 m c), (h c).2.2.2.1.trans (Cert.Kernel4Ideal.In.final9 m c), (h c).2.2.2.2⟩)
      (Cert.Kernel4Ideal.Value.run_blocks (F := Ideal) m g)
  · refine (θ_run (Cert.Reference4Ideal.defs (F := Ideal)) _ _).mono (fun r h c => ⟨(h c).1.trans ?_, (h c).2.1.trans ?_, (h c).2.2.1.trans ?_, (h c).2.2.2.1.trans ?_, (h c).2.2.2.2⟩) (Cert.Reference4Ideal.Value.run (F := Ideal) m' g')
    all_goals obtain ⟨e0, e1, e2, e3, e4, e5⟩ := hargs c
    · rw [Cert.Reference4Ideal.Read.val_main_v17_eq]
      funext i
      refine (Cert.Reference4Ideal.Read.v17_spec _ _ _ i).trans ?_
      rw [e0, e1, e2]
      rfl
    · rw [e3]
      funext i
      exact Cert.GluSpec.rd_eq (Cert.Kernel4Ideal.In.A3 m c) i _ _ rfl rfl
    · rw [Cert.Reference4Ideal.Read.val_main_v19_eq]
      funext i
      refine (Cert.Reference4Ideal.Read.v19_spec _ i).trans ?_
      rw [e4]
      rfl
    · rw [e5]
      funext i
      exact Cert.GluSpec.rd_eq (Cert.Kernel4Ideal.In.A5 m c) i _ _ rfl rfl

theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    frame_kernel, frame_kernelIdeal, frame_kernel2, frame_kernel2Ideal, frame_reference2Ideal, frame_kernel3, frame_kernel3Ideal, frame_reference3Ideal,
    frame_kernel4, frame_kernel4Ideal, frame_reference4Ideal, trivial, trivial, algebraic, trivial, algebraic3, trivial, algebraic4⟩

end Cert.Proof

end
